-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_0)) (v2 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_v12_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x100000 : Shape := ⟨3, ![2, 128, 100000]⟩
abbrev S128x200000 : Shape := ⟨2, ![128, 200000]⟩
abbrev S_ : Shape := ⟨0, ![]⟩
abbrev S1 : Shape := ⟨1, ![1]⟩
abbrev S2 : Shape := ⟨1, ![2]⟩
abbrev S1x2 : Shape := ⟨2, ![1, 2]⟩
abbrev S2x2 : Shape := ⟨2, ![2, 2]⟩
abbrev S128x256 : Shape := ⟨2, ![128, 256]⟩
abbrev S2x8x100000 : Shape := ⟨3, ![2, 8, 100000]⟩
abbrev S8x200000 : Shape := ⟨2, ![8, 200000]⟩
abbrev S8x256 : Shape := ⟨2, ![8, 256]⟩
abbrev S8x100000 : Shape := ⟨2, ![8, 100000]⟩
abbrev S8x1 : Shape := ⟨2, ![8, 1]⟩
abbrev S1x1 : Shape := ⟨2, ![1, 1]⟩
abbrev S1x8x100000 : Shape := ⟨3, ![1, 8, 100000]⟩
abbrev S8 : Shape := ⟨1, ![8]⟩
abbrev S8x128 : Shape := ⟨2, ![8, 128]⟩
abbrev S128x2 : Shape := ⟨2, ![128, 2]⟩

abbrev nBuf : Space → Nat
  | .hbm => 493
  | .vmem => 8
  | .smem => 1
  | _ => 0

abbrev hbmTy0_0 (i : Nat) : BufTy := match i % 128 with
  | 0 => ⟨S2x128x100000, .f32⟩
  | 1 => ⟨S128x200000, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S1, .i32⟩
  | 19 => ⟨S2, .i32⟩
  | 20 => ⟨S1, .i32⟩
  | 21 => ⟨S_, .i32⟩
  | 22 => ⟨S1, .i32⟩
  | 23 => ⟨S_, .i32⟩
  | 24 => ⟨S1, .i32⟩
  | 25 => ⟨S1, .i32⟩
  | 26 => ⟨S_, .i32⟩
  | 27 => ⟨S_, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S2x128x100000, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S2, .i32⟩
  | 121 => ⟨S_, .i32⟩
  | 122 => ⟨S_, .i32⟩
  | 123 => ⟨S_, .i32⟩
  | 124 => ⟨S1, .i32⟩
  | 125 => ⟨S_, .i32⟩
  | 126 => ⟨S_, .i32⟩
  | 127 => ⟨S1, .i32⟩
  | _ => ⟨S2x128x100000, .f32⟩

abbrev hbmTy0_2 (i : Nat) : BufTy := match i % 128 with
  | 0 => ⟨S2, .i32⟩
  | 1 => ⟨S1, .i32⟩
  | 2 => ⟨S_, .i32⟩
  | 3 => ⟨S1, .i32⟩
  | 4 => ⟨S_, .i32⟩
  | 5 => ⟨S1, .i32⟩
  | 6 => ⟨S1, .i32⟩
  | 7 => ⟨S_, .i32⟩
  | 8 => ⟨S_, .i32⟩
  | 9 => ⟨S_, .i32⟩
  | 10 => ⟨S1, .i32⟩
  | 11 => ⟨S1, .i32⟩
  | 12 => ⟨S1, .i32⟩
  | 13 => ⟨S1, .i32⟩
  | 14 => ⟨S1, .i32⟩
  | 15 => ⟨S_, .i32⟩
  | 16 => ⟨S1, .i32⟩
  | 17 => ⟨S1, .i32⟩
  | 18 => ⟨S_, .i32⟩
  | 19 => ⟨S1, .i32⟩
  | 20 => ⟨S1, .i32⟩
  | 21 => ⟨S1, .i32⟩
  | 22 => ⟨S1, .i32⟩
  | 23 => ⟨S1, .i32⟩
  | 24 => ⟨S_, .i32⟩
  | 25 => ⟨S1, .i32⟩
  | 26 => ⟨S1, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S_, .i32⟩
  | 59 => ⟨S1, .i32⟩
  | 60 => ⟨S1, .i32⟩
  | 61 => ⟨S_, .i32⟩
  | 62 => ⟨S1, .i32⟩
  | 63 => ⟨S1, .i32⟩
  | 64 => ⟨S1, .i32⟩
  | 65 => ⟨S1, .i32⟩
  | 66 => ⟨S1, .i32⟩
  | 67 => ⟨S_, .i32⟩
  | 68 => ⟨S1, .i32⟩
  | 69 => ⟨S1, .i32⟩
  | 70 => ⟨S_, .i32⟩
  | 71 => ⟨S1, .i32⟩
  | 72 => ⟨S1, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S_, .i32⟩
  | 102 => ⟨S1, .i32⟩
  | 103 => ⟨S1, .i32⟩
  | 104 => ⟨S_, .i32⟩
  | 105 => ⟨S1, .i32⟩
  | 106 => ⟨S1, .i32⟩
  | 107 => ⟨S1, .i32⟩
  | 108 => ⟨S1, .i32⟩
  | 109 => ⟨S1, .i32⟩
  | 110 => ⟨S_, .i32⟩
  | 111 => ⟨S1, .i32⟩
  | 112 => ⟨S1, .i32⟩
  | 113 => ⟨S_, .i32⟩
  | 114 => ⟨S1, .i32⟩
  | 115 => ⟨S1, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S2x128x100000, .f32⟩

abbrev hbmTy0_3 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S1, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S_, .i32⟩
  | 17 => ⟨S1, .i32⟩
  | 18 => ⟨S1, .i32⟩
  | 19 => ⟨S_, .i32⟩
  | 20 => ⟨S1, .i32⟩
  | 21 => ⟨S1, .i32⟩
  | 22 => ⟨S1, .i32⟩
  | 23 => ⟨S1, .i32⟩
  | 24 => ⟨S1, .i32⟩
  | 25 => ⟨S_, .i32⟩
  | 26 => ⟨S1, .i32⟩
  | 27 => ⟨S1, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S_, .i32⟩
  | 60 => ⟨S1, .i32⟩
  | 61 => ⟨S1, .i32⟩
  | 62 => ⟨S_, .i32⟩
  | 63 => ⟨S1, .i32⟩
  | 64 => ⟨S1, .i32⟩
  | 65 => ⟨S1, .i32⟩
  | 66 => ⟨S1, .i32⟩
  | 67 => ⟨S1, .i32⟩
  | 68 => ⟨S_, .i32⟩
  | 69 => ⟨S1, .i32⟩
  | 70 => ⟨S1, .i32⟩
  | 71 => ⟨S_, .i32⟩
  | 72 => ⟨S1, .i32⟩
  | 73 => ⟨S1, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S2, .i32⟩
  | 102 => ⟨S1x2, .i32⟩
  | 103 => ⟨S1x2, .i32⟩
  | 104 => ⟨S2x2, .i32⟩
  | 105 => ⟨S128x200000, .f32⟩
  | 106 => ⟨S128x200000, .f32⟩
  | 107 => ⟨S128x256, .i32⟩
  | 108 => ⟨S128x2, .i32⟩
  | _ => ⟨S2x128x100000, .f32⟩

abbrev hbmTy (i : Nat) : BufTy := match i / 128 with
  | 0 => hbmTy0_0 i
  | 1 => hbmTy0_1 i
  | 2 => hbmTy0_2 i
  | 3 => hbmTy0_3 i
  | _ => ⟨S2x128x100000, .f32⟩

abbrev bufTy : (tb : Table) → Fin (tcTables nBuf tb) → BufTy
  | .hbm, ⟨i, _⟩ => hbmTy i
  | .local _ .vmem, ⟨0, _⟩ => ⟨S2x8x100000, .f32⟩
  | .local _ .vmem, ⟨1, _⟩ => ⟨S8x200000, .f32⟩
  | .local _ .vmem, ⟨2, _⟩ => ⟨S8x200000, .f32⟩
  | .local _ .vmem, ⟨3, _⟩ => ⟨S8x200000, .f32⟩
  | .local _ .vmem, ⟨4, _⟩ => ⟨S8x200000, .f32⟩
  | .local _ .vmem, ⟨5, _⟩ => ⟨S8x200000, .f32⟩
  | .local _ .vmem, ⟨6, _⟩ => ⟨S8x256, .i32⟩
  | .local _ .vmem, ⟨7, _⟩ => ⟨S8x256, .i32⟩
  | .local _ .smem, ⟨0, _⟩ => ⟨S2x2, .i32⟩
  | _, _ => ⟨S2x128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_call0_v0 : Ref sig .tc := ⟨.hbm, 26, rfl⟩
abbrev main_call0_call0_c : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_c_0 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_c_1 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_v12 : Ref sig .tc := ⟨.hbm, 41, rfl⟩
abbrev main_call0_call0_v13 : Ref sig .tc := ⟨.hbm, 42, rfl⟩
abbrev main_call0_call0_c_2 : Ref sig .tc := ⟨.hbm, 43, rfl⟩
abbrev main_call0_call0_v14 : Ref sig .tc := ⟨.hbm, 44, rfl⟩
abbrev main_call0_call0_v15 : Ref sig .tc := ⟨.hbm, 45, rfl⟩
abbrev main_call0_call0_c_3 : Ref sig .tc := ⟨.hbm, 46, rfl⟩
abbrev main_call0_call0_v16 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_c_4 : Ref sig .tc := ⟨.hbm, 52, rfl⟩
abbrev main_call0_call0_v21 : Ref sig .tc := ⟨.hbm, 53, rfl⟩
abbrev main_call0_call0_v22 : Ref sig .tc := ⟨.hbm, 54, rfl⟩
abbrev main_call0_call0_c_5 : Ref sig .tc := ⟨.hbm, 55, rfl⟩
abbrev main_call0_call0_v23 : Ref sig .tc := ⟨.hbm, 56, rfl⟩
abbrev main_call0_call0_v24 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_v27 : Ref sig .tc := ⟨.hbm, 60, rfl⟩
abbrev main_call0_call0_c_6 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_c_7 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_v32 : Ref sig .tc := ⟨.hbm, 67, rfl⟩
abbrev main_call0_call0_v33 : Ref sig .tc := ⟨.hbm, 68, rfl⟩
abbrev main_call0_call0_v34 : Ref sig .tc := ⟨.hbm, 69, rfl⟩
abbrev main_call0_call0_v35 : Ref sig .tc := ⟨.hbm, 70, rfl⟩
abbrev main_call0_call0_v36 : Ref sig .tc := ⟨.hbm, 71, rfl⟩
abbrev main_call0_call0_v37 : Ref sig .tc := ⟨.hbm, 72, rfl⟩
abbrev main_call0_call0_c_8 : Ref sig .tc := ⟨.hbm, 73, rfl⟩
abbrev main_call0_call0_v38 : Ref sig .tc := ⟨.hbm, 74, rfl⟩
abbrev main_call0_call0_v39 : Ref sig .tc := ⟨.hbm, 75, rfl⟩
abbrev main_call0_call0_v40 : Ref sig .tc := ⟨.hbm, 76, rfl⟩
abbrev main_call0_call0_c_9 : Ref sig .tc := ⟨.hbm, 77, rfl⟩
abbrev main_call0_call0_v41 : Ref sig .tc := ⟨.hbm, 78, rfl⟩
abbrev main_call0_call0_v42 : Ref sig .tc := ⟨.hbm, 79, rfl⟩
abbrev main_call0_call0_c_10 : Ref sig .tc := ⟨.hbm, 80, rfl⟩
abbrev main_call0_call0_v43 : Ref sig .tc := ⟨.hbm, 81, rfl⟩
abbrev main_call0_call0_v44 : Ref sig .tc := ⟨.hbm, 82, rfl⟩
abbrev main_call0_call0_v45 : Ref sig .tc := ⟨.hbm, 83, rfl⟩
abbrev main_call0_call0_v46 : Ref sig .tc := ⟨.hbm, 84, rfl⟩
abbrev main_call0_call0_v47 : Ref sig .tc := ⟨.hbm, 85, rfl⟩
abbrev main_call0_call0_c_11 : Ref sig .tc := ⟨.hbm, 86, rfl⟩
abbrev main_call0_call0_v48 : Ref sig .tc := ⟨.hbm, 87, rfl⟩
abbrev main_call0_call0_v49 : Ref sig .tc := ⟨.hbm, 88, rfl⟩
abbrev main_call0_call0_c_12 : Ref sig .tc := ⟨.hbm, 89, rfl⟩
abbrev main_call0_call0_v50 : Ref sig .tc := ⟨.hbm, 90, rfl⟩
abbrev main_call0_call0_v51 : Ref sig .tc := ⟨.hbm, 91, rfl⟩
abbrev main_call0_call0_v52 : Ref sig .tc := ⟨.hbm, 92, rfl⟩
abbrev main_call0_call0_v53 : Ref sig .tc := ⟨.hbm, 93, rfl⟩
abbrev main_call0_call0_v54 : Ref sig .tc := ⟨.hbm, 94, rfl⟩
abbrev main_call0_call0_c_13 : Ref sig .tc := ⟨.hbm, 95, rfl⟩
abbrev main_call0_call0_v55 : Ref sig .tc := ⟨.hbm, 96, rfl⟩
abbrev main_call0_call0_v56 : Ref sig .tc := ⟨.hbm, 97, rfl⟩
abbrev main_call0_call0_c_14 : Ref sig .tc := ⟨.hbm, 98, rfl⟩
abbrev main_call0_call0_v57 : Ref sig .tc := ⟨.hbm, 99, rfl⟩
abbrev main_call0_call0_v58 : Ref sig .tc := ⟨.hbm, 100, rfl⟩
abbrev main_call0_call0_v59 : Ref sig .tc := ⟨.hbm, 101, rfl⟩
abbrev main_call0_call0_v60 : Ref sig .tc := ⟨.hbm, 102, rfl⟩
abbrev main_call0_call0_v61 : Ref sig .tc := ⟨.hbm, 103, rfl⟩
abbrev main_call0_call0_c_15 : Ref sig .tc := ⟨.hbm, 104, rfl⟩
abbrev main_call0_call0_v62 : Ref sig .tc := ⟨.hbm, 105, rfl⟩
abbrev main_call0_call0_v63 : Ref sig .tc := ⟨.hbm, 106, rfl⟩
abbrev main_call0_call0_c_16 : Ref sig .tc := ⟨.hbm, 107, rfl⟩
abbrev main_call0_call0_v64 : Ref sig .tc := ⟨.hbm, 108, rfl⟩
abbrev main_call0_call0_v65 : Ref sig .tc := ⟨.hbm, 109, rfl⟩
abbrev main_call0_call0_v66 : Ref sig .tc := ⟨.hbm, 110, rfl⟩
abbrev main_call0_call0_v67 : Ref sig .tc := ⟨.hbm, 111, rfl⟩
abbrev main_call0_call0_v68 : Ref sig .tc := ⟨.hbm, 112, rfl⟩
abbrev main_call0_call0_v69 : Ref sig .tc := ⟨.hbm, 113, rfl⟩
abbrev main_call0_call0_v70 : Ref sig .tc := ⟨.hbm, 114, rfl⟩
abbrev main_call0_call0_v71 : Ref sig .tc := ⟨.hbm, 115, rfl⟩
abbrev main_call0_call0_c_17 : Ref sig .tc := ⟨.hbm, 116, rfl⟩
abbrev main_call0_call0_v72 : Ref sig .tc := ⟨.hbm, 117, rfl⟩
abbrev main_call0_call0_v73 : Ref sig .tc := ⟨.hbm, 118, rfl⟩
abbrev main_call0_call0_v74 : Ref sig .tc := ⟨.hbm, 119, rfl⟩
abbrev main_call0_call0_c_18 : Ref sig .tc := ⟨.hbm, 120, rfl⟩
abbrev main_call0_call0_v75 : Ref sig .tc := ⟨.hbm, 121, rfl⟩
abbrev main_call0_call0_v76 : Ref sig .tc := ⟨.hbm, 122, rfl⟩
abbrev main_call0_call0_c_19 : Ref sig .tc := ⟨.hbm, 123, rfl⟩
abbrev main_call0_call0_v77 : Ref sig .tc := ⟨.hbm, 124, rfl⟩
abbrev main_call0_call0_v78 : Ref sig .tc := ⟨.hbm, 125, rfl⟩
abbrev main_call0_call0_v79 : Ref sig .tc := ⟨.hbm, 126, rfl⟩
abbrev main_call0_call0_v80 : Ref sig .tc := ⟨.hbm, 127, rfl⟩
abbrev main_call0_call0_v81 : Ref sig .tc := ⟨.hbm, 128, rfl⟩
abbrev main_call0_call0_c_20 : Ref sig .tc := ⟨.hbm, 129, rfl⟩
abbrev main_call0_call0_v82 : Ref sig .tc := ⟨.hbm, 130, rfl⟩
abbrev main_call0_call0_v83 : Ref sig .tc := ⟨.hbm, 131, rfl⟩
abbrev main_call0_call0_c_21 : Ref sig .tc := ⟨.hbm, 132, rfl⟩
abbrev main_call0_call0_v84 : Ref sig .tc := ⟨.hbm, 133, rfl⟩
abbrev main_call0_call0_v85 : Ref sig .tc := ⟨.hbm, 134, rfl⟩
abbrev main_call0_call0_v86 : Ref sig .tc := ⟨.hbm, 135, rfl⟩
abbrev main_call0_call0_v87 : Ref sig .tc := ⟨.hbm, 136, rfl⟩
abbrev main_call0_call0_v88 : Ref sig .tc := ⟨.hbm, 137, rfl⟩
abbrev main_call0_call0_c_22 : Ref sig .tc := ⟨.hbm, 138, rfl⟩
abbrev main_call0_call0_v89 : Ref sig .tc := ⟨.hbm, 139, rfl⟩
abbrev main_call0_call0_v90 : Ref sig .tc := ⟨.hbm, 140, rfl⟩
abbrev main_call0_call0_c_23 : Ref sig .tc := ⟨.hbm, 141, rfl⟩
abbrev main_call0_call0_v91 : Ref sig .tc := ⟨.hbm, 142, rfl⟩
abbrev main_call0_call0_v92 : Ref sig .tc := ⟨.hbm, 143, rfl⟩
abbrev main_call0_call0_v93 : Ref sig .tc := ⟨.hbm, 144, rfl⟩
abbrev main_call0_call0_v94 : Ref sig .tc := ⟨.hbm, 145, rfl⟩
abbrev main_call0_call0_v95 : Ref sig .tc := ⟨.hbm, 146, rfl⟩
abbrev main_call0_call0_c_24 : Ref sig .tc := ⟨.hbm, 147, rfl⟩
abbrev main_call0_call0_v96 : Ref sig .tc := ⟨.hbm, 148, rfl⟩
abbrev main_call0_call0_v97 : Ref sig .tc := ⟨.hbm, 149, rfl⟩
abbrev main_call0_call0_c_25 : Ref sig .tc := ⟨.hbm, 150, rfl⟩
abbrev main_call0_call0_v98 : Ref sig .tc := ⟨.hbm, 151, rfl⟩
abbrev main_call0_call0_v99 : Ref sig .tc := ⟨.hbm, 152, rfl⟩
abbrev main_call0_call0_v100 : Ref sig .tc := ⟨.hbm, 153, rfl⟩
abbrev main_call0_call0_v101 : Ref sig .tc := ⟨.hbm, 154, rfl⟩
abbrev main_call0_call0_v102 : Ref sig .tc := ⟨.hbm, 155, rfl⟩
abbrev main_call0_call0_v103 : Ref sig .tc := ⟨.hbm, 156, rfl⟩
abbrev main_call0_call0_v104 : Ref sig .tc := ⟨.hbm, 157, rfl⟩
abbrev main_call0_call0_v105 : Ref sig .tc := ⟨.hbm, 158, rfl⟩
abbrev main_call0_call0_c_26 : Ref sig .tc := ⟨.hbm, 159, rfl⟩
abbrev main_call0_call0_v106 : Ref sig .tc := ⟨.hbm, 160, rfl⟩
abbrev main_call0_call0_v107 : Ref sig .tc := ⟨.hbm, 161, rfl⟩
abbrev main_call0_call0_v108 : Ref sig .tc := ⟨.hbm, 162, rfl⟩
abbrev main_call0_call0_c_27 : Ref sig .tc := ⟨.hbm, 163, rfl⟩
abbrev main_call0_call0_v109 : Ref sig .tc := ⟨.hbm, 164, rfl⟩
abbrev main_call0_call0_v110 : Ref sig .tc := ⟨.hbm, 165, rfl⟩
abbrev main_call0_call0_c_28 : Ref sig .tc := ⟨.hbm, 166, rfl⟩
abbrev main_call0_call0_v111 : Ref sig .tc := ⟨.hbm, 167, rfl⟩
abbrev main_call0_call0_v112 : Ref sig .tc := ⟨.hbm, 168, rfl⟩
abbrev main_call0_call0_v113 : Ref sig .tc := ⟨.hbm, 169, rfl⟩
abbrev main_call0_call0_v114 : Ref sig .tc := ⟨.hbm, 170, rfl⟩
abbrev main_call0_call0_v115 : Ref sig .tc := ⟨.hbm, 171, rfl⟩
abbrev main_call0_call0_c_29 : Ref sig .tc := ⟨.hbm, 172, rfl⟩
abbrev main_call0_call0_v116 : Ref sig .tc := ⟨.hbm, 173, rfl⟩
abbrev main_call0_call0_v117 : Ref sig .tc := ⟨.hbm, 174, rfl⟩
abbrev main_call0_call0_c_30 : Ref sig .tc := ⟨.hbm, 175, rfl⟩
abbrev main_call0_call0_v118 : Ref sig .tc := ⟨.hbm, 176, rfl⟩
abbrev main_call0_call0_v119 : Ref sig .tc := ⟨.hbm, 177, rfl⟩
abbrev main_call0_call0_v120 : Ref sig .tc := ⟨.hbm, 178, rfl⟩
abbrev main_call0_call0_v121 : Ref sig .tc := ⟨.hbm, 179, rfl⟩
abbrev main_call0_call0_v122 : Ref sig .tc := ⟨.hbm, 180, rfl⟩
abbrev main_call0_call0_c_31 : Ref sig .tc := ⟨.hbm, 181, rfl⟩
abbrev main_call0_call0_v123 : Ref sig .tc := ⟨.hbm, 182, rfl⟩
abbrev main_call0_call0_v124 : Ref sig .tc := ⟨.hbm, 183, rfl⟩
abbrev main_call0_call0_c_32 : Ref sig .tc := ⟨.hbm, 184, rfl⟩
abbrev main_call0_call0_v125 : Ref sig .tc := ⟨.hbm, 185, rfl⟩
abbrev main_call0_call0_v126 : Ref sig .tc := ⟨.hbm, 186, rfl⟩
abbrev main_call0_call0_v127 : Ref sig .tc := ⟨.hbm, 187, rfl⟩
abbrev main_call0_call0_v128 : Ref sig .tc := ⟨.hbm, 188, rfl⟩
abbrev main_call0_call0_v129 : Ref sig .tc := ⟨.hbm, 189, rfl⟩
abbrev main_call0_call0_c_33 : Ref sig .tc := ⟨.hbm, 190, rfl⟩
abbrev main_call0_call0_v130 : Ref sig .tc := ⟨.hbm, 191, rfl⟩
abbrev main_call0_call0_v131 : Ref sig .tc := ⟨.hbm, 192, rfl⟩
abbrev main_call0_call0_c_34 : Ref sig .tc := ⟨.hbm, 193, rfl⟩
abbrev main_call0_call0_v132 : Ref sig .tc := ⟨.hbm, 194, rfl⟩
abbrev main_call0_call0_v133 : Ref sig .tc := ⟨.hbm, 195, rfl⟩
abbrev main_call0_call0_v134 : Ref sig .tc := ⟨.hbm, 196, rfl⟩
abbrev main_call0_call0_v135 : Ref sig .tc := ⟨.hbm, 197, rfl⟩
abbrev main_call0_call0_v136 : Ref sig .tc := ⟨.hbm, 198, rfl⟩
abbrev main_call0_call0_v137 : Ref sig .tc := ⟨.hbm, 199, rfl⟩
abbrev main_call0_call0_v138 : Ref sig .tc := ⟨.hbm, 200, rfl⟩
abbrev main_call0_call0_v139 : Ref sig .tc := ⟨.hbm, 201, rfl⟩
abbrev main_call0_call0_c_35 : Ref sig .tc := ⟨.hbm, 202, rfl⟩
abbrev main_call0_call0_v140 : Ref sig .tc := ⟨.hbm, 203, rfl⟩
abbrev main_call0_call0_v141 : Ref sig .tc := ⟨.hbm, 204, rfl⟩
abbrev main_call0_call0_v142 : Ref sig .tc := ⟨.hbm, 205, rfl⟩
abbrev main_call0_call0_c_36 : Ref sig .tc := ⟨.hbm, 206, rfl⟩
abbrev main_call0_call0_v143 : Ref sig .tc := ⟨.hbm, 207, rfl⟩
abbrev main_call0_call0_v144 : Ref sig .tc := ⟨.hbm, 208, rfl⟩
abbrev main_call0_call0_c_37 : Ref sig .tc := ⟨.hbm, 209, rfl⟩
abbrev main_call0_call0_v145 : Ref sig .tc := ⟨.hbm, 210, rfl⟩
abbrev main_call0_call0_v146 : Ref sig .tc := ⟨.hbm, 211, rfl⟩
abbrev main_call0_call0_v147 : Ref sig .tc := ⟨.hbm, 212, rfl⟩
abbrev main_call0_call0_v148 : Ref sig .tc := ⟨.hbm, 213, rfl⟩
abbrev main_call0_call0_v149 : Ref sig .tc := ⟨.hbm, 214, rfl⟩
abbrev main_call0_call0_c_38 : Ref sig .tc := ⟨.hbm, 215, rfl⟩
abbrev main_call0_call0_v150 : Ref sig .tc := ⟨.hbm, 216, rfl⟩
abbrev main_call0_call0_v151 : Ref sig .tc := ⟨.hbm, 217, rfl⟩
abbrev main_call0_call0_c_39 : Ref sig .tc := ⟨.hbm, 218, rfl⟩
abbrev main_call0_call0_v152 : Ref sig .tc := ⟨.hbm, 219, rfl⟩
abbrev main_call0_call0_v153 : Ref sig .tc := ⟨.hbm, 220, rfl⟩
abbrev main_call0_call0_v154 : Ref sig .tc := ⟨.hbm, 221, rfl⟩
abbrev main_call0_call0_v155 : Ref sig .tc := ⟨.hbm, 222, rfl⟩
abbrev main_call0_call0_v156 : Ref sig .tc := ⟨.hbm, 223, rfl⟩
abbrev main_call0_call0_c_40 : Ref sig .tc := ⟨.hbm, 224, rfl⟩
abbrev main_call0_call0_v157 : Ref sig .tc := ⟨.hbm, 225, rfl⟩
abbrev main_call0_call0_v158 : Ref sig .tc := ⟨.hbm, 226, rfl⟩
abbrev main_call0_call0_c_41 : Ref sig .tc := ⟨.hbm, 227, rfl⟩
abbrev main_call0_call0_v159 : Ref sig .tc := ⟨.hbm, 228, rfl⟩
abbrev main_call0_call0_v160 : Ref sig .tc := ⟨.hbm, 229, rfl⟩
abbrev main_call0_call0_v161 : Ref sig .tc := ⟨.hbm, 230, rfl⟩
abbrev main_call0_call0_v162 : Ref sig .tc := ⟨.hbm, 231, rfl⟩
abbrev main_call0_call0_v163 : Ref sig .tc := ⟨.hbm, 232, rfl⟩
abbrev main_call0_call0_c_42 : Ref sig .tc := ⟨.hbm, 233, rfl⟩
abbrev main_call0_call0_v164 : Ref sig .tc := ⟨.hbm, 234, rfl⟩
abbrev main_call0_call0_v165 : Ref sig .tc := ⟨.hbm, 235, rfl⟩
abbrev main_call0_call0_c_43 : Ref sig .tc := ⟨.hbm, 236, rfl⟩
abbrev main_call0_call0_v166 : Ref sig .tc := ⟨.hbm, 237, rfl⟩
abbrev main_call0_call0_v167 : Ref sig .tc := ⟨.hbm, 238, rfl⟩
abbrev main_call0_call0_v168 : Ref sig .tc := ⟨.hbm, 239, rfl⟩
abbrev main_call0_call0_v169 : Ref sig .tc := ⟨.hbm, 240, rfl⟩
abbrev main_call0_call0_v170 : Ref sig .tc := ⟨.hbm, 241, rfl⟩
abbrev main_call0_v11_0 : Ref sig .tc := ⟨.hbm, 242, rfl⟩
abbrev main_call0_call0_v172 : Ref sig .tc := ⟨.hbm, 243, rfl⟩
abbrev main_call0_call0_v173 : Ref sig .tc := ⟨.hbm, 244, rfl⟩
abbrev main_call0_call0_c_44 : Ref sig .tc := ⟨.hbm, 245, rfl⟩
abbrev main_call0_call0_v174 : Ref sig .tc := ⟨.hbm, 246, rfl⟩
abbrev main_call0_v11_1 : Ref sig .tc := ⟨.hbm, 247, rfl⟩
abbrev main_v7 : Ref sig .tc := ⟨.hbm, 248, rfl⟩
abbrev main_c_3 : Ref sig .tc := ⟨.hbm, 249, rfl⟩
abbrev main_call1_c : Ref sig .tc := ⟨.hbm, 250, rfl⟩
abbrev main_call1_v0 : Ref sig .tc := ⟨.hbm, 251, rfl⟩
abbrev main_call1_v1 : Ref sig .tc := ⟨.hbm, 252, rfl⟩
abbrev main_call1_c_0 : Ref sig .tc := ⟨.hbm, 253, rfl⟩
abbrev main_call1_v2 : Ref sig .tc := ⟨.hbm, 254, rfl⟩
abbrev main_call1_v3 : Ref sig .tc := ⟨.hbm, 255, rfl⟩
abbrev main_call1_v4 : Ref sig .tc := ⟨.hbm, 256, rfl⟩
abbrev main_call1_v5 : Ref sig .tc := ⟨.hbm, 257, rfl⟩
abbrev main_call1_v6 : Ref sig .tc := ⟨.hbm, 258, rfl⟩
abbrev main_call1_v7 : Ref sig .tc := ⟨.hbm, 259, rfl⟩
abbrev main_call1_v8 : Ref sig .tc := ⟨.hbm, 260, rfl⟩
abbrev main_call1_v9 : Ref sig .tc := ⟨.hbm, 261, rfl⟩
abbrev main_call1_v10 : Ref sig .tc := ⟨.hbm, 262, rfl⟩
abbrev main_call1_call0_v0 : Ref sig .tc := ⟨.hbm, 263, rfl⟩
abbrev main_call1_call0_c : Ref sig .tc := ⟨.hbm, 264, rfl⟩
abbrev main_call1_call0_v1 : Ref sig .tc := ⟨.hbm, 265, rfl⟩
abbrev main_call1_call0_v2 : Ref sig .tc := ⟨.hbm, 266, rfl⟩
abbrev main_call1_call0_v3 : Ref sig .tc := ⟨.hbm, 267, rfl⟩
abbrev main_call1_call0_v4 : Ref sig .tc := ⟨.hbm, 268, rfl⟩
abbrev main_call1_call0_v5 : Ref sig .tc := ⟨.hbm, 269, rfl⟩
abbrev main_call1_call0_v6 : Ref sig .tc := ⟨.hbm, 270, rfl⟩
abbrev main_call1_call0_c_0 : Ref sig .tc := ⟨.hbm, 271, rfl⟩
abbrev main_call1_call0_v7 : Ref sig .tc := ⟨.hbm, 272, rfl⟩
abbrev main_call1_call0_v8 : Ref sig .tc := ⟨.hbm, 273, rfl⟩
abbrev main_call1_call0_c_1 : Ref sig .tc := ⟨.hbm, 274, rfl⟩
abbrev main_call1_call0_v9 : Ref sig .tc := ⟨.hbm, 275, rfl⟩
abbrev main_call1_call0_v10 : Ref sig .tc := ⟨.hbm, 276, rfl⟩
abbrev main_call1_call0_v11 : Ref sig .tc := ⟨.hbm, 277, rfl⟩
abbrev main_call1_call0_v12 : Ref sig .tc := ⟨.hbm, 278, rfl⟩
abbrev main_call1_call0_v13 : Ref sig .tc := ⟨.hbm, 279, rfl⟩
abbrev main_call1_call0_c_2 : Ref sig .tc := ⟨.hbm, 280, rfl⟩
abbrev main_call1_call0_v14 : Ref sig .tc := ⟨.hbm, 281, rfl⟩
abbrev main_call1_call0_v15 : Ref sig .tc := ⟨.hbm, 282, rfl⟩
abbrev main_call1_call0_c_3 : Ref sig .tc := ⟨.hbm, 283, rfl⟩
abbrev main_call1_call0_v16 : Ref sig .tc := ⟨.hbm, 284, rfl⟩
abbrev main_call1_call0_v17 : Ref sig .tc := ⟨.hbm, 285, rfl⟩
abbrev main_call1_call0_v18 : Ref sig .tc := ⟨.hbm, 286, rfl⟩
abbrev main_call1_call0_v19 : Ref sig .tc := ⟨.hbm, 287, rfl⟩
abbrev main_call1_call0_v20 : Ref sig .tc := ⟨.hbm, 288, rfl⟩
abbrev main_call1_call0_c_4 : Ref sig .tc := ⟨.hbm, 289, rfl⟩
abbrev main_call1_call0_v21 : Ref sig .tc := ⟨.hbm, 290, rfl⟩
abbrev main_call1_call0_v22 : Ref sig .tc := ⟨.hbm, 291, rfl⟩
abbrev main_call1_call0_c_5 : Ref sig .tc := ⟨.hbm, 292, rfl⟩
abbrev main_call1_call0_v23 : Ref sig .tc := ⟨.hbm, 293, rfl⟩
abbrev main_call1_call0_v24 : Ref sig .tc := ⟨.hbm, 294, rfl⟩
abbrev main_call1_call0_v25 : Ref sig .tc := ⟨.hbm, 295, rfl⟩
abbrev main_call1_call0_v26 : Ref sig .tc := ⟨.hbm, 296, rfl⟩
abbrev main_call1_call0_v27 : Ref sig .tc := ⟨.hbm, 297, rfl⟩
abbrev main_call1_call0_c_6 : Ref sig .tc := ⟨.hbm, 298, rfl⟩
abbrev main_call1_call0_v28 : Ref sig .tc := ⟨.hbm, 299, rfl⟩
abbrev main_call1_call0_v29 : Ref sig .tc := ⟨.hbm, 300, rfl⟩
abbrev main_call1_call0_c_7 : Ref sig .tc := ⟨.hbm, 301, rfl⟩
abbrev main_call1_call0_v30 : Ref sig .tc := ⟨.hbm, 302, rfl⟩
abbrev main_call1_call0_v31 : Ref sig .tc := ⟨.hbm, 303, rfl⟩
abbrev main_call1_call0_v32 : Ref sig .tc := ⟨.hbm, 304, rfl⟩
abbrev main_call1_call0_v33 : Ref sig .tc := ⟨.hbm, 305, rfl⟩
abbrev main_call1_call0_v34 : Ref sig .tc := ⟨.hbm, 306, rfl⟩
abbrev main_call1_call0_v35 : Ref sig .tc := ⟨.hbm, 307, rfl⟩
abbrev main_call1_call0_v36 : Ref sig .tc := ⟨.hbm, 308, rfl⟩
abbrev main_call1_call0_v37 : Ref sig .tc := ⟨.hbm, 309, rfl⟩
abbrev main_call1_call0_c_8 : Ref sig .tc := ⟨.hbm, 310, rfl⟩
abbrev main_call1_call0_v38 : Ref sig .tc := ⟨.hbm, 311, rfl⟩
abbrev main_call1_call0_v39 : Ref sig .tc := ⟨.hbm, 312, rfl⟩
abbrev main_call1_call0_v40 : Ref sig .tc := ⟨.hbm, 313, rfl⟩
abbrev main_call1_call0_c_9 : Ref sig .tc := ⟨.hbm, 314, rfl⟩
abbrev main_call1_call0_v41 : Ref sig .tc := ⟨.hbm, 315, rfl⟩
abbrev main_call1_call0_v42 : Ref sig .tc := ⟨.hbm, 316, rfl⟩
abbrev main_call1_call0_c_10 : Ref sig .tc := ⟨.hbm, 317, rfl⟩
abbrev main_call1_call0_v43 : Ref sig .tc := ⟨.hbm, 318, rfl⟩
abbrev main_call1_call0_v44 : Ref sig .tc := ⟨.hbm, 319, rfl⟩
abbrev main_call1_call0_v45 : Ref sig .tc := ⟨.hbm, 320, rfl⟩
abbrev main_call1_call0_v46 : Ref sig .tc := ⟨.hbm, 321, rfl⟩
abbrev main_call1_call0_v47 : Ref sig .tc := ⟨.hbm, 322, rfl⟩
abbrev main_call1_call0_c_11 : Ref sig .tc := ⟨.hbm, 323, rfl⟩
abbrev main_call1_call0_v48 : Ref sig .tc := ⟨.hbm, 324, rfl⟩
abbrev main_call1_call0_v49 : Ref sig .tc := ⟨.hbm, 325, rfl⟩
abbrev main_call1_call0_c_12 : Ref sig .tc := ⟨.hbm, 326, rfl⟩
abbrev main_call1_call0_v50 : Ref sig .tc := ⟨.hbm, 327, rfl⟩
abbrev main_call1_call0_v51 : Ref sig .tc := ⟨.hbm, 328, rfl⟩
abbrev main_call1_call0_v52 : Ref sig .tc := ⟨.hbm, 329, rfl⟩
abbrev main_call1_call0_v53 : Ref sig .tc := ⟨.hbm, 330, rfl⟩
abbrev main_call1_call0_v54 : Ref sig .tc := ⟨.hbm, 331, rfl⟩
abbrev main_call1_call0_c_13 : Ref sig .tc := ⟨.hbm, 332, rfl⟩
abbrev main_call1_call0_v55 : Ref sig .tc := ⟨.hbm, 333, rfl⟩
abbrev main_call1_call0_v56 : Ref sig .tc := ⟨.hbm, 334, rfl⟩
abbrev main_call1_call0_c_14 : Ref sig .tc := ⟨.hbm, 335, rfl⟩
abbrev main_call1_call0_v57 : Ref sig .tc := ⟨.hbm, 336, rfl⟩
abbrev main_call1_call0_v58 : Ref sig .tc := ⟨.hbm, 337, rfl⟩
abbrev main_call1_call0_v59 : Ref sig .tc := ⟨.hbm, 338, rfl⟩
abbrev main_call1_call0_v60 : Ref sig .tc := ⟨.hbm, 339, rfl⟩
abbrev main_call1_call0_v61 : Ref sig .tc := ⟨.hbm, 340, rfl⟩
abbrev main_call1_call0_c_15 : Ref sig .tc := ⟨.hbm, 341, rfl⟩
abbrev main_call1_call0_v62 : Ref sig .tc := ⟨.hbm, 342, rfl⟩
abbrev main_call1_call0_v63 : Ref sig .tc := ⟨.hbm, 343, rfl⟩
abbrev main_call1_call0_c_16 : Ref sig .tc := ⟨.hbm, 344, rfl⟩
abbrev main_call1_call0_v64 : Ref sig .tc := ⟨.hbm, 345, rfl⟩
abbrev main_call1_call0_v65 : Ref sig .tc := ⟨.hbm, 346, rfl⟩
abbrev main_call1_call0_v66 : Ref sig .tc := ⟨.hbm, 347, rfl⟩
abbrev main_call1_call0_v67 : Ref sig .tc := ⟨.hbm, 348, rfl⟩
abbrev main_call1_call0_v68 : Ref sig .tc := ⟨.hbm, 349, rfl⟩
abbrev main_call1_call0_v69 : Ref sig .tc := ⟨.hbm, 350, rfl⟩
abbrev main_call1_call0_v70 : Ref sig .tc := ⟨.hbm, 351, rfl⟩
abbrev main_call1_call0_v71 : Ref sig .tc := ⟨.hbm, 352, rfl⟩
abbrev main_call1_call0_c_17 : Ref sig .tc := ⟨.hbm, 353, rfl⟩
abbrev main_call1_call0_v72 : Ref sig .tc := ⟨.hbm, 354, rfl⟩
abbrev main_call1_call0_v73 : Ref sig .tc := ⟨.hbm, 355, rfl⟩
abbrev main_call1_call0_v74 : Ref sig .tc := ⟨.hbm, 356, rfl⟩
abbrev main_call1_call0_c_18 : Ref sig .tc := ⟨.hbm, 357, rfl⟩
abbrev main_call1_call0_v75 : Ref sig .tc := ⟨.hbm, 358, rfl⟩
abbrev main_call1_call0_v76 : Ref sig .tc := ⟨.hbm, 359, rfl⟩
abbrev main_call1_call0_c_19 : Ref sig .tc := ⟨.hbm, 360, rfl⟩
abbrev main_call1_call0_v77 : Ref sig .tc := ⟨.hbm, 361, rfl⟩
abbrev main_call1_call0_v78 : Ref sig .tc := ⟨.hbm, 362, rfl⟩
abbrev main_call1_call0_v79 : Ref sig .tc := ⟨.hbm, 363, rfl⟩
abbrev main_call1_call0_v80 : Ref sig .tc := ⟨.hbm, 364, rfl⟩
abbrev main_call1_call0_v81 : Ref sig .tc := ⟨.hbm, 365, rfl⟩
abbrev main_call1_call0_c_20 : Ref sig .tc := ⟨.hbm, 366, rfl⟩
abbrev main_call1_call0_v82 : Ref sig .tc := ⟨.hbm, 367, rfl⟩
abbrev main_call1_call0_v83 : Ref sig .tc := ⟨.hbm, 368, rfl⟩
abbrev main_call1_call0_c_21 : Ref sig .tc := ⟨.hbm, 369, rfl⟩
abbrev main_call1_call0_v84 : Ref sig .tc := ⟨.hbm, 370, rfl⟩
abbrev main_call1_call0_v85 : Ref sig .tc := ⟨.hbm, 371, rfl⟩
abbrev main_call1_call0_v86 : Ref sig .tc := ⟨.hbm, 372, rfl⟩
abbrev main_call1_call0_v87 : Ref sig .tc := ⟨.hbm, 373, rfl⟩
abbrev main_call1_call0_v88 : Ref sig .tc := ⟨.hbm, 374, rfl⟩
abbrev main_call1_call0_c_22 : Ref sig .tc := ⟨.hbm, 375, rfl⟩
abbrev main_call1_call0_v89 : Ref sig .tc := ⟨.hbm, 376, rfl⟩
abbrev main_call1_call0_v90 : Ref sig .tc := ⟨.hbm, 377, rfl⟩
abbrev main_call1_call0_c_23 : Ref sig .tc := ⟨.hbm, 378, rfl⟩
abbrev main_call1_call0_v91 : Ref sig .tc := ⟨.hbm, 379, rfl⟩
abbrev main_call1_call0_v92 : Ref sig .tc := ⟨.hbm, 380, rfl⟩
abbrev main_call1_call0_v93 : Ref sig .tc := ⟨.hbm, 381, rfl⟩
abbrev main_call1_call0_v94 : Ref sig .tc := ⟨.hbm, 382, rfl⟩
abbrev main_call1_call0_v95 : Ref sig .tc := ⟨.hbm, 383, rfl⟩
abbrev main_call1_call0_c_24 : Ref sig .tc := ⟨.hbm, 384, rfl⟩
abbrev main_call1_call0_v96 : Ref sig .tc := ⟨.hbm, 385, rfl⟩
abbrev main_call1_call0_v97 : Ref sig .tc := ⟨.hbm, 386, rfl⟩
abbrev main_call1_call0_c_25 : Ref sig .tc := ⟨.hbm, 387, rfl⟩
abbrev main_call1_call0_v98 : Ref sig .tc := ⟨.hbm, 388, rfl⟩
abbrev main_call1_call0_v99 : Ref sig .tc := ⟨.hbm, 389, rfl⟩
abbrev main_call1_call0_v100 : Ref sig .tc := ⟨.hbm, 390, rfl⟩
abbrev main_call1_call0_v101 : Ref sig .tc := ⟨.hbm, 391, rfl⟩
abbrev main_call1_call0_v102 : Ref sig .tc := ⟨.hbm, 392, rfl⟩
abbrev main_call1_call0_v103 : Ref sig .tc := ⟨.hbm, 393, rfl⟩
abbrev main_call1_call0_v104 : Ref sig .tc := ⟨.hbm, 394, rfl⟩
abbrev main_call1_call0_v105 : Ref sig .tc := ⟨.hbm, 395, rfl⟩
abbrev main_call1_call0_c_26 : Ref sig .tc := ⟨.hbm, 396, rfl⟩
abbrev main_call1_call0_v106 : Ref sig .tc := ⟨.hbm, 397, rfl⟩
abbrev main_call1_call0_v107 : Ref sig .tc := ⟨.hbm, 398, rfl⟩
abbrev main_call1_call0_v108 : Ref sig .tc := ⟨.hbm, 399, rfl⟩
abbrev main_call1_call0_c_27 : Ref sig .tc := ⟨.hbm, 400, rfl⟩
abbrev main_call1_call0_v109 : Ref sig .tc := ⟨.hbm, 401, rfl⟩
abbrev main_call1_call0_v110 : Ref sig .tc := ⟨.hbm, 402, rfl⟩
abbrev main_call1_call0_c_28 : Ref sig .tc := ⟨.hbm, 403, rfl⟩
abbrev main_call1_call0_v111 : Ref sig .tc := ⟨.hbm, 404, rfl⟩
abbrev main_call1_call0_v112 : Ref sig .tc := ⟨.hbm, 405, rfl⟩
abbrev main_call1_call0_v113 : Ref sig .tc := ⟨.hbm, 406, rfl⟩
abbrev main_call1_call0_v114 : Ref sig .tc := ⟨.hbm, 407, rfl⟩
abbrev main_call1_call0_v115 : Ref sig .tc := ⟨.hbm, 408, rfl⟩
abbrev main_call1_call0_c_29 : Ref sig .tc := ⟨.hbm, 409, rfl⟩
abbrev main_call1_call0_v116 : Ref sig .tc := ⟨.hbm, 410, rfl⟩
abbrev main_call1_call0_v117 : Ref sig .tc := ⟨.hbm, 411, rfl⟩
abbrev main_call1_call0_c_30 : Ref sig .tc := ⟨.hbm, 412, rfl⟩
abbrev main_call1_call0_v118 : Ref sig .tc := ⟨.hbm, 413, rfl⟩
abbrev main_call1_call0_v119 : Ref sig .tc := ⟨.hbm, 414, rfl⟩
abbrev main_call1_call0_v120 : Ref sig .tc := ⟨.hbm, 415, rfl⟩
abbrev main_call1_call0_v121 : Ref sig .tc := ⟨.hbm, 416, rfl⟩
abbrev main_call1_call0_v122 : Ref sig .tc := ⟨.hbm, 417, rfl⟩
abbrev main_call1_call0_c_31 : Ref sig .tc := ⟨.hbm, 418, rfl⟩
abbrev main_call1_call0_v123 : Ref sig .tc := ⟨.hbm, 419, rfl⟩
abbrev main_call1_call0_v124 : Ref sig .tc := ⟨.hbm, 420, rfl⟩
abbrev main_call1_call0_c_32 : Ref sig .tc := ⟨.hbm, 421, rfl⟩
abbrev main_call1_call0_v125 : Ref sig .tc := ⟨.hbm, 422, rfl⟩
abbrev main_call1_call0_v126 : Ref sig .tc := ⟨.hbm, 423, rfl⟩
abbrev main_call1_call0_v127 : Ref sig .tc := ⟨.hbm, 424, rfl⟩
abbrev main_call1_call0_v128 : Ref sig .tc := ⟨.hbm, 425, rfl⟩
abbrev main_call1_call0_v129 : Ref sig .tc := ⟨.hbm, 426, rfl⟩
abbrev main_call1_call0_c_33 : Ref sig .tc := ⟨.hbm, 427, rfl⟩
abbrev main_call1_call0_v130 : Ref sig .tc := ⟨.hbm, 428, rfl⟩
abbrev main_call1_call0_v131 : Ref sig .tc := ⟨.hbm, 429, rfl⟩
abbrev main_call1_call0_c_34 : Ref sig .tc := ⟨.hbm, 430, rfl⟩
abbrev main_call1_call0_v132 : Ref sig .tc := ⟨.hbm, 431, rfl⟩
abbrev main_call1_call0_v133 : Ref sig .tc := ⟨.hbm, 432, rfl⟩
abbrev main_call1_call0_v134 : Ref sig .tc := ⟨.hbm, 433, rfl⟩
abbrev main_call1_call0_v135 : Ref sig .tc := ⟨.hbm, 434, rfl⟩
abbrev main_call1_call0_v136 : Ref sig .tc := ⟨.hbm, 435, rfl⟩
abbrev main_call1_call0_v137 : Ref sig .tc := ⟨.hbm, 436, rfl⟩
abbrev main_call1_call0_v138 : Ref sig .tc := ⟨.hbm, 437, rfl⟩
abbrev main_call1_call0_v139 : Ref sig .tc := ⟨.hbm, 438, rfl⟩
abbrev main_call1_call0_c_35 : Ref sig .tc := ⟨.hbm, 439, rfl⟩
abbrev main_call1_call0_v140 : Ref sig .tc := ⟨.hbm, 440, rfl⟩
abbrev main_call1_call0_v141 : Ref sig .tc := ⟨.hbm, 441, rfl⟩
abbrev main_call1_call0_v142 : Ref sig .tc := ⟨.hbm, 442, rfl⟩
abbrev main_call1_call0_c_36 : Ref sig .tc := ⟨.hbm, 443, rfl⟩
abbrev main_call1_call0_v143 : Ref sig .tc := ⟨.hbm, 444, rfl⟩
abbrev main_call1_call0_v144 : Ref sig .tc := ⟨.hbm, 445, rfl⟩
abbrev main_call1_call0_c_37 : Ref sig .tc := ⟨.hbm, 446, rfl⟩
abbrev main_call1_call0_v145 : Ref sig .tc := ⟨.hbm, 447, rfl⟩
abbrev main_call1_call0_v146 : Ref sig .tc := ⟨.hbm, 448, rfl⟩
abbrev main_call1_call0_v147 : Ref sig .tc := ⟨.hbm, 449, rfl⟩
abbrev main_call1_call0_v148 : Ref sig .tc := ⟨.hbm, 450, rfl⟩
abbrev main_call1_call0_v149 : Ref sig .tc := ⟨.hbm, 451, rfl⟩
abbrev main_call1_call0_c_38 : Ref sig .tc := ⟨.hbm, 452, rfl⟩
abbrev main_call1_call0_v150 : Ref sig .tc := ⟨.hbm, 453, rfl⟩
abbrev main_call1_call0_v151 : Ref sig .tc := ⟨.hbm, 454, rfl⟩
abbrev main_call1_call0_c_39 : Ref sig .tc := ⟨.hbm, 455, rfl⟩
abbrev main_call1_call0_v152 : Ref sig .tc := ⟨.hbm, 456, rfl⟩
abbrev main_call1_call0_v153 : Ref sig .tc := ⟨.hbm, 457, rfl⟩
abbrev main_call1_call0_v154 : Ref sig .tc := ⟨.hbm, 458, rfl⟩
abbrev main_call1_call0_v155 : Ref sig .tc := ⟨.hbm, 459, rfl⟩
abbrev main_call1_call0_v156 : Ref sig .tc := ⟨.hbm, 460, rfl⟩
abbrev main_call1_call0_c_40 : Ref sig .tc := ⟨.hbm, 461, rfl⟩
abbrev main_call1_call0_v157 : Ref sig .tc := ⟨.hbm, 462, rfl⟩
abbrev main_call1_call0_v158 : Ref sig .tc := ⟨.hbm, 463, rfl⟩
abbrev main_call1_call0_c_41 : Ref sig .tc := ⟨.hbm, 464, rfl⟩
abbrev main_call1_call0_v159 : Ref sig .tc := ⟨.hbm, 465, rfl⟩
abbrev main_call1_call0_v160 : Ref sig .tc := ⟨.hbm, 466, rfl⟩
abbrev main_call1_call0_v161 : Ref sig .tc := ⟨.hbm, 467, rfl⟩
abbrev main_call1_call0_v162 : Ref sig .tc := ⟨.hbm, 468, rfl⟩
abbrev main_call1_call0_v163 : Ref sig .tc := ⟨.hbm, 469, rfl⟩
abbrev main_call1_call0_c_42 : Ref sig .tc := ⟨.hbm, 470, rfl⟩
abbrev main_call1_call0_v164 : Ref sig .tc := ⟨.hbm, 471, rfl⟩
abbrev main_call1_call0_v165 : Ref sig .tc := ⟨.hbm, 472, rfl⟩
abbrev main_call1_call0_c_43 : Ref sig .tc := ⟨.hbm, 473, rfl⟩
abbrev main_call1_call0_v166 : Ref sig .tc := ⟨.hbm, 474, rfl⟩
abbrev main_call1_call0_v167 : Ref sig .tc := ⟨.hbm, 475, rfl⟩
abbrev main_call1_call0_v168 : Ref sig .tc := ⟨.hbm, 476, rfl⟩
abbrev main_call1_call0_v169 : Ref sig .tc := ⟨.hbm, 477, rfl⟩
abbrev main_call1_call0_v170 : Ref sig .tc := ⟨.hbm, 478, rfl⟩
abbrev main_call1_v11_0 : Ref sig .tc := ⟨.hbm, 479, rfl⟩
abbrev main_call1_call0_v172 : Ref sig .tc := ⟨.hbm, 480, rfl⟩
abbrev main_call1_call0_v173 : Ref sig .tc := ⟨.hbm, 481, rfl⟩
abbrev main_call1_call0_c_44 : Ref sig .tc := ⟨.hbm, 482, rfl⟩
abbrev main_call1_call0_v174 : Ref sig .tc := ⟨.hbm, 483, rfl⟩
abbrev main_call1_v11_1 : Ref sig .tc := ⟨.hbm, 484, rfl⟩
abbrev main_v8 : Ref sig .tc := ⟨.hbm, 485, rfl⟩
abbrev main_v9 : Ref sig .tc := ⟨.hbm, 486, rfl⟩
abbrev main_v10 : Ref sig .tc := ⟨.hbm, 487, rfl⟩
abbrev main_v11 : Ref sig .tc := ⟨.hbm, 488, rfl⟩
abbrev main_v12_0 : Ref sig .tc := ⟨.hbm, 489, rfl⟩
abbrev main_v12_1 : Ref sig .tc := ⟨.hbm, 490, rfl⟩
abbrev main_v12_2 : Ref sig .tc := ⟨.hbm, 491, rfl⟩
abbrev main_v13 : Ref sig .tc := ⟨.hbm, 492, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x8x100000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 2 → Memref sig .tc .vmem S8x200000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x200000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S8x200000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x128x100000 : Shape := ⟨3, ![2, 128, 100000]⟩
abbrev S128x200000 : Shape := ⟨2, ![128, 200000]⟩
abbrev S_ : Shape := ⟨0, ![]⟩
abbrev S1 : Shape := ⟨1, ![1]⟩
abbrev S2 : Shape := ⟨1, ![2]⟩
abbrev S128x100000 : Shape := ⟨2, ![128, 100000]⟩
abbrev S1x128x100000 : Shape := ⟨3, ![1, 128, 100000]⟩
abbrev S128 : Shape := ⟨1, ![128]⟩
abbrev S128x1 : Shape := ⟨2, ![128, 1]⟩
abbrev S1x1 : Shape := ⟨2, ![1, 1]⟩
abbrev S128x2 : Shape := ⟨2, ![128, 2]⟩

abbrev nBuf : Space → Nat
  | .hbm => 1105
  | .vmem => 0
  | .smem => 0
  | _ => 0

abbrev hbmTy0_0 (i : Nat) : BufTy := match i % 128 with
  | 0 => ⟨S2x128x100000, .f32⟩
  | 1 => ⟨S128x200000, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S128x100000, .f32⟩
  | 13 => ⟨S1x128x100000, .f32⟩
  | 14 => ⟨S128x100000, .f32⟩
  | 15 => ⟨S_, .f32⟩
  | 16 => ⟨S128, .f32⟩
  | 17 => ⟨S_, .f32⟩
  | 18 => ⟨S128, .f32⟩
  | 19 => ⟨S128, .f32⟩
  | 20 => ⟨S128x1, .f32⟩
  | 21 => ⟨S128x100000, .f32⟩
  | 22 => ⟨S128x100000, .f32⟩
  | 23 => ⟨S128x100000, .f32⟩
  | 24 => ⟨S_, .f32⟩
  | 25 => ⟨S128, .f32⟩
  | 26 => ⟨S128x1, .f32⟩
  | 27 => ⟨S128x100000, .f32⟩
  | 28 => ⟨S128x100000, .f32⟩
  | 29 => ⟨S_, .f32⟩
  | 30 => ⟨S128x100000, .f32⟩
  | 31 => ⟨S128x100000, .f32⟩
  | 32 => ⟨S128x100000, .f32⟩
  | 33 => ⟨S_, .f32⟩
  | 34 => ⟨S128, .f32⟩
  | 35 => ⟨S128x1, .f32⟩
  | 36 => ⟨S128x100000, .f32⟩
  | 37 => ⟨S128x100000, .f32⟩
  | 38 => ⟨S_, .f32⟩
  | 39 => ⟨S128x100000, .f32⟩
  | 40 => ⟨S128x100000, .f32⟩
  | 41 => ⟨S128x100000, .f32⟩
  | 42 => ⟨S_, .i32⟩
  | 43 => ⟨S_, .i32⟩
  | 44 => ⟨S_, .i32⟩
  | 45 => ⟨S1, .i32⟩
  | 46 => ⟨S_, .i32⟩
  | 47 => ⟨S_, .i32⟩
  | 48 => ⟨S1, .i32⟩
  | 49 => ⟨S2, .i32⟩
  | 50 => ⟨S1, .i32⟩
  | 51 => ⟨S_, .i32⟩
  | 52 => ⟨S1, .i32⟩
  | 53 => ⟨S_, .i32⟩
  | 54 => ⟨S1, .i32⟩
  | 55 => ⟨S1, .i32⟩
  | 56 => ⟨S_, .i32⟩
  | 57 => ⟨S_, .i32⟩
  | 58 => ⟨S_, .i32⟩
  | 59 => ⟨S1, .i32⟩
  | 60 => ⟨S1, .i32⟩
  | 61 => ⟨S1, .i32⟩
  | 62 => ⟨S1, .i32⟩
  | 63 => ⟨S1, .i32⟩
  | 64 => ⟨S_, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S_, .i32⟩
  | 77 => ⟨S1, .i32⟩
  | 78 => ⟨S1, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S_, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S1, .i32⟩
  | 107 => ⟨S_, .i32⟩
  | 108 => ⟨S1, .i32⟩
  | 109 => ⟨S1, .i32⟩
  | 110 => ⟨S_, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S_, .i32⟩
  | 120 => ⟨S1, .i32⟩
  | 121 => ⟨S1, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S2x128x100000, .f32⟩

abbrev hbmTy0_1 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1, .i32⟩
  | 6 => ⟨S_, .i32⟩
  | 7 => ⟨S1, .i32⟩
  | 8 => ⟨S1, .i32⟩
  | 9 => ⟨S_, .i32⟩
  | 10 => ⟨S1, .i32⟩
  | 11 => ⟨S1, .i32⟩
  | 12 => ⟨S1, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S1, .i32⟩
  | 22 => ⟨S_, .i32⟩
  | 23 => ⟨S1, .i32⟩
  | 24 => ⟨S1, .i32⟩
  | 25 => ⟨S_, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S_, .i32⟩
  | 35 => ⟨S1, .i32⟩
  | 36 => ⟨S1, .i32⟩
  | 37 => ⟨S1, .i32⟩
  | 38 => ⟨S1, .i32⟩
  | 39 => ⟨S1, .i32⟩
  | 40 => ⟨S_, .i32⟩
  | 41 => ⟨S1, .i32⟩
  | 42 => ⟨S1, .i32⟩
  | 43 => ⟨S_, .i32⟩
  | 44 => ⟨S1, .i32⟩
  | 45 => ⟨S1, .i32⟩
  | 46 => ⟨S1, .i32⟩
  | 47 => ⟨S1, .i32⟩
  | 48 => ⟨S1, .i32⟩
  | 49 => ⟨S_, .i32⟩
  | 50 => ⟨S1, .i32⟩
  | 51 => ⟨S1, .i32⟩
  | 52 => ⟨S_, .i32⟩
  | 53 => ⟨S1, .i32⟩
  | 54 => ⟨S1, .i32⟩
  | 55 => ⟨S1, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S1, .i32⟩
  | 65 => ⟨S_, .i32⟩
  | 66 => ⟨S1, .i32⟩
  | 67 => ⟨S1, .i32⟩
  | 68 => ⟨S_, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S_, .i32⟩
  | 78 => ⟨S1, .i32⟩
  | 79 => ⟨S1, .i32⟩
  | 80 => ⟨S1, .i32⟩
  | 81 => ⟨S1, .i32⟩
  | 82 => ⟨S1, .i32⟩
  | 83 => ⟨S_, .i32⟩
  | 84 => ⟨S1, .i32⟩
  | 85 => ⟨S1, .i32⟩
  | 86 => ⟨S_, .i32⟩
  | 87 => ⟨S1, .i32⟩
  | 88 => ⟨S1, .i32⟩
  | 89 => ⟨S1, .i32⟩
  | 90 => ⟨S1, .i32⟩
  | 91 => ⟨S1, .i32⟩
  | 92 => ⟨S_, .i32⟩
  | 93 => ⟨S1, .i32⟩
  | 94 => ⟨S1, .i32⟩
  | 95 => ⟨S_, .i32⟩
  | 96 => ⟨S1, .i32⟩
  | 97 => ⟨S1, .i32⟩
  | 98 => ⟨S1, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S1, .i32⟩
  | 108 => ⟨S_, .i32⟩
  | 109 => ⟨S1, .i32⟩
  | 110 => ⟨S1, .i32⟩
  | 111 => ⟨S_, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S_, .i32⟩
  | 121 => ⟨S1, .i32⟩
  | 122 => ⟨S1, .i32⟩
  | 123 => ⟨S1, .i32⟩
  | 124 => ⟨S1, .i32⟩
  | 125 => ⟨S1, .i32⟩
  | 126 => ⟨S_, .i32⟩
  | 127 => ⟨S1, .i32⟩
  | _ => ⟨S2x128x100000, .f32⟩

abbrev hbmTy0_2 (i : Nat) : BufTy := match i % 128 with
  | 0 => ⟨S1, .i32⟩
  | 1 => ⟨S_, .i32⟩
  | 2 => ⟨S1, .i32⟩
  | 3 => ⟨S1, .i32⟩
  | 4 => ⟨S1, .i32⟩
  | 5 => ⟨S1, .i32⟩
  | 6 => ⟨S1, .i32⟩
  | 7 => ⟨S_, .i32⟩
  | 8 => ⟨S1, .i32⟩
  | 9 => ⟨S1, .i32⟩
  | 10 => ⟨S_, .i32⟩
  | 11 => ⟨S1, .i32⟩
  | 12 => ⟨S1, .i32⟩
  | 13 => ⟨S1, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S2, .i32⟩
  | 23 => ⟨S_, .f32⟩
  | 24 => ⟨S_, .f32⟩
  | 25 => ⟨S_, .f32⟩
  | 26 => ⟨S_, .f32⟩
  | 27 => ⟨S1x1, .f32⟩
  | 28 => ⟨S1x1, .f32⟩
  | 29 => ⟨S1, .i32⟩
  | 30 => ⟨S_, .i32⟩
  | 31 => ⟨S1, .i32⟩
  | 32 => ⟨S_, .i32⟩
  | 33 => ⟨S128x100000, .i64⟩
  | 34 => ⟨S128x100000, .i64⟩
  | 35 => ⟨S_, .i64⟩
  | 36 => ⟨S128x100000, .i64⟩
  | 37 => ⟨S128x100000, .i64⟩
  | 38 => ⟨S_, .i64⟩
  | 39 => ⟨S128x100000, .i64⟩
  | 40 => ⟨S128x100000, .i64⟩
  | 41 => ⟨S128x100000, .i64⟩
  | 42 => ⟨S_, .i64⟩
  | 43 => ⟨S128x100000, .i64⟩
  | 44 => ⟨S128x100000, .i64⟩
  | 45 => ⟨S128x100000, .i32⟩
  | 46 => ⟨S128x100000, .i32⟩
  | 47 => ⟨S_, .i32⟩
  | 48 => ⟨S_, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S128x100000, .i32⟩
  | 89 => ⟨S128x100000, .i32⟩
  | 90 => ⟨S128x100000, .i32⟩
  | 91 => ⟨S128x100000, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S2x128x100000, .f32⟩

abbrev hbmTy0_3 (i : Nat) : BufTy := match i % 128 with
  | 0 => ⟨S_, .i32⟩
  | 1 => ⟨S128x100000, .i32⟩
  | 2 => ⟨S128x100000, .i32⟩
  | 3 => ⟨S128x100000, .i32⟩
  | 4 => ⟨S128x100000, .i32⟩
  | 5 => ⟨S128x100000, .i32⟩
  | 6 => ⟨S128x100000, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S128x100000, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S128x100000, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S2x128x100000, .f32⟩

abbrev hbmTy0_4 (i : Nat) : BufTy := match i % 128 with
  | 0 => ⟨S128x100000, .i32⟩
  | 1 => ⟨S_, .i32⟩
  | 2 => ⟨S128x100000, .i32⟩
  | 3 => ⟨S128x100000, .i32⟩
  | 4 => ⟨S128x100000, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S_, .i32⟩
  | 18 => ⟨S128x100000, .i32⟩
  | 19 => ⟨S128x100000, .i32⟩
  | 20 => ⟨S128x100000, .f32⟩
  | 21 => ⟨S_, .f32⟩
  | 22 => ⟨S128x100000, .f32⟩
  | 23 => ⟨S128x100000, .f32⟩
  | 24 => ⟨S1x1, .f32⟩
  | 25 => ⟨S128x100000, .f32⟩
  | 26 => ⟨S128x100000, .f32⟩
  | 27 => ⟨S128x100000, .f32⟩
  | 28 => ⟨S128x100000, .f32⟩
  | 29 => ⟨S128x100000, .f32⟩
  | 30 => ⟨S128x100000, .f32⟩
  | 31 => ⟨S_, .f32⟩
  | 32 => ⟨S128x100000, .f32⟩
  | 33 => ⟨S128x100000, .f32⟩
  | 34 => ⟨S128x100000, .f32⟩
  | 35 => ⟨S128x100000, .f32⟩
  | 36 => ⟨S128x100000, .f32⟩
  | 37 => ⟨S128x100000, .f32⟩
  | 38 => ⟨S128x100000, .f32⟩
  | 39 => ⟨S128x100000, .i32⟩
  | 40 => ⟨S_, .f32⟩
  | 41 => ⟨S_, .i32⟩
  | 42 => ⟨S128, .f32⟩
  | 43 => ⟨S128, .i32⟩
  | 44 => ⟨S128x1, .i32⟩
  | 45 => ⟨S128x100000, .f32⟩
  | 46 => ⟨S1x128x100000, .f32⟩
  | 47 => ⟨S128x100000, .f32⟩
  | 48 => ⟨S_, .f32⟩
  | 49 => ⟨S128, .f32⟩
  | 50 => ⟨S_, .f32⟩
  | 51 => ⟨S128, .f32⟩
  | 52 => ⟨S128, .f32⟩
  | 53 => ⟨S128x1, .f32⟩
  | 54 => ⟨S128x100000, .f32⟩
  | 55 => ⟨S128x100000, .f32⟩
  | 56 => ⟨S128x100000, .f32⟩
  | 57 => ⟨S_, .f32⟩
  | 58 => ⟨S128, .f32⟩
  | 59 => ⟨S128x1, .f32⟩
  | 60 => ⟨S128x100000, .f32⟩
  | 61 => ⟨S128x100000, .f32⟩
  | 62 => ⟨S_, .f32⟩
  | 63 => ⟨S128x100000, .f32⟩
  | 64 => ⟨S128x100000, .f32⟩
  | 65 => ⟨S128x100000, .f32⟩
  | 66 => ⟨S_, .f32⟩
  | 67 => ⟨S128, .f32⟩
  | 68 => ⟨S128x1, .f32⟩
  | 69 => ⟨S128x100000, .f32⟩
  | 70 => ⟨S128x100000, .f32⟩
  | 71 => ⟨S_, .f32⟩
  | 72 => ⟨S128x100000, .f32⟩
  | 73 => ⟨S128x100000, .f32⟩
  | 74 => ⟨S128x100000, .f32⟩
  | 75 => ⟨S_, .i32⟩
  | 76 => ⟨S_, .i32⟩
  | 77 => ⟨S_, .i32⟩
  | 78 => ⟨S1, .i32⟩
  | 79 => ⟨S_, .i32⟩
  | 80 => ⟨S_, .i32⟩
  | 81 => ⟨S1, .i32⟩
  | 82 => ⟨S2, .i32⟩
  | 83 => ⟨S1, .i32⟩
  | 84 => ⟨S_, .i32⟩
  | 85 => ⟨S1, .i32⟩
  | 86 => ⟨S_, .i32⟩
  | 87 => ⟨S1, .i32⟩
  | 88 => ⟨S1, .i32⟩
  | 89 => ⟨S_, .i32⟩
  | 90 => ⟨S_, .i32⟩
  | 91 => ⟨S_, .i32⟩
  | 92 => ⟨S1, .i32⟩
  | 93 => ⟨S1, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S_, .i32⟩
  | 101 => ⟨S1, .i32⟩
  | 102 => ⟨S1, .i32⟩
  | 103 => ⟨S1, .i32⟩
  | 104 => ⟨S1, .i32⟩
  | 105 => ⟨S1, .i32⟩
  | 106 => ⟨S_, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S_, .i32⟩
  | 119 => ⟨S1, .i32⟩
  | 120 => ⟨S1, .i32⟩
  | 121 => ⟨S1, .i32⟩
  | 122 => ⟨S1, .i32⟩
  | 123 => ⟨S1, .i32⟩
  | 124 => ⟨S_, .i32⟩
  | 125 => ⟨S1, .i32⟩
  | 126 => ⟨S1, .i32⟩
  | 127 => ⟨S_, .i32⟩
  | _ => ⟨S2x128x100000, .f32⟩

abbrev hbmTy0_5 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S1, .i32⟩
  | 8 => ⟨S_, .i32⟩
  | 9 => ⟨S1, .i32⟩
  | 10 => ⟨S1, .i32⟩
  | 11 => ⟨S1, .i32⟩
  | 12 => ⟨S_, .i32⟩
  | 13 => ⟨S1, .i32⟩
  | 14 => ⟨S1, .i32⟩
  | 15 => ⟨S_, .i32⟩
  | 16 => ⟨S1, .i32⟩
  | 17 => ⟨S1, .i32⟩
  | 18 => ⟨S1, .i32⟩
  | 19 => ⟨S1, .i32⟩
  | 20 => ⟨S1, .i32⟩
  | 21 => ⟨S_, .i32⟩
  | 22 => ⟨S1, .i32⟩
  | 23 => ⟨S1, .i32⟩
  | 24 => ⟨S_, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S_, .i32⟩
  | 34 => ⟨S1, .i32⟩
  | 35 => ⟨S1, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S_, .i32⟩
  | 43 => ⟨S1, .i32⟩
  | 44 => ⟨S1, .i32⟩
  | 45 => ⟨S1, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S_, .i32⟩
  | 59 => ⟨S1, .i32⟩
  | 60 => ⟨S1, .i32⟩
  | 61 => ⟨S1, .i32⟩
  | 62 => ⟨S1, .i32⟩
  | 63 => ⟨S1, .i32⟩
  | 64 => ⟨S_, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S_, .i32⟩
  | 77 => ⟨S1, .i32⟩
  | 78 => ⟨S1, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S_, .i32⟩
  | 102 => ⟨S1, .i32⟩
  | 103 => ⟨S1, .i32⟩
  | 104 => ⟨S1, .i32⟩
  | 105 => ⟨S1, .i32⟩
  | 106 => ⟨S1, .i32⟩
  | 107 => ⟨S_, .i32⟩
  | 108 => ⟨S1, .i32⟩
  | 109 => ⟨S1, .i32⟩
  | 110 => ⟨S_, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S_, .i32⟩
  | 120 => ⟨S1, .i32⟩
  | 121 => ⟨S1, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S2x128x100000, .f32⟩

abbrev hbmTy0_6 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S1, .i32⟩
  | 13 => ⟨S_, .i32⟩
  | 14 => ⟨S1, .i32⟩
  | 15 => ⟨S1, .i32⟩
  | 16 => ⟨S_, .i32⟩
  | 17 => ⟨S1, .i32⟩
  | 18 => ⟨S1, .i32⟩
  | 19 => ⟨S1, .i32⟩
  | 20 => ⟨S1, .i32⟩
  | 21 => ⟨S1, .i32⟩
  | 22 => ⟨S_, .i32⟩
  | 23 => ⟨S1, .i32⟩
  | 24 => ⟨S1, .i32⟩
  | 25 => ⟨S_, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S_, .i32⟩
  | 35 => ⟨S1, .i32⟩
  | 36 => ⟨S1, .i32⟩
  | 37 => ⟨S1, .i32⟩
  | 38 => ⟨S1, .i32⟩
  | 39 => ⟨S1, .i32⟩
  | 40 => ⟨S_, .i32⟩
  | 41 => ⟨S1, .i32⟩
  | 42 => ⟨S1, .i32⟩
  | 43 => ⟨S_, .i32⟩
  | 44 => ⟨S1, .i32⟩
  | 45 => ⟨S1, .i32⟩
  | 46 => ⟨S1, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S2, .i32⟩
  | 56 => ⟨S_, .f32⟩
  | 57 => ⟨S_, .f32⟩
  | 58 => ⟨S_, .f32⟩
  | 59 => ⟨S_, .f32⟩
  | 60 => ⟨S1x1, .f32⟩
  | 61 => ⟨S1x1, .f32⟩
  | 62 => ⟨S1, .i32⟩
  | 63 => ⟨S_, .i32⟩
  | 64 => ⟨S1, .i32⟩
  | 65 => ⟨S_, .i32⟩
  | 66 => ⟨S128x100000, .i64⟩
  | 67 => ⟨S128x100000, .i64⟩
  | 68 => ⟨S_, .i64⟩
  | 69 => ⟨S128x100000, .i64⟩
  | 70 => ⟨S128x100000, .i64⟩
  | 71 => ⟨S_, .i64⟩
  | 72 => ⟨S128x100000, .i64⟩
  | 73 => ⟨S128x100000, .i64⟩
  | 74 => ⟨S128x100000, .i64⟩
  | 75 => ⟨S_, .i64⟩
  | 76 => ⟨S128x100000, .i64⟩
  | 77 => ⟨S128x100000, .i64⟩
  | 78 => ⟨S128x100000, .i32⟩
  | 79 => ⟨S128x100000, .i32⟩
  | 80 => ⟨S_, .i32⟩
  | 81 => ⟨S_, .i32⟩
  | 82 => ⟨S_, .i32⟩
  | 83 => ⟨S128x100000, .i32⟩
  | 84 => ⟨S128x100000, .i32⟩
  | 85 => ⟨S128x100000, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S128x100000, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S128x100000, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S_, .i32⟩
  | _ => ⟨S2x128x100000, .f32⟩

abbrev hbmTy0_7 (i : Nat) : BufTy := match i % 128 with
  | 0 => ⟨S128x100000, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S128x100000, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S_, .i32⟩
  | 16 => ⟨S128x100000, .i32⟩
  | 17 => ⟨S128x100000, .i32⟩
  | 18 => ⟨S128x100000, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S128x100000, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S2x128x100000, .f32⟩

abbrev hbmTy0_8 (i : Nat) : BufTy := match i % 128 with
  | 0 => ⟨S_, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .f32⟩
  | 54 => ⟨S_, .f32⟩
  | 55 => ⟨S128x100000, .f32⟩
  | 56 => ⟨S128x100000, .f32⟩
  | 57 => ⟨S1x1, .f32⟩
  | 58 => ⟨S128x100000, .f32⟩
  | 59 => ⟨S128x100000, .f32⟩
  | 60 => ⟨S128x100000, .f32⟩
  | 61 => ⟨S128x100000, .f32⟩
  | 62 => ⟨S128x100000, .f32⟩
  | 63 => ⟨S128x100000, .f32⟩
  | 64 => ⟨S_, .f32⟩
  | 65 => ⟨S128x100000, .f32⟩
  | 66 => ⟨S128x100000, .f32⟩
  | 67 => ⟨S128x100000, .f32⟩
  | 68 => ⟨S128x100000, .f32⟩
  | 69 => ⟨S128x100000, .f32⟩
  | 70 => ⟨S128x100000, .f32⟩
  | 71 => ⟨S128x100000, .f32⟩
  | 72 => ⟨S128x100000, .i32⟩
  | 73 => ⟨S_, .f32⟩
  | 74 => ⟨S_, .i32⟩
  | 75 => ⟨S128, .f32⟩
  | 76 => ⟨S128, .i32⟩
  | 77 => ⟨S128x1, .i32⟩
  | 78 => ⟨S128x2, .i32⟩
  | 79 => ⟨S128x200000, .f32⟩
  | 80 => ⟨S128x200000, .f32⟩
  | _ => ⟨S2x128x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S2x128x100000, .f32⟩

abbrev bufTy : (tb : Table) → Fin (tcTables nBuf tb) → BufTy
  | .hbm, ⟨i, _⟩ => hbmTy i
  | _, _ => ⟨S2x128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_call0_v0 : Ref sig .tc := ⟨.hbm, 56, rfl⟩
abbrev main_call0_call0_c : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_c_0 : Ref sig .tc := ⟨.hbm, 64, rfl⟩
abbrev main_call0_call0_v7 : Ref sig .tc := ⟨.hbm, 65, rfl⟩
abbrev main_call0_call0_v8 : Ref sig .tc := ⟨.hbm, 66, rfl⟩
abbrev main_call0_call0_c_1 : Ref sig .tc := ⟨.hbm, 67, rfl⟩
abbrev main_call0_call0_v9 : Ref sig .tc := ⟨.hbm, 68, rfl⟩
abbrev main_call0_call0_v10 : Ref sig .tc := ⟨.hbm, 69, rfl⟩
abbrev main_call0_call0_v11 : Ref sig .tc := ⟨.hbm, 70, rfl⟩
abbrev main_call0_call0_v12 : Ref sig .tc := ⟨.hbm, 71, rfl⟩
abbrev main_call0_call0_v13 : Ref sig .tc := ⟨.hbm, 72, rfl⟩
abbrev main_call0_call0_c_2 : Ref sig .tc := ⟨.hbm, 73, rfl⟩
abbrev main_call0_call0_v14 : Ref sig .tc := ⟨.hbm, 74, rfl⟩
abbrev main_call0_call0_v15 : Ref sig .tc := ⟨.hbm, 75, rfl⟩
abbrev main_call0_call0_c_3 : Ref sig .tc := ⟨.hbm, 76, rfl⟩
abbrev main_call0_call0_v16 : Ref sig .tc := ⟨.hbm, 77, rfl⟩
abbrev main_call0_call0_v17 : Ref sig .tc := ⟨.hbm, 78, rfl⟩
abbrev main_call0_call0_v18 : Ref sig .tc := ⟨.hbm, 79, rfl⟩
abbrev main_call0_call0_v19 : Ref sig .tc := ⟨.hbm, 80, rfl⟩
abbrev main_call0_call0_v20 : Ref sig .tc := ⟨.hbm, 81, rfl⟩
abbrev main_call0_call0_c_4 : Ref sig .tc := ⟨.hbm, 82, rfl⟩
abbrev main_call0_call0_v21 : Ref sig .tc := ⟨.hbm, 83, rfl⟩
abbrev main_call0_call0_v22 : Ref sig .tc := ⟨.hbm, 84, rfl⟩
abbrev main_call0_call0_c_5 : Ref sig .tc := ⟨.hbm, 85, rfl⟩
abbrev main_call0_call0_v23 : Ref sig .tc := ⟨.hbm, 86, rfl⟩
abbrev main_call0_call0_v24 : Ref sig .tc := ⟨.hbm, 87, rfl⟩
abbrev main_call0_call0_v25 : Ref sig .tc := ⟨.hbm, 88, rfl⟩
abbrev main_call0_call0_v26 : Ref sig .tc := ⟨.hbm, 89, rfl⟩
abbrev main_call0_call0_v27 : Ref sig .tc := ⟨.hbm, 90, rfl⟩
abbrev main_call0_call0_c_6 : Ref sig .tc := ⟨.hbm, 91, rfl⟩
abbrev main_call0_call0_v28 : Ref sig .tc := ⟨.hbm, 92, rfl⟩
abbrev main_call0_call0_v29 : Ref sig .tc := ⟨.hbm, 93, rfl⟩
abbrev main_call0_call0_c_7 : Ref sig .tc := ⟨.hbm, 94, rfl⟩
abbrev main_call0_call0_v30 : Ref sig .tc := ⟨.hbm, 95, rfl⟩
abbrev main_call0_call0_v31 : Ref sig .tc := ⟨.hbm, 96, rfl⟩
abbrev main_call0_call0_v32 : Ref sig .tc := ⟨.hbm, 97, rfl⟩
abbrev main_call0_call0_v33 : Ref sig .tc := ⟨.hbm, 98, rfl⟩
abbrev main_call0_call0_v34 : Ref sig .tc := ⟨.hbm, 99, rfl⟩
abbrev main_call0_call0_v35 : Ref sig .tc := ⟨.hbm, 100, rfl⟩
abbrev main_call0_call0_v36 : Ref sig .tc := ⟨.hbm, 101, rfl⟩
abbrev main_call0_call0_v37 : Ref sig .tc := ⟨.hbm, 102, rfl⟩
abbrev main_call0_call0_c_8 : Ref sig .tc := ⟨.hbm, 103, rfl⟩
abbrev main_call0_call0_v38 : Ref sig .tc := ⟨.hbm, 104, rfl⟩
abbrev main_call0_call0_v39 : Ref sig .tc := ⟨.hbm, 105, rfl⟩
abbrev main_call0_call0_v40 : Ref sig .tc := ⟨.hbm, 106, rfl⟩
abbrev main_call0_call0_c_9 : Ref sig .tc := ⟨.hbm, 107, rfl⟩
abbrev main_call0_call0_v41 : Ref sig .tc := ⟨.hbm, 108, rfl⟩
abbrev main_call0_call0_v42 : Ref sig .tc := ⟨.hbm, 109, rfl⟩
abbrev main_call0_call0_c_10 : Ref sig .tc := ⟨.hbm, 110, rfl⟩
abbrev main_call0_call0_v43 : Ref sig .tc := ⟨.hbm, 111, rfl⟩
abbrev main_call0_call0_v44 : Ref sig .tc := ⟨.hbm, 112, rfl⟩
abbrev main_call0_call0_v45 : Ref sig .tc := ⟨.hbm, 113, rfl⟩
abbrev main_call0_call0_v46 : Ref sig .tc := ⟨.hbm, 114, rfl⟩
abbrev main_call0_call0_v47 : Ref sig .tc := ⟨.hbm, 115, rfl⟩
abbrev main_call0_call0_c_11 : Ref sig .tc := ⟨.hbm, 116, rfl⟩
abbrev main_call0_call0_v48 : Ref sig .tc := ⟨.hbm, 117, rfl⟩
abbrev main_call0_call0_v49 : Ref sig .tc := ⟨.hbm, 118, rfl⟩
abbrev main_call0_call0_c_12 : Ref sig .tc := ⟨.hbm, 119, rfl⟩
abbrev main_call0_call0_v50 : Ref sig .tc := ⟨.hbm, 120, rfl⟩
abbrev main_call0_call0_v51 : Ref sig .tc := ⟨.hbm, 121, rfl⟩
abbrev main_call0_call0_v52 : Ref sig .tc := ⟨.hbm, 122, rfl⟩
abbrev main_call0_call0_v53 : Ref sig .tc := ⟨.hbm, 123, rfl⟩
abbrev main_call0_call0_v54 : Ref sig .tc := ⟨.hbm, 124, rfl⟩
abbrev main_call0_call0_c_13 : Ref sig .tc := ⟨.hbm, 125, rfl⟩
abbrev main_call0_call0_v55 : Ref sig .tc := ⟨.hbm, 126, rfl⟩
abbrev main_call0_call0_v56 : Ref sig .tc := ⟨.hbm, 127, rfl⟩
abbrev main_call0_call0_c_14 : Ref sig .tc := ⟨.hbm, 128, rfl⟩
abbrev main_call0_call0_v57 : Ref sig .tc := ⟨.hbm, 129, rfl⟩
abbrev main_call0_call0_v58 : Ref sig .tc := ⟨.hbm, 130, rfl⟩
abbrev main_call0_call0_v59 : Ref sig .tc := ⟨.hbm, 131, rfl⟩
abbrev main_call0_call0_v60 : Ref sig .tc := ⟨.hbm, 132, rfl⟩
abbrev main_call0_call0_v61 : Ref sig .tc := ⟨.hbm, 133, rfl⟩
abbrev main_call0_call0_c_15 : Ref sig .tc := ⟨.hbm, 134, rfl⟩
abbrev main_call0_call0_v62 : Ref sig .tc := ⟨.hbm, 135, rfl⟩
abbrev main_call0_call0_v63 : Ref sig .tc := ⟨.hbm, 136, rfl⟩
abbrev main_call0_call0_c_16 : Ref sig .tc := ⟨.hbm, 137, rfl⟩
abbrev main_call0_call0_v64 : Ref sig .tc := ⟨.hbm, 138, rfl⟩
abbrev main_call0_call0_v65 : Ref sig .tc := ⟨.hbm, 139, rfl⟩
abbrev main_call0_call0_v66 : Ref sig .tc := ⟨.hbm, 140, rfl⟩
abbrev main_call0_call0_v67 : Ref sig .tc := ⟨.hbm, 141, rfl⟩
abbrev main_call0_call0_v68 : Ref sig .tc := ⟨.hbm, 142, rfl⟩
abbrev main_call0_call0_v69 : Ref sig .tc := ⟨.hbm, 143, rfl⟩
abbrev main_call0_call0_v70 : Ref sig .tc := ⟨.hbm, 144, rfl⟩
abbrev main_call0_call0_v71 : Ref sig .tc := ⟨.hbm, 145, rfl⟩
abbrev main_call0_call0_c_17 : Ref sig .tc := ⟨.hbm, 146, rfl⟩
abbrev main_call0_call0_v72 : Ref sig .tc := ⟨.hbm, 147, rfl⟩
abbrev main_call0_call0_v73 : Ref sig .tc := ⟨.hbm, 148, rfl⟩
abbrev main_call0_call0_v74 : Ref sig .tc := ⟨.hbm, 149, rfl⟩
abbrev main_call0_call0_c_18 : Ref sig .tc := ⟨.hbm, 150, rfl⟩
abbrev main_call0_call0_v75 : Ref sig .tc := ⟨.hbm, 151, rfl⟩
abbrev main_call0_call0_v76 : Ref sig .tc := ⟨.hbm, 152, rfl⟩
abbrev main_call0_call0_c_19 : Ref sig .tc := ⟨.hbm, 153, rfl⟩
abbrev main_call0_call0_v77 : Ref sig .tc := ⟨.hbm, 154, rfl⟩
abbrev main_call0_call0_v78 : Ref sig .tc := ⟨.hbm, 155, rfl⟩
abbrev main_call0_call0_v79 : Ref sig .tc := ⟨.hbm, 156, rfl⟩
abbrev main_call0_call0_v80 : Ref sig .tc := ⟨.hbm, 157, rfl⟩
abbrev main_call0_call0_v81 : Ref sig .tc := ⟨.hbm, 158, rfl⟩
abbrev main_call0_call0_c_20 : Ref sig .tc := ⟨.hbm, 159, rfl⟩
abbrev main_call0_call0_v82 : Ref sig .tc := ⟨.hbm, 160, rfl⟩
abbrev main_call0_call0_v83 : Ref sig .tc := ⟨.hbm, 161, rfl⟩
abbrev main_call0_call0_c_21 : Ref sig .tc := ⟨.hbm, 162, rfl⟩
abbrev main_call0_call0_v84 : Ref sig .tc := ⟨.hbm, 163, rfl⟩
abbrev main_call0_call0_v85 : Ref sig .tc := ⟨.hbm, 164, rfl⟩
abbrev main_call0_call0_v86 : Ref sig .tc := ⟨.hbm, 165, rfl⟩
abbrev main_call0_call0_v87 : Ref sig .tc := ⟨.hbm, 166, rfl⟩
abbrev main_call0_call0_v88 : Ref sig .tc := ⟨.hbm, 167, rfl⟩
abbrev main_call0_call0_c_22 : Ref sig .tc := ⟨.hbm, 168, rfl⟩
abbrev main_call0_call0_v89 : Ref sig .tc := ⟨.hbm, 169, rfl⟩
abbrev main_call0_call0_v90 : Ref sig .tc := ⟨.hbm, 170, rfl⟩
abbrev main_call0_call0_c_23 : Ref sig .tc := ⟨.hbm, 171, rfl⟩
abbrev main_call0_call0_v91 : Ref sig .tc := ⟨.hbm, 172, rfl⟩
abbrev main_call0_call0_v92 : Ref sig .tc := ⟨.hbm, 173, rfl⟩
abbrev main_call0_call0_v93 : Ref sig .tc := ⟨.hbm, 174, rfl⟩
abbrev main_call0_call0_v94 : Ref sig .tc := ⟨.hbm, 175, rfl⟩
abbrev main_call0_call0_v95 : Ref sig .tc := ⟨.hbm, 176, rfl⟩
abbrev main_call0_call0_c_24 : Ref sig .tc := ⟨.hbm, 177, rfl⟩
abbrev main_call0_call0_v96 : Ref sig .tc := ⟨.hbm, 178, rfl⟩
abbrev main_call0_call0_v97 : Ref sig .tc := ⟨.hbm, 179, rfl⟩
abbrev main_call0_call0_c_25 : Ref sig .tc := ⟨.hbm, 180, rfl⟩
abbrev main_call0_call0_v98 : Ref sig .tc := ⟨.hbm, 181, rfl⟩
abbrev main_call0_call0_v99 : Ref sig .tc := ⟨.hbm, 182, rfl⟩
abbrev main_call0_call0_v100 : Ref sig .tc := ⟨.hbm, 183, rfl⟩
abbrev main_call0_call0_v101 : Ref sig .tc := ⟨.hbm, 184, rfl⟩
abbrev main_call0_call0_v102 : Ref sig .tc := ⟨.hbm, 185, rfl⟩
abbrev main_call0_call0_v103 : Ref sig .tc := ⟨.hbm, 186, rfl⟩
abbrev main_call0_call0_v104 : Ref sig .tc := ⟨.hbm, 187, rfl⟩
abbrev main_call0_call0_v105 : Ref sig .tc := ⟨.hbm, 188, rfl⟩
abbrev main_call0_call0_c_26 : Ref sig .tc := ⟨.hbm, 189, rfl⟩
abbrev main_call0_call0_v106 : Ref sig .tc := ⟨.hbm, 190, rfl⟩
abbrev main_call0_call0_v107 : Ref sig .tc := ⟨.hbm, 191, rfl⟩
abbrev main_call0_call0_v108 : Ref sig .tc := ⟨.hbm, 192, rfl⟩
abbrev main_call0_call0_c_27 : Ref sig .tc := ⟨.hbm, 193, rfl⟩
abbrev main_call0_call0_v109 : Ref sig .tc := ⟨.hbm, 194, rfl⟩
abbrev main_call0_call0_v110 : Ref sig .tc := ⟨.hbm, 195, rfl⟩
abbrev main_call0_call0_c_28 : Ref sig .tc := ⟨.hbm, 196, rfl⟩
abbrev main_call0_call0_v111 : Ref sig .tc := ⟨.hbm, 197, rfl⟩
abbrev main_call0_call0_v112 : Ref sig .tc := ⟨.hbm, 198, rfl⟩
abbrev main_call0_call0_v113 : Ref sig .tc := ⟨.hbm, 199, rfl⟩
abbrev main_call0_call0_v114 : Ref sig .tc := ⟨.hbm, 200, rfl⟩
abbrev main_call0_call0_v115 : Ref sig .tc := ⟨.hbm, 201, rfl⟩
abbrev main_call0_call0_c_29 : Ref sig .tc := ⟨.hbm, 202, rfl⟩
abbrev main_call0_call0_v116 : Ref sig .tc := ⟨.hbm, 203, rfl⟩
abbrev main_call0_call0_v117 : Ref sig .tc := ⟨.hbm, 204, rfl⟩
abbrev main_call0_call0_c_30 : Ref sig .tc := ⟨.hbm, 205, rfl⟩
abbrev main_call0_call0_v118 : Ref sig .tc := ⟨.hbm, 206, rfl⟩
abbrev main_call0_call0_v119 : Ref sig .tc := ⟨.hbm, 207, rfl⟩
abbrev main_call0_call0_v120 : Ref sig .tc := ⟨.hbm, 208, rfl⟩
abbrev main_call0_call0_v121 : Ref sig .tc := ⟨.hbm, 209, rfl⟩
abbrev main_call0_call0_v122 : Ref sig .tc := ⟨.hbm, 210, rfl⟩
abbrev main_call0_call0_c_31 : Ref sig .tc := ⟨.hbm, 211, rfl⟩
abbrev main_call0_call0_v123 : Ref sig .tc := ⟨.hbm, 212, rfl⟩
abbrev main_call0_call0_v124 : Ref sig .tc := ⟨.hbm, 213, rfl⟩
abbrev main_call0_call0_c_32 : Ref sig .tc := ⟨.hbm, 214, rfl⟩
abbrev main_call0_call0_v125 : Ref sig .tc := ⟨.hbm, 215, rfl⟩
abbrev main_call0_call0_v126 : Ref sig .tc := ⟨.hbm, 216, rfl⟩
abbrev main_call0_call0_v127 : Ref sig .tc := ⟨.hbm, 217, rfl⟩
abbrev main_call0_call0_v128 : Ref sig .tc := ⟨.hbm, 218, rfl⟩
abbrev main_call0_call0_v129 : Ref sig .tc := ⟨.hbm, 219, rfl⟩
abbrev main_call0_call0_c_33 : Ref sig .tc := ⟨.hbm, 220, rfl⟩
abbrev main_call0_call0_v130 : Ref sig .tc := ⟨.hbm, 221, rfl⟩
abbrev main_call0_call0_v131 : Ref sig .tc := ⟨.hbm, 222, rfl⟩
abbrev main_call0_call0_c_34 : Ref sig .tc := ⟨.hbm, 223, rfl⟩
abbrev main_call0_call0_v132 : Ref sig .tc := ⟨.hbm, 224, rfl⟩
abbrev main_call0_call0_v133 : Ref sig .tc := ⟨.hbm, 225, rfl⟩
abbrev main_call0_call0_v134 : Ref sig .tc := ⟨.hbm, 226, rfl⟩
abbrev main_call0_call0_v135 : Ref sig .tc := ⟨.hbm, 227, rfl⟩
abbrev main_call0_call0_v136 : Ref sig .tc := ⟨.hbm, 228, rfl⟩
abbrev main_call0_call0_v137 : Ref sig .tc := ⟨.hbm, 229, rfl⟩
abbrev main_call0_call0_v138 : Ref sig .tc := ⟨.hbm, 230, rfl⟩
abbrev main_call0_call0_v139 : Ref sig .tc := ⟨.hbm, 231, rfl⟩
abbrev main_call0_call0_c_35 : Ref sig .tc := ⟨.hbm, 232, rfl⟩
abbrev main_call0_call0_v140 : Ref sig .tc := ⟨.hbm, 233, rfl⟩
abbrev main_call0_call0_v141 : Ref sig .tc := ⟨.hbm, 234, rfl⟩
abbrev main_call0_call0_v142 : Ref sig .tc := ⟨.hbm, 235, rfl⟩
abbrev main_call0_call0_c_36 : Ref sig .tc := ⟨.hbm, 236, rfl⟩
abbrev main_call0_call0_v143 : Ref sig .tc := ⟨.hbm, 237, rfl⟩
abbrev main_call0_call0_v144 : Ref sig .tc := ⟨.hbm, 238, rfl⟩
abbrev main_call0_call0_c_37 : Ref sig .tc := ⟨.hbm, 239, rfl⟩
abbrev main_call0_call0_v145 : Ref sig .tc := ⟨.hbm, 240, rfl⟩
abbrev main_call0_call0_v146 : Ref sig .tc := ⟨.hbm, 241, rfl⟩
abbrev main_call0_call0_v147 : Ref sig .tc := ⟨.hbm, 242, rfl⟩
abbrev main_call0_call0_v148 : Ref sig .tc := ⟨.hbm, 243, rfl⟩
abbrev main_call0_call0_v149 : Ref sig .tc := ⟨.hbm, 244, rfl⟩
abbrev main_call0_call0_c_38 : Ref sig .tc := ⟨.hbm, 245, rfl⟩
abbrev main_call0_call0_v150 : Ref sig .tc := ⟨.hbm, 246, rfl⟩
abbrev main_call0_call0_v151 : Ref sig .tc := ⟨.hbm, 247, rfl⟩
abbrev main_call0_call0_c_39 : Ref sig .tc := ⟨.hbm, 248, rfl⟩
abbrev main_call0_call0_v152 : Ref sig .tc := ⟨.hbm, 249, rfl⟩
abbrev main_call0_call0_v153 : Ref sig .tc := ⟨.hbm, 250, rfl⟩
abbrev main_call0_call0_v154 : Ref sig .tc := ⟨.hbm, 251, rfl⟩
abbrev main_call0_call0_v155 : Ref sig .tc := ⟨.hbm, 252, rfl⟩
abbrev main_call0_call0_v156 : Ref sig .tc := ⟨.hbm, 253, rfl⟩
abbrev main_call0_call0_c_40 : Ref sig .tc := ⟨.hbm, 254, rfl⟩
abbrev main_call0_call0_v157 : Ref sig .tc := ⟨.hbm, 255, rfl⟩
abbrev main_call0_call0_v158 : Ref sig .tc := ⟨.hbm, 256, rfl⟩
abbrev main_call0_call0_c_41 : Ref sig .tc := ⟨.hbm, 257, rfl⟩
abbrev main_call0_call0_v159 : Ref sig .tc := ⟨.hbm, 258, rfl⟩
abbrev main_call0_call0_v160 : Ref sig .tc := ⟨.hbm, 259, rfl⟩
abbrev main_call0_call0_v161 : Ref sig .tc := ⟨.hbm, 260, rfl⟩
abbrev main_call0_call0_v162 : Ref sig .tc := ⟨.hbm, 261, rfl⟩
abbrev main_call0_call0_v163 : Ref sig .tc := ⟨.hbm, 262, rfl⟩
abbrev main_call0_call0_c_42 : Ref sig .tc := ⟨.hbm, 263, rfl⟩
abbrev main_call0_call0_v164 : Ref sig .tc := ⟨.hbm, 264, rfl⟩
abbrev main_call0_call0_v165 : Ref sig .tc := ⟨.hbm, 265, rfl⟩
abbrev main_call0_call0_c_43 : Ref sig .tc := ⟨.hbm, 266, rfl⟩
abbrev main_call0_call0_v166 : Ref sig .tc := ⟨.hbm, 267, rfl⟩
abbrev main_call0_call0_v167 : Ref sig .tc := ⟨.hbm, 268, rfl⟩
abbrev main_call0_call0_v168 : Ref sig .tc := ⟨.hbm, 269, rfl⟩
abbrev main_call0_call0_v169 : Ref sig .tc := ⟨.hbm, 270, rfl⟩
abbrev main_call0_call0_v170 : Ref sig .tc := ⟨.hbm, 271, rfl⟩
abbrev main_call0_v11_0 : Ref sig .tc := ⟨.hbm, 272, rfl⟩
abbrev main_call0_call0_v172 : Ref sig .tc := ⟨.hbm, 273, rfl⟩
abbrev main_call0_call0_v173 : Ref sig .tc := ⟨.hbm, 274, rfl⟩
abbrev main_call0_call0_c_44 : Ref sig .tc := ⟨.hbm, 275, rfl⟩
abbrev main_call0_call0_v174 : Ref sig .tc := ⟨.hbm, 276, rfl⟩
abbrev main_call0_v11_1 : Ref sig .tc := ⟨.hbm, 277, rfl⟩
abbrev main_v31 : Ref sig .tc := ⟨.hbm, 278, rfl⟩
abbrev main_cst_8 : Ref sig .tc := ⟨.hbm, 279, rfl⟩
abbrev main_cst_9 : Ref sig .tc := ⟨.hbm, 280, rfl⟩
abbrev main_call1_v0 : Ref sig .tc := ⟨.hbm, 281, rfl⟩
abbrev main_call1_v1 : Ref sig .tc := ⟨.hbm, 282, rfl⟩
abbrev main_call1_v2 : Ref sig .tc := ⟨.hbm, 283, rfl⟩
abbrev main_call1_v3 : Ref sig .tc := ⟨.hbm, 284, rfl⟩
abbrev main_call1_v4 : Ref sig .tc := ⟨.hbm, 285, rfl⟩
abbrev main_call1_v5 : Ref sig .tc := ⟨.hbm, 286, rfl⟩
abbrev main_call1_v6 : Ref sig .tc := ⟨.hbm, 287, rfl⟩
abbrev main_call1_v7 : Ref sig .tc := ⟨.hbm, 288, rfl⟩
abbrev main_call1_v8 : Ref sig .tc := ⟨.hbm, 289, rfl⟩
abbrev main_call1_v9 : Ref sig .tc := ⟨.hbm, 290, rfl⟩
abbrev main_call1_c : Ref sig .tc := ⟨.hbm, 291, rfl⟩
abbrev main_call1_v10 : Ref sig .tc := ⟨.hbm, 292, rfl⟩
abbrev main_call1_v11 : Ref sig .tc := ⟨.hbm, 293, rfl⟩
abbrev main_call1_c_0 : Ref sig .tc := ⟨.hbm, 294, rfl⟩
abbrev main_call1_v12 : Ref sig .tc := ⟨.hbm, 295, rfl⟩
abbrev main_call1_v13 : Ref sig .tc := ⟨.hbm, 296, rfl⟩
abbrev main_call1_v14 : Ref sig .tc := ⟨.hbm, 297, rfl⟩
abbrev main_call1_c_1 : Ref sig .tc := ⟨.hbm, 298, rfl⟩
abbrev main_call1_v15 : Ref sig .tc := ⟨.hbm, 299, rfl⟩
abbrev main_call1_v16 : Ref sig .tc := ⟨.hbm, 300, rfl⟩
abbrev main_call1_v17 : Ref sig .tc := ⟨.hbm, 301, rfl⟩
abbrev main_call1_v18 : Ref sig .tc := ⟨.hbm, 302, rfl⟩
abbrev main_call1_call0_v0 : Ref sig .tc := ⟨.hbm, 303, rfl⟩
abbrev main_call1_call0_c : Ref sig .tc := ⟨.hbm, 304, rfl⟩
abbrev main_call1_call0_v1 : Ref sig .tc := ⟨.hbm, 305, rfl⟩
abbrev main_call1_call0_v2 : Ref sig .tc := ⟨.hbm, 306, rfl⟩
abbrev main_call1_call0_v3 : Ref sig .tc := ⟨.hbm, 307, rfl⟩
abbrev main_call1_call0_v4 : Ref sig .tc := ⟨.hbm, 308, rfl⟩
abbrev main_call1_call0_v5 : Ref sig .tc := ⟨.hbm, 309, rfl⟩
abbrev main_call1_call0_v6 : Ref sig .tc := ⟨.hbm, 310, rfl⟩
abbrev main_call1_call0_c_0 : Ref sig .tc := ⟨.hbm, 311, rfl⟩
abbrev main_call1_call0_v7 : Ref sig .tc := ⟨.hbm, 312, rfl⟩
abbrev main_call1_call0_v8 : Ref sig .tc := ⟨.hbm, 313, rfl⟩
abbrev main_call1_call0_c_1 : Ref sig .tc := ⟨.hbm, 314, rfl⟩
abbrev main_call1_call0_v9 : Ref sig .tc := ⟨.hbm, 315, rfl⟩
abbrev main_call1_call0_v10 : Ref sig .tc := ⟨.hbm, 316, rfl⟩
abbrev main_call1_call0_v11 : Ref sig .tc := ⟨.hbm, 317, rfl⟩
abbrev main_call1_call0_v12 : Ref sig .tc := ⟨.hbm, 318, rfl⟩
abbrev main_call1_call0_v13 : Ref sig .tc := ⟨.hbm, 319, rfl⟩
abbrev main_call1_call0_c_2 : Ref sig .tc := ⟨.hbm, 320, rfl⟩
abbrev main_call1_call0_v14 : Ref sig .tc := ⟨.hbm, 321, rfl⟩
abbrev main_call1_call0_v15 : Ref sig .tc := ⟨.hbm, 322, rfl⟩
abbrev main_call1_call0_c_3 : Ref sig .tc := ⟨.hbm, 323, rfl⟩
abbrev main_call1_call0_v16 : Ref sig .tc := ⟨.hbm, 324, rfl⟩
abbrev main_call1_call0_v17 : Ref sig .tc := ⟨.hbm, 325, rfl⟩
abbrev main_call1_call0_v18 : Ref sig .tc := ⟨.hbm, 326, rfl⟩
abbrev main_call1_call0_v19 : Ref sig .tc := ⟨.hbm, 327, rfl⟩
abbrev main_call1_call0_v20 : Ref sig .tc := ⟨.hbm, 328, rfl⟩
abbrev main_call1_call0_c_4 : Ref sig .tc := ⟨.hbm, 329, rfl⟩
abbrev main_call1_call0_v21 : Ref sig .tc := ⟨.hbm, 330, rfl⟩
abbrev main_call1_call0_v22 : Ref sig .tc := ⟨.hbm, 331, rfl⟩
abbrev main_call1_call0_c_5 : Ref sig .tc := ⟨.hbm, 332, rfl⟩
abbrev main_call1_call0_v23 : Ref sig .tc := ⟨.hbm, 333, rfl⟩
abbrev main_call1_call0_v24 : Ref sig .tc := ⟨.hbm, 334, rfl⟩
abbrev main_call1_call0_v25 : Ref sig .tc := ⟨.hbm, 335, rfl⟩
abbrev main_call1_call0_v26 : Ref sig .tc := ⟨.hbm, 336, rfl⟩
abbrev main_call1_call0_v27 : Ref sig .tc := ⟨.hbm, 337, rfl⟩
abbrev main_call1_call0_c_6 : Ref sig .tc := ⟨.hbm, 338, rfl⟩
abbrev main_call1_call0_v28 : Ref sig .tc := ⟨.hbm, 339, rfl⟩
abbrev main_call1_call0_v29 : Ref sig .tc := ⟨.hbm, 340, rfl⟩
abbrev main_call1_call0_c_7 : Ref sig .tc := ⟨.hbm, 341, rfl⟩
abbrev main_call1_call0_v30 : Ref sig .tc := ⟨.hbm, 342, rfl⟩
abbrev main_call1_call0_v31 : Ref sig .tc := ⟨.hbm, 343, rfl⟩
abbrev main_call1_call0_v32 : Ref sig .tc := ⟨.hbm, 344, rfl⟩
abbrev main_call1_call0_v33 : Ref sig .tc := ⟨.hbm, 345, rfl⟩
abbrev main_call1_call0_v34 : Ref sig .tc := ⟨.hbm, 346, rfl⟩
abbrev main_call1_call0_v35 : Ref sig .tc := ⟨.hbm, 347, rfl⟩
abbrev main_call1_call0_v36 : Ref sig .tc := ⟨.hbm, 348, rfl⟩
abbrev main_call1_call0_v37 : Ref sig .tc := ⟨.hbm, 349, rfl⟩
abbrev main_call1_call0_c_8 : Ref sig .tc := ⟨.hbm, 350, rfl⟩
abbrev main_call1_call0_v38 : Ref sig .tc := ⟨.hbm, 351, rfl⟩
abbrev main_call1_call0_v39 : Ref sig .tc := ⟨.hbm, 352, rfl⟩
abbrev main_call1_call0_v40 : Ref sig .tc := ⟨.hbm, 353, rfl⟩
abbrev main_call1_call0_c_9 : Ref sig .tc := ⟨.hbm, 354, rfl⟩
abbrev main_call1_call0_v41 : Ref sig .tc := ⟨.hbm, 355, rfl⟩
abbrev main_call1_call0_v42 : Ref sig .tc := ⟨.hbm, 356, rfl⟩
abbrev main_call1_call0_c_10 : Ref sig .tc := ⟨.hbm, 357, rfl⟩
abbrev main_call1_call0_v43 : Ref sig .tc := ⟨.hbm, 358, rfl⟩
abbrev main_call1_call0_v44 : Ref sig .tc := ⟨.hbm, 359, rfl⟩
abbrev main_call1_call0_v45 : Ref sig .tc := ⟨.hbm, 360, rfl⟩
abbrev main_call1_call0_v46 : Ref sig .tc := ⟨.hbm, 361, rfl⟩
abbrev main_call1_call0_v47 : Ref sig .tc := ⟨.hbm, 362, rfl⟩
abbrev main_call1_call0_c_11 : Ref sig .tc := ⟨.hbm, 363, rfl⟩
abbrev main_call1_call0_v48 : Ref sig .tc := ⟨.hbm, 364, rfl⟩
abbrev main_call1_call0_v49 : Ref sig .tc := ⟨.hbm, 365, rfl⟩
abbrev main_call1_call0_c_12 : Ref sig .tc := ⟨.hbm, 366, rfl⟩
abbrev main_call1_call0_v50 : Ref sig .tc := ⟨.hbm, 367, rfl⟩
abbrev main_call1_call0_v51 : Ref sig .tc := ⟨.hbm, 368, rfl⟩
abbrev main_call1_call0_v52 : Ref sig .tc := ⟨.hbm, 369, rfl⟩
abbrev main_call1_call0_v53 : Ref sig .tc := ⟨.hbm, 370, rfl⟩
abbrev main_call1_call0_v54 : Ref sig .tc := ⟨.hbm, 371, rfl⟩
abbrev main_call1_call0_c_13 : Ref sig .tc := ⟨.hbm, 372, rfl⟩
abbrev main_call1_call0_v55 : Ref sig .tc := ⟨.hbm, 373, rfl⟩
abbrev main_call1_call0_v56 : Ref sig .tc := ⟨.hbm, 374, rfl⟩
abbrev main_call1_call0_c_14 : Ref sig .tc := ⟨.hbm, 375, rfl⟩
abbrev main_call1_call0_v57 : Ref sig .tc := ⟨.hbm, 376, rfl⟩
abbrev main_call1_call0_v58 : Ref sig .tc := ⟨.hbm, 377, rfl⟩
abbrev main_call1_call0_v59 : Ref sig .tc := ⟨.hbm, 378, rfl⟩
abbrev main_call1_call0_v60 : Ref sig .tc := ⟨.hbm, 379, rfl⟩
abbrev main_call1_call0_v61 : Ref sig .tc := ⟨.hbm, 380, rfl⟩
abbrev main_call1_call0_c_15 : Ref sig .tc := ⟨.hbm, 381, rfl⟩
abbrev main_call1_call0_v62 : Ref sig .tc := ⟨.hbm, 382, rfl⟩
abbrev main_call1_call0_v63 : Ref sig .tc := ⟨.hbm, 383, rfl⟩
abbrev main_call1_call0_c_16 : Ref sig .tc := ⟨.hbm, 384, rfl⟩
abbrev main_call1_call0_v64 : Ref sig .tc := ⟨.hbm, 385, rfl⟩
abbrev main_call1_call0_v65 : Ref sig .tc := ⟨.hbm, 386, rfl⟩
abbrev main_call1_call0_v66 : Ref sig .tc := ⟨.hbm, 387, rfl⟩
abbrev main_call1_call0_v67 : Ref sig .tc := ⟨.hbm, 388, rfl⟩
abbrev main_call1_call0_v68 : Ref sig .tc := ⟨.hbm, 389, rfl⟩
abbrev main_call1_call0_v69 : Ref sig .tc := ⟨.hbm, 390, rfl⟩
abbrev main_call1_call0_v70 : Ref sig .tc := ⟨.hbm, 391, rfl⟩
abbrev main_call1_call0_v71 : Ref sig .tc := ⟨.hbm, 392, rfl⟩
abbrev main_call1_call0_c_17 : Ref sig .tc := ⟨.hbm, 393, rfl⟩
abbrev main_call1_call0_v72 : Ref sig .tc := ⟨.hbm, 394, rfl⟩
abbrev main_call1_call0_v73 : Ref sig .tc := ⟨.hbm, 395, rfl⟩
abbrev main_call1_call0_v74 : Ref sig .tc := ⟨.hbm, 396, rfl⟩
abbrev main_call1_call0_c_18 : Ref sig .tc := ⟨.hbm, 397, rfl⟩
abbrev main_call1_call0_v75 : Ref sig .tc := ⟨.hbm, 398, rfl⟩
abbrev main_call1_call0_v76 : Ref sig .tc := ⟨.hbm, 399, rfl⟩
abbrev main_call1_call0_c_19 : Ref sig .tc := ⟨.hbm, 400, rfl⟩
abbrev main_call1_call0_v77 : Ref sig .tc := ⟨.hbm, 401, rfl⟩
abbrev main_call1_call0_v78 : Ref sig .tc := ⟨.hbm, 402, rfl⟩
abbrev main_call1_call0_v79 : Ref sig .tc := ⟨.hbm, 403, rfl⟩
abbrev main_call1_call0_v80 : Ref sig .tc := ⟨.hbm, 404, rfl⟩
abbrev main_call1_call0_v81 : Ref sig .tc := ⟨.hbm, 405, rfl⟩
abbrev main_call1_call0_c_20 : Ref sig .tc := ⟨.hbm, 406, rfl⟩
abbrev main_call1_call0_v82 : Ref sig .tc := ⟨.hbm, 407, rfl⟩
abbrev main_call1_call0_v83 : Ref sig .tc := ⟨.hbm, 408, rfl⟩
abbrev main_call1_call0_c_21 : Ref sig .tc := ⟨.hbm, 409, rfl⟩
abbrev main_call1_call0_v84 : Ref sig .tc := ⟨.hbm, 410, rfl⟩
abbrev main_call1_call0_v85 : Ref sig .tc := ⟨.hbm, 411, rfl⟩
abbrev main_call1_call0_v86 : Ref sig .tc := ⟨.hbm, 412, rfl⟩
abbrev main_call1_call0_v87 : Ref sig .tc := ⟨.hbm, 413, rfl⟩
abbrev main_call1_call0_v88 : Ref sig .tc := ⟨.hbm, 414, rfl⟩
abbrev main_call1_call0_c_22 : Ref sig .tc := ⟨.hbm, 415, rfl⟩
abbrev main_call1_call0_v89 : Ref sig .tc := ⟨.hbm, 416, rfl⟩
abbrev main_call1_call0_v90 : Ref sig .tc := ⟨.hbm, 417, rfl⟩
abbrev main_call1_call0_c_23 : Ref sig .tc := ⟨.hbm, 418, rfl⟩
abbrev main_call1_call0_v91 : Ref sig .tc := ⟨.hbm, 419, rfl⟩
abbrev main_call1_call0_v92 : Ref sig .tc := ⟨.hbm, 420, rfl⟩
abbrev main_call1_call0_v93 : Ref sig .tc := ⟨.hbm, 421, rfl⟩
abbrev main_call1_call0_v94 : Ref sig .tc := ⟨.hbm, 422, rfl⟩
abbrev main_call1_call0_v95 : Ref sig .tc := ⟨.hbm, 423, rfl⟩
abbrev main_call1_call0_c_24 : Ref sig .tc := ⟨.hbm, 424, rfl⟩
abbrev main_call1_call0_v96 : Ref sig .tc := ⟨.hbm, 425, rfl⟩
abbrev main_call1_call0_v97 : Ref sig .tc := ⟨.hbm, 426, rfl⟩
abbrev main_call1_call0_c_25 : Ref sig .tc := ⟨.hbm, 427, rfl⟩
abbrev main_call1_call0_v98 : Ref sig .tc := ⟨.hbm, 428, rfl⟩
abbrev main_call1_call0_v99 : Ref sig .tc := ⟨.hbm, 429, rfl⟩
abbrev main_call1_call0_v100 : Ref sig .tc := ⟨.hbm, 430, rfl⟩
abbrev main_call1_call0_v101 : Ref sig .tc := ⟨.hbm, 431, rfl⟩
abbrev main_call1_call0_v102 : Ref sig .tc := ⟨.hbm, 432, rfl⟩
abbrev main_call1_call0_v103 : Ref sig .tc := ⟨.hbm, 433, rfl⟩
abbrev main_call1_call0_v104 : Ref sig .tc := ⟨.hbm, 434, rfl⟩
abbrev main_call1_call0_v105 : Ref sig .tc := ⟨.hbm, 435, rfl⟩
abbrev main_call1_call0_c_26 : Ref sig .tc := ⟨.hbm, 436, rfl⟩
abbrev main_call1_call0_v106 : Ref sig .tc := ⟨.hbm, 437, rfl⟩
abbrev main_call1_call0_v107 : Ref sig .tc := ⟨.hbm, 438, rfl⟩
abbrev main_call1_call0_v108 : Ref sig .tc := ⟨.hbm, 439, rfl⟩
abbrev main_call1_call0_c_27 : Ref sig .tc := ⟨.hbm, 440, rfl⟩
abbrev main_call1_call0_v109 : Ref sig .tc := ⟨.hbm, 441, rfl⟩
abbrev main_call1_call0_v110 : Ref sig .tc := ⟨.hbm, 442, rfl⟩
abbrev main_call1_call0_c_28 : Ref sig .tc := ⟨.hbm, 443, rfl⟩
abbrev main_call1_call0_v111 : Ref sig .tc := ⟨.hbm, 444, rfl⟩
abbrev main_call1_call0_v112 : Ref sig .tc := ⟨.hbm, 445, rfl⟩
abbrev main_call1_call0_v113 : Ref sig .tc := ⟨.hbm, 446, rfl⟩
abbrev main_call1_call0_v114 : Ref sig .tc := ⟨.hbm, 447, rfl⟩
abbrev main_call1_call0_v115 : Ref sig .tc := ⟨.hbm, 448, rfl⟩
abbrev main_call1_call0_c_29 : Ref sig .tc := ⟨.hbm, 449, rfl⟩
abbrev main_call1_call0_v116 : Ref sig .tc := ⟨.hbm, 450, rfl⟩
abbrev main_call1_call0_v117 : Ref sig .tc := ⟨.hbm, 451, rfl⟩
abbrev main_call1_call0_c_30 : Ref sig .tc := ⟨.hbm, 452, rfl⟩
abbrev main_call1_call0_v118 : Ref sig .tc := ⟨.hbm, 453, rfl⟩
abbrev main_call1_call0_v119 : Ref sig .tc := ⟨.hbm, 454, rfl⟩
abbrev main_call1_call0_v120 : Ref sig .tc := ⟨.hbm, 455, rfl⟩
abbrev main_call1_call0_v121 : Ref sig .tc := ⟨.hbm, 456, rfl⟩
abbrev main_call1_call0_v122 : Ref sig .tc := ⟨.hbm, 457, rfl⟩
abbrev main_call1_call0_c_31 : Ref sig .tc := ⟨.hbm, 458, rfl⟩
abbrev main_call1_call0_v123 : Ref sig .tc := ⟨.hbm, 459, rfl⟩
abbrev main_call1_call0_v124 : Ref sig .tc := ⟨.hbm, 460, rfl⟩
abbrev main_call1_call0_c_32 : Ref sig .tc := ⟨.hbm, 461, rfl⟩
abbrev main_call1_call0_v125 : Ref sig .tc := ⟨.hbm, 462, rfl⟩
abbrev main_call1_call0_v126 : Ref sig .tc := ⟨.hbm, 463, rfl⟩
abbrev main_call1_call0_v127 : Ref sig .tc := ⟨.hbm, 464, rfl⟩
abbrev main_call1_call0_v128 : Ref sig .tc := ⟨.hbm, 465, rfl⟩
abbrev main_call1_call0_v129 : Ref sig .tc := ⟨.hbm, 466, rfl⟩
abbrev main_call1_call0_c_33 : Ref sig .tc := ⟨.hbm, 467, rfl⟩
abbrev main_call1_call0_v130 : Ref sig .tc := ⟨.hbm, 468, rfl⟩
abbrev main_call1_call0_v131 : Ref sig .tc := ⟨.hbm, 469, rfl⟩
abbrev main_call1_call0_c_34 : Ref sig .tc := ⟨.hbm, 470, rfl⟩
abbrev main_call1_call0_v132 : Ref sig .tc := ⟨.hbm, 471, rfl⟩
abbrev main_call1_call0_v133 : Ref sig .tc := ⟨.hbm, 472, rfl⟩
abbrev main_call1_call0_v134 : Ref sig .tc := ⟨.hbm, 473, rfl⟩
abbrev main_call1_call0_v135 : Ref sig .tc := ⟨.hbm, 474, rfl⟩
abbrev main_call1_call0_v136 : Ref sig .tc := ⟨.hbm, 475, rfl⟩
abbrev main_call1_call0_v137 : Ref sig .tc := ⟨.hbm, 476, rfl⟩
abbrev main_call1_call0_v138 : Ref sig .tc := ⟨.hbm, 477, rfl⟩
abbrev main_call1_call0_v139 : Ref sig .tc := ⟨.hbm, 478, rfl⟩
abbrev main_call1_call0_c_35 : Ref sig .tc := ⟨.hbm, 479, rfl⟩
abbrev main_call1_call0_v140 : Ref sig .tc := ⟨.hbm, 480, rfl⟩
abbrev main_call1_call0_v141 : Ref sig .tc := ⟨.hbm, 481, rfl⟩
abbrev main_call1_call0_v142 : Ref sig .tc := ⟨.hbm, 482, rfl⟩
abbrev main_call1_call0_c_36 : Ref sig .tc := ⟨.hbm, 483, rfl⟩
abbrev main_call1_call0_v143 : Ref sig .tc := ⟨.hbm, 484, rfl⟩
abbrev main_call1_call0_v144 : Ref sig .tc := ⟨.hbm, 485, rfl⟩
abbrev main_call1_call0_c_37 : Ref sig .tc := ⟨.hbm, 486, rfl⟩
abbrev main_call1_call0_v145 : Ref sig .tc := ⟨.hbm, 487, rfl⟩
abbrev main_call1_call0_v146 : Ref sig .tc := ⟨.hbm, 488, rfl⟩
abbrev main_call1_call0_v147 : Ref sig .tc := ⟨.hbm, 489, rfl⟩
abbrev main_call1_call0_v148 : Ref sig .tc := ⟨.hbm, 490, rfl⟩
abbrev main_call1_call0_v149 : Ref sig .tc := ⟨.hbm, 491, rfl⟩
abbrev main_call1_call0_c_38 : Ref sig .tc := ⟨.hbm, 492, rfl⟩
abbrev main_call1_call0_v150 : Ref sig .tc := ⟨.hbm, 493, rfl⟩
abbrev main_call1_call0_v151 : Ref sig .tc := ⟨.hbm, 494, rfl⟩
abbrev main_call1_call0_c_39 : Ref sig .tc := ⟨.hbm, 495, rfl⟩
abbrev main_call1_call0_v152 : Ref sig .tc := ⟨.hbm, 496, rfl⟩
abbrev main_call1_call0_v153 : Ref sig .tc := ⟨.hbm, 497, rfl⟩
abbrev main_call1_call0_v154 : Ref sig .tc := ⟨.hbm, 498, rfl⟩
abbrev main_call1_call0_v155 : Ref sig .tc := ⟨.hbm, 499, rfl⟩
abbrev main_call1_call0_v156 : Ref sig .tc := ⟨.hbm, 500, rfl⟩
abbrev main_call1_call0_c_40 : Ref sig .tc := ⟨.hbm, 501, rfl⟩
abbrev main_call1_call0_v157 : Ref sig .tc := ⟨.hbm, 502, rfl⟩
abbrev main_call1_call0_v158 : Ref sig .tc := ⟨.hbm, 503, rfl⟩
abbrev main_call1_call0_c_41 : Ref sig .tc := ⟨.hbm, 504, rfl⟩
abbrev main_call1_call0_v159 : Ref sig .tc := ⟨.hbm, 505, rfl⟩
abbrev main_call1_call0_v160 : Ref sig .tc := ⟨.hbm, 506, rfl⟩
abbrev main_call1_call0_v161 : Ref sig .tc := ⟨.hbm, 507, rfl⟩
abbrev main_call1_call0_v162 : Ref sig .tc := ⟨.hbm, 508, rfl⟩
abbrev main_call1_call0_v163 : Ref sig .tc := ⟨.hbm, 509, rfl⟩
abbrev main_call1_call0_c_42 : Ref sig .tc := ⟨.hbm, 510, rfl⟩
abbrev main_call1_call0_v164 : Ref sig .tc := ⟨.hbm, 511, rfl⟩
abbrev main_call1_call0_v165 : Ref sig .tc := ⟨.hbm, 512, rfl⟩
abbrev main_call1_call0_c_43 : Ref sig .tc := ⟨.hbm, 513, rfl⟩
abbrev main_call1_call0_v166 : Ref sig .tc := ⟨.hbm, 514, rfl⟩
abbrev main_call1_call0_v167 : Ref sig .tc := ⟨.hbm, 515, rfl⟩
abbrev main_call1_call0_v168 : Ref sig .tc := ⟨.hbm, 516, rfl⟩
abbrev main_call1_call0_v169 : Ref sig .tc := ⟨.hbm, 517, rfl⟩
abbrev main_call1_call0_v170 : Ref sig .tc := ⟨.hbm, 518, rfl⟩
abbrev main_call1_v19_0 : Ref sig .tc := ⟨.hbm, 519, rfl⟩
abbrev main_call1_call0_v172 : Ref sig .tc := ⟨.hbm, 520, rfl⟩
abbrev main_call1_call0_v173 : Ref sig .tc := ⟨.hbm, 521, rfl⟩
abbrev main_call1_call0_c_44 : Ref sig .tc := ⟨.hbm, 522, rfl⟩
abbrev main_call1_call0_v174 : Ref sig .tc := ⟨.hbm, 523, rfl⟩
abbrev main_call1_v19_1 : Ref sig .tc := ⟨.hbm, 524, rfl⟩
abbrev main_call1_v20 : Ref sig .tc := ⟨.hbm, 525, rfl⟩
abbrev main_call1_c_2 : Ref sig .tc := ⟨.hbm, 526, rfl⟩
abbrev main_call1_v21 : Ref sig .tc := ⟨.hbm, 527, rfl⟩
abbrev main_call1_v22 : Ref sig .tc := ⟨.hbm, 528, rfl⟩
abbrev main_call1_c_3 : Ref sig .tc := ⟨.hbm, 529, rfl⟩
abbrev main_call1_v23 : Ref sig .tc := ⟨.hbm, 530, rfl⟩
abbrev main_call1_v24 : Ref sig .tc := ⟨.hbm, 531, rfl⟩
abbrev main_call1_v25 : Ref sig .tc := ⟨.hbm, 532, rfl⟩
abbrev main_call1_cst : Ref sig .tc := ⟨.hbm, 533, rfl⟩
abbrev main_call1_v26 : Ref sig .tc := ⟨.hbm, 534, rfl⟩
abbrev main_call1_v27 : Ref sig .tc := ⟨.hbm, 535, rfl⟩
abbrev main_call1_v28 : Ref sig .tc := ⟨.hbm, 536, rfl⟩
abbrev main_call1_v29 : Ref sig .tc := ⟨.hbm, 537, rfl⟩
abbrev main_call1_v30 : Ref sig .tc := ⟨.hbm, 538, rfl⟩
abbrev main_call1_v31 : Ref sig .tc := ⟨.hbm, 539, rfl⟩
abbrev main_call1_v32 : Ref sig .tc := ⟨.hbm, 540, rfl⟩
abbrev main_call1_v33 : Ref sig .tc := ⟨.hbm, 541, rfl⟩
abbrev main_v32 : Ref sig .tc := ⟨.hbm, 542, rfl⟩
abbrev main_cst_10 : Ref sig .tc := ⟨.hbm, 543, rfl⟩
abbrev main_v33 : Ref sig .tc := ⟨.hbm, 544, rfl⟩
abbrev main_v34 : Ref sig .tc := ⟨.hbm, 545, rfl⟩
abbrev main_v35 : Ref sig .tc := ⟨.hbm, 546, rfl⟩
abbrev main_v36 : Ref sig .tc := ⟨.hbm, 547, rfl⟩
abbrev main_v37 : Ref sig .tc := ⟨.hbm, 548, rfl⟩
abbrev main_v38 : Ref sig .tc := ⟨.hbm, 549, rfl⟩
abbrev main_v39 : Ref sig .tc := ⟨.hbm, 550, rfl⟩
abbrev main_call2_v0 : Ref sig .tc := ⟨.hbm, 551, rfl⟩
abbrev main_call2_cst : Ref sig .tc := ⟨.hbm, 552, rfl⟩
abbrev main_call2_c : Ref sig .tc := ⟨.hbm, 553, rfl⟩
abbrev main_call2_v1_0 : Ref sig .tc := ⟨.hbm, 554, rfl⟩
abbrev main_v40 : Ref sig .tc := ⟨.hbm, 555, rfl⟩
abbrev main_v41 : Ref sig .tc := ⟨.hbm, 556, rfl⟩
abbrev main_v42 : Ref sig .tc := ⟨.hbm, 557, rfl⟩
abbrev main_v43 : Ref sig .tc := ⟨.hbm, 558, rfl⟩
abbrev main_v44 : Ref sig .tc := ⟨.hbm, 559, rfl⟩
abbrev main_cst_11 : Ref sig .tc := ⟨.hbm, 560, rfl⟩
abbrev main_v45 : Ref sig .tc := ⟨.hbm, 561, rfl⟩
abbrev main_cst_12 : Ref sig .tc := ⟨.hbm, 562, rfl⟩
abbrev main_v46 : Ref sig .tc := ⟨.hbm, 563, rfl⟩
abbrev main_v47 : Ref sig .tc := ⟨.hbm, 564, rfl⟩
abbrev main_v48 : Ref sig .tc := ⟨.hbm, 565, rfl⟩
abbrev main_v49 : Ref sig .tc := ⟨.hbm, 566, rfl⟩
abbrev main_v50 : Ref sig .tc := ⟨.hbm, 567, rfl⟩
abbrev main_v51 : Ref sig .tc := ⟨.hbm, 568, rfl⟩
abbrev main_cst_13 : Ref sig .tc := ⟨.hbm, 569, rfl⟩
abbrev main_v52 : Ref sig .tc := ⟨.hbm, 570, rfl⟩
abbrev main_v53 : Ref sig .tc := ⟨.hbm, 571, rfl⟩
abbrev main_v54 : Ref sig .tc := ⟨.hbm, 572, rfl⟩
abbrev main_v55 : Ref sig .tc := ⟨.hbm, 573, rfl⟩
abbrev main_cst_14 : Ref sig .tc := ⟨.hbm, 574, rfl⟩
abbrev main_v56 : Ref sig .tc := ⟨.hbm, 575, rfl⟩
abbrev main_v57 : Ref sig .tc := ⟨.hbm, 576, rfl⟩
abbrev main_v58 : Ref sig .tc := ⟨.hbm, 577, rfl⟩
abbrev main_cst_15 : Ref sig .tc := ⟨.hbm, 578, rfl⟩
abbrev main_v59 : Ref sig .tc := ⟨.hbm, 579, rfl⟩
abbrev main_v60 : Ref sig .tc := ⟨.hbm, 580, rfl⟩
abbrev main_v61 : Ref sig .tc := ⟨.hbm, 581, rfl⟩
abbrev main_v62 : Ref sig .tc := ⟨.hbm, 582, rfl⟩
abbrev main_cst_16 : Ref sig .tc := ⟨.hbm, 583, rfl⟩
abbrev main_v63 : Ref sig .tc := ⟨.hbm, 584, rfl⟩
abbrev main_v64 : Ref sig .tc := ⟨.hbm, 585, rfl⟩
abbrev main_v65 : Ref sig .tc := ⟨.hbm, 586, rfl⟩
abbrev main_c_17 : Ref sig .tc := ⟨.hbm, 587, rfl⟩
abbrev main_call3_c : Ref sig .tc := ⟨.hbm, 588, rfl⟩
abbrev main_call3_v0 : Ref sig .tc := ⟨.hbm, 589, rfl⟩
abbrev main_call3_v1 : Ref sig .tc := ⟨.hbm, 590, rfl⟩
abbrev main_call3_c_0 : Ref sig .tc := ⟨.hbm, 591, rfl⟩
abbrev main_call3_v2 : Ref sig .tc := ⟨.hbm, 592, rfl⟩
abbrev main_call3_v3 : Ref sig .tc := ⟨.hbm, 593, rfl⟩
abbrev main_call3_v4 : Ref sig .tc := ⟨.hbm, 594, rfl⟩
abbrev main_call3_v5 : Ref sig .tc := ⟨.hbm, 595, rfl⟩
abbrev main_call3_v6 : Ref sig .tc := ⟨.hbm, 596, rfl⟩
abbrev main_call3_v7 : Ref sig .tc := ⟨.hbm, 597, rfl⟩
abbrev main_call3_v8 : Ref sig .tc := ⟨.hbm, 598, rfl⟩
abbrev main_call3_v9 : Ref sig .tc := ⟨.hbm, 599, rfl⟩
abbrev main_call3_v10 : Ref sig .tc := ⟨.hbm, 600, rfl⟩
abbrev main_call3_call0_v0 : Ref sig .tc := ⟨.hbm, 601, rfl⟩
abbrev main_call3_call0_c : Ref sig .tc := ⟨.hbm, 602, rfl⟩
abbrev main_call3_call0_v1 : Ref sig .tc := ⟨.hbm, 603, rfl⟩
abbrev main_call3_call0_v2 : Ref sig .tc := ⟨.hbm, 604, rfl⟩
abbrev main_call3_call0_v3 : Ref sig .tc := ⟨.hbm, 605, rfl⟩
abbrev main_call3_call0_v4 : Ref sig .tc := ⟨.hbm, 606, rfl⟩
abbrev main_call3_call0_v5 : Ref sig .tc := ⟨.hbm, 607, rfl⟩
abbrev main_call3_call0_v6 : Ref sig .tc := ⟨.hbm, 608, rfl⟩
abbrev main_call3_call0_c_0 : Ref sig .tc := ⟨.hbm, 609, rfl⟩
abbrev main_call3_call0_v7 : Ref sig .tc := ⟨.hbm, 610, rfl⟩
abbrev main_call3_call0_v8 : Ref sig .tc := ⟨.hbm, 611, rfl⟩
abbrev main_call3_call0_c_1 : Ref sig .tc := ⟨.hbm, 612, rfl⟩
abbrev main_call3_call0_v9 : Ref sig .tc := ⟨.hbm, 613, rfl⟩
abbrev main_call3_call0_v10 : Ref sig .tc := ⟨.hbm, 614, rfl⟩
abbrev main_call3_call0_v11 : Ref sig .tc := ⟨.hbm, 615, rfl⟩
abbrev main_call3_call0_v12 : Ref sig .tc := ⟨.hbm, 616, rfl⟩
abbrev main_call3_call0_v13 : Ref sig .tc := ⟨.hbm, 617, rfl⟩
abbrev main_call3_call0_c_2 : Ref sig .tc := ⟨.hbm, 618, rfl⟩
abbrev main_call3_call0_v14 : Ref sig .tc := ⟨.hbm, 619, rfl⟩
abbrev main_call3_call0_v15 : Ref sig .tc := ⟨.hbm, 620, rfl⟩
abbrev main_call3_call0_c_3 : Ref sig .tc := ⟨.hbm, 621, rfl⟩
abbrev main_call3_call0_v16 : Ref sig .tc := ⟨.hbm, 622, rfl⟩
abbrev main_call3_call0_v17 : Ref sig .tc := ⟨.hbm, 623, rfl⟩
abbrev main_call3_call0_v18 : Ref sig .tc := ⟨.hbm, 624, rfl⟩
abbrev main_call3_call0_v19 : Ref sig .tc := ⟨.hbm, 625, rfl⟩
abbrev main_call3_call0_v20 : Ref sig .tc := ⟨.hbm, 626, rfl⟩
abbrev main_call3_call0_c_4 : Ref sig .tc := ⟨.hbm, 627, rfl⟩
abbrev main_call3_call0_v21 : Ref sig .tc := ⟨.hbm, 628, rfl⟩
abbrev main_call3_call0_v22 : Ref sig .tc := ⟨.hbm, 629, rfl⟩
abbrev main_call3_call0_c_5 : Ref sig .tc := ⟨.hbm, 630, rfl⟩
abbrev main_call3_call0_v23 : Ref sig .tc := ⟨.hbm, 631, rfl⟩
abbrev main_call3_call0_v24 : Ref sig .tc := ⟨.hbm, 632, rfl⟩
abbrev main_call3_call0_v25 : Ref sig .tc := ⟨.hbm, 633, rfl⟩
abbrev main_call3_call0_v26 : Ref sig .tc := ⟨.hbm, 634, rfl⟩
abbrev main_call3_call0_v27 : Ref sig .tc := ⟨.hbm, 635, rfl⟩
abbrev main_call3_call0_c_6 : Ref sig .tc := ⟨.hbm, 636, rfl⟩
abbrev main_call3_call0_v28 : Ref sig .tc := ⟨.hbm, 637, rfl⟩
abbrev main_call3_call0_v29 : Ref sig .tc := ⟨.hbm, 638, rfl⟩
abbrev main_call3_call0_c_7 : Ref sig .tc := ⟨.hbm, 639, rfl⟩
abbrev main_call3_call0_v30 : Ref sig .tc := ⟨.hbm, 640, rfl⟩
abbrev main_call3_call0_v31 : Ref sig .tc := ⟨.hbm, 641, rfl⟩
abbrev main_call3_call0_v32 : Ref sig .tc := ⟨.hbm, 642, rfl⟩
abbrev main_call3_call0_v33 : Ref sig .tc := ⟨.hbm, 643, rfl⟩
abbrev main_call3_call0_v34 : Ref sig .tc := ⟨.hbm, 644, rfl⟩
abbrev main_call3_call0_v35 : Ref sig .tc := ⟨.hbm, 645, rfl⟩
abbrev main_call3_call0_v36 : Ref sig .tc := ⟨.hbm, 646, rfl⟩
abbrev main_call3_call0_v37 : Ref sig .tc := ⟨.hbm, 647, rfl⟩
abbrev main_call3_call0_c_8 : Ref sig .tc := ⟨.hbm, 648, rfl⟩
abbrev main_call3_call0_v38 : Ref sig .tc := ⟨.hbm, 649, rfl⟩
abbrev main_call3_call0_v39 : Ref sig .tc := ⟨.hbm, 650, rfl⟩
abbrev main_call3_call0_v40 : Ref sig .tc := ⟨.hbm, 651, rfl⟩
abbrev main_call3_call0_c_9 : Ref sig .tc := ⟨.hbm, 652, rfl⟩
abbrev main_call3_call0_v41 : Ref sig .tc := ⟨.hbm, 653, rfl⟩
abbrev main_call3_call0_v42 : Ref sig .tc := ⟨.hbm, 654, rfl⟩
abbrev main_call3_call0_c_10 : Ref sig .tc := ⟨.hbm, 655, rfl⟩
abbrev main_call3_call0_v43 : Ref sig .tc := ⟨.hbm, 656, rfl⟩
abbrev main_call3_call0_v44 : Ref sig .tc := ⟨.hbm, 657, rfl⟩
abbrev main_call3_call0_v45 : Ref sig .tc := ⟨.hbm, 658, rfl⟩
abbrev main_call3_call0_v46 : Ref sig .tc := ⟨.hbm, 659, rfl⟩
abbrev main_call3_call0_v47 : Ref sig .tc := ⟨.hbm, 660, rfl⟩
abbrev main_call3_call0_c_11 : Ref sig .tc := ⟨.hbm, 661, rfl⟩
abbrev main_call3_call0_v48 : Ref sig .tc := ⟨.hbm, 662, rfl⟩
abbrev main_call3_call0_v49 : Ref sig .tc := ⟨.hbm, 663, rfl⟩
abbrev main_call3_call0_c_12 : Ref sig .tc := ⟨.hbm, 664, rfl⟩
abbrev main_call3_call0_v50 : Ref sig .tc := ⟨.hbm, 665, rfl⟩
abbrev main_call3_call0_v51 : Ref sig .tc := ⟨.hbm, 666, rfl⟩
abbrev main_call3_call0_v52 : Ref sig .tc := ⟨.hbm, 667, rfl⟩
abbrev main_call3_call0_v53 : Ref sig .tc := ⟨.hbm, 668, rfl⟩
abbrev main_call3_call0_v54 : Ref sig .tc := ⟨.hbm, 669, rfl⟩
abbrev main_call3_call0_c_13 : Ref sig .tc := ⟨.hbm, 670, rfl⟩
abbrev main_call3_call0_v55 : Ref sig .tc := ⟨.hbm, 671, rfl⟩
abbrev main_call3_call0_v56 : Ref sig .tc := ⟨.hbm, 672, rfl⟩
abbrev main_call3_call0_c_14 : Ref sig .tc := ⟨.hbm, 673, rfl⟩
abbrev main_call3_call0_v57 : Ref sig .tc := ⟨.hbm, 674, rfl⟩
abbrev main_call3_call0_v58 : Ref sig .tc := ⟨.hbm, 675, rfl⟩
abbrev main_call3_call0_v59 : Ref sig .tc := ⟨.hbm, 676, rfl⟩
abbrev main_call3_call0_v60 : Ref sig .tc := ⟨.hbm, 677, rfl⟩
abbrev main_call3_call0_v61 : Ref sig .tc := ⟨.hbm, 678, rfl⟩
abbrev main_call3_call0_c_15 : Ref sig .tc := ⟨.hbm, 679, rfl⟩
abbrev main_call3_call0_v62 : Ref sig .tc := ⟨.hbm, 680, rfl⟩
abbrev main_call3_call0_v63 : Ref sig .tc := ⟨.hbm, 681, rfl⟩
abbrev main_call3_call0_c_16 : Ref sig .tc := ⟨.hbm, 682, rfl⟩
abbrev main_call3_call0_v64 : Ref sig .tc := ⟨.hbm, 683, rfl⟩
abbrev main_call3_call0_v65 : Ref sig .tc := ⟨.hbm, 684, rfl⟩
abbrev main_call3_call0_v66 : Ref sig .tc := ⟨.hbm, 685, rfl⟩
abbrev main_call3_call0_v67 : Ref sig .tc := ⟨.hbm, 686, rfl⟩
abbrev main_call3_call0_v68 : Ref sig .tc := ⟨.hbm, 687, rfl⟩
abbrev main_call3_call0_v69 : Ref sig .tc := ⟨.hbm, 688, rfl⟩
abbrev main_call3_call0_v70 : Ref sig .tc := ⟨.hbm, 689, rfl⟩
abbrev main_call3_call0_v71 : Ref sig .tc := ⟨.hbm, 690, rfl⟩
abbrev main_call3_call0_c_17 : Ref sig .tc := ⟨.hbm, 691, rfl⟩
abbrev main_call3_call0_v72 : Ref sig .tc := ⟨.hbm, 692, rfl⟩
abbrev main_call3_call0_v73 : Ref sig .tc := ⟨.hbm, 693, rfl⟩
abbrev main_call3_call0_v74 : Ref sig .tc := ⟨.hbm, 694, rfl⟩
abbrev main_call3_call0_c_18 : Ref sig .tc := ⟨.hbm, 695, rfl⟩
abbrev main_call3_call0_v75 : Ref sig .tc := ⟨.hbm, 696, rfl⟩
abbrev main_call3_call0_v76 : Ref sig .tc := ⟨.hbm, 697, rfl⟩
abbrev main_call3_call0_c_19 : Ref sig .tc := ⟨.hbm, 698, rfl⟩
abbrev main_call3_call0_v77 : Ref sig .tc := ⟨.hbm, 699, rfl⟩
abbrev main_call3_call0_v78 : Ref sig .tc := ⟨.hbm, 700, rfl⟩
abbrev main_call3_call0_v79 : Ref sig .tc := ⟨.hbm, 701, rfl⟩
abbrev main_call3_call0_v80 : Ref sig .tc := ⟨.hbm, 702, rfl⟩
abbrev main_call3_call0_v81 : Ref sig .tc := ⟨.hbm, 703, rfl⟩
abbrev main_call3_call0_c_20 : Ref sig .tc := ⟨.hbm, 704, rfl⟩
abbrev main_call3_call0_v82 : Ref sig .tc := ⟨.hbm, 705, rfl⟩
abbrev main_call3_call0_v83 : Ref sig .tc := ⟨.hbm, 706, rfl⟩
abbrev main_call3_call0_c_21 : Ref sig .tc := ⟨.hbm, 707, rfl⟩
abbrev main_call3_call0_v84 : Ref sig .tc := ⟨.hbm, 708, rfl⟩
abbrev main_call3_call0_v85 : Ref sig .tc := ⟨.hbm, 709, rfl⟩
abbrev main_call3_call0_v86 : Ref sig .tc := ⟨.hbm, 710, rfl⟩
abbrev main_call3_call0_v87 : Ref sig .tc := ⟨.hbm, 711, rfl⟩
abbrev main_call3_call0_v88 : Ref sig .tc := ⟨.hbm, 712, rfl⟩
abbrev main_call3_call0_c_22 : Ref sig .tc := ⟨.hbm, 713, rfl⟩
abbrev main_call3_call0_v89 : Ref sig .tc := ⟨.hbm, 714, rfl⟩
abbrev main_call3_call0_v90 : Ref sig .tc := ⟨.hbm, 715, rfl⟩
abbrev main_call3_call0_c_23 : Ref sig .tc := ⟨.hbm, 716, rfl⟩
abbrev main_call3_call0_v91 : Ref sig .tc := ⟨.hbm, 717, rfl⟩
abbrev main_call3_call0_v92 : Ref sig .tc := ⟨.hbm, 718, rfl⟩
abbrev main_call3_call0_v93 : Ref sig .tc := ⟨.hbm, 719, rfl⟩
abbrev main_call3_call0_v94 : Ref sig .tc := ⟨.hbm, 720, rfl⟩
abbrev main_call3_call0_v95 : Ref sig .tc := ⟨.hbm, 721, rfl⟩
abbrev main_call3_call0_c_24 : Ref sig .tc := ⟨.hbm, 722, rfl⟩
abbrev main_call3_call0_v96 : Ref sig .tc := ⟨.hbm, 723, rfl⟩
abbrev main_call3_call0_v97 : Ref sig .tc := ⟨.hbm, 724, rfl⟩
abbrev main_call3_call0_c_25 : Ref sig .tc := ⟨.hbm, 725, rfl⟩
abbrev main_call3_call0_v98 : Ref sig .tc := ⟨.hbm, 726, rfl⟩
abbrev main_call3_call0_v99 : Ref sig .tc := ⟨.hbm, 727, rfl⟩
abbrev main_call3_call0_v100 : Ref sig .tc := ⟨.hbm, 728, rfl⟩
abbrev main_call3_call0_v101 : Ref sig .tc := ⟨.hbm, 729, rfl⟩
abbrev main_call3_call0_v102 : Ref sig .tc := ⟨.hbm, 730, rfl⟩
abbrev main_call3_call0_v103 : Ref sig .tc := ⟨.hbm, 731, rfl⟩
abbrev main_call3_call0_v104 : Ref sig .tc := ⟨.hbm, 732, rfl⟩
abbrev main_call3_call0_v105 : Ref sig .tc := ⟨.hbm, 733, rfl⟩
abbrev main_call3_call0_c_26 : Ref sig .tc := ⟨.hbm, 734, rfl⟩
abbrev main_call3_call0_v106 : Ref sig .tc := ⟨.hbm, 735, rfl⟩
abbrev main_call3_call0_v107 : Ref sig .tc := ⟨.hbm, 736, rfl⟩
abbrev main_call3_call0_v108 : Ref sig .tc := ⟨.hbm, 737, rfl⟩
abbrev main_call3_call0_c_27 : Ref sig .tc := ⟨.hbm, 738, rfl⟩
abbrev main_call3_call0_v109 : Ref sig .tc := ⟨.hbm, 739, rfl⟩
abbrev main_call3_call0_v110 : Ref sig .tc := ⟨.hbm, 740, rfl⟩
abbrev main_call3_call0_c_28 : Ref sig .tc := ⟨.hbm, 741, rfl⟩
abbrev main_call3_call0_v111 : Ref sig .tc := ⟨.hbm, 742, rfl⟩
abbrev main_call3_call0_v112 : Ref sig .tc := ⟨.hbm, 743, rfl⟩
abbrev main_call3_call0_v113 : Ref sig .tc := ⟨.hbm, 744, rfl⟩
abbrev main_call3_call0_v114 : Ref sig .tc := ⟨.hbm, 745, rfl⟩
abbrev main_call3_call0_v115 : Ref sig .tc := ⟨.hbm, 746, rfl⟩
abbrev main_call3_call0_c_29 : Ref sig .tc := ⟨.hbm, 747, rfl⟩
abbrev main_call3_call0_v116 : Ref sig .tc := ⟨.hbm, 748, rfl⟩
abbrev main_call3_call0_v117 : Ref sig .tc := ⟨.hbm, 749, rfl⟩
abbrev main_call3_call0_c_30 : Ref sig .tc := ⟨.hbm, 750, rfl⟩
abbrev main_call3_call0_v118 : Ref sig .tc := ⟨.hbm, 751, rfl⟩
abbrev main_call3_call0_v119 : Ref sig .tc := ⟨.hbm, 752, rfl⟩
abbrev main_call3_call0_v120 : Ref sig .tc := ⟨.hbm, 753, rfl⟩
abbrev main_call3_call0_v121 : Ref sig .tc := ⟨.hbm, 754, rfl⟩
abbrev main_call3_call0_v122 : Ref sig .tc := ⟨.hbm, 755, rfl⟩
abbrev main_call3_call0_c_31 : Ref sig .tc := ⟨.hbm, 756, rfl⟩
abbrev main_call3_call0_v123 : Ref sig .tc := ⟨.hbm, 757, rfl⟩
abbrev main_call3_call0_v124 : Ref sig .tc := ⟨.hbm, 758, rfl⟩
abbrev main_call3_call0_c_32 : Ref sig .tc := ⟨.hbm, 759, rfl⟩
abbrev main_call3_call0_v125 : Ref sig .tc := ⟨.hbm, 760, rfl⟩
abbrev main_call3_call0_v126 : Ref sig .tc := ⟨.hbm, 761, rfl⟩
abbrev main_call3_call0_v127 : Ref sig .tc := ⟨.hbm, 762, rfl⟩
abbrev main_call3_call0_v128 : Ref sig .tc := ⟨.hbm, 763, rfl⟩
abbrev main_call3_call0_v129 : Ref sig .tc := ⟨.hbm, 764, rfl⟩
abbrev main_call3_call0_c_33 : Ref sig .tc := ⟨.hbm, 765, rfl⟩
abbrev main_call3_call0_v130 : Ref sig .tc := ⟨.hbm, 766, rfl⟩
abbrev main_call3_call0_v131 : Ref sig .tc := ⟨.hbm, 767, rfl⟩
abbrev main_call3_call0_c_34 : Ref sig .tc := ⟨.hbm, 768, rfl⟩
abbrev main_call3_call0_v132 : Ref sig .tc := ⟨.hbm, 769, rfl⟩
abbrev main_call3_call0_v133 : Ref sig .tc := ⟨.hbm, 770, rfl⟩
abbrev main_call3_call0_v134 : Ref sig .tc := ⟨.hbm, 771, rfl⟩
abbrev main_call3_call0_v135 : Ref sig .tc := ⟨.hbm, 772, rfl⟩
abbrev main_call3_call0_v136 : Ref sig .tc := ⟨.hbm, 773, rfl⟩
abbrev main_call3_call0_v137 : Ref sig .tc := ⟨.hbm, 774, rfl⟩
abbrev main_call3_call0_v138 : Ref sig .tc := ⟨.hbm, 775, rfl⟩
abbrev main_call3_call0_v139 : Ref sig .tc := ⟨.hbm, 776, rfl⟩
abbrev main_call3_call0_c_35 : Ref sig .tc := ⟨.hbm, 777, rfl⟩
abbrev main_call3_call0_v140 : Ref sig .tc := ⟨.hbm, 778, rfl⟩
abbrev main_call3_call0_v141 : Ref sig .tc := ⟨.hbm, 779, rfl⟩
abbrev main_call3_call0_v142 : Ref sig .tc := ⟨.hbm, 780, rfl⟩
abbrev main_call3_call0_c_36 : Ref sig .tc := ⟨.hbm, 781, rfl⟩
abbrev main_call3_call0_v143 : Ref sig .tc := ⟨.hbm, 782, rfl⟩
abbrev main_call3_call0_v144 : Ref sig .tc := ⟨.hbm, 783, rfl⟩
abbrev main_call3_call0_c_37 : Ref sig .tc := ⟨.hbm, 784, rfl⟩
abbrev main_call3_call0_v145 : Ref sig .tc := ⟨.hbm, 785, rfl⟩
abbrev main_call3_call0_v146 : Ref sig .tc := ⟨.hbm, 786, rfl⟩
abbrev main_call3_call0_v147 : Ref sig .tc := ⟨.hbm, 787, rfl⟩
abbrev main_call3_call0_v148 : Ref sig .tc := ⟨.hbm, 788, rfl⟩
abbrev main_call3_call0_v149 : Ref sig .tc := ⟨.hbm, 789, rfl⟩
abbrev main_call3_call0_c_38 : Ref sig .tc := ⟨.hbm, 790, rfl⟩
abbrev main_call3_call0_v150 : Ref sig .tc := ⟨.hbm, 791, rfl⟩
abbrev main_call3_call0_v151 : Ref sig .tc := ⟨.hbm, 792, rfl⟩
abbrev main_call3_call0_c_39 : Ref sig .tc := ⟨.hbm, 793, rfl⟩
abbrev main_call3_call0_v152 : Ref sig .tc := ⟨.hbm, 794, rfl⟩
abbrev main_call3_call0_v153 : Ref sig .tc := ⟨.hbm, 795, rfl⟩
abbrev main_call3_call0_v154 : Ref sig .tc := ⟨.hbm, 796, rfl⟩
abbrev main_call3_call0_v155 : Ref sig .tc := ⟨.hbm, 797, rfl⟩
abbrev main_call3_call0_v156 : Ref sig .tc := ⟨.hbm, 798, rfl⟩
abbrev main_call3_call0_c_40 : Ref sig .tc := ⟨.hbm, 799, rfl⟩
abbrev main_call3_call0_v157 : Ref sig .tc := ⟨.hbm, 800, rfl⟩
abbrev main_call3_call0_v158 : Ref sig .tc := ⟨.hbm, 801, rfl⟩
abbrev main_call3_call0_c_41 : Ref sig .tc := ⟨.hbm, 802, rfl⟩
abbrev main_call3_call0_v159 : Ref sig .tc := ⟨.hbm, 803, rfl⟩
abbrev main_call3_call0_v160 : Ref sig .tc := ⟨.hbm, 804, rfl⟩
abbrev main_call3_call0_v161 : Ref sig .tc := ⟨.hbm, 805, rfl⟩
abbrev main_call3_call0_v162 : Ref sig .tc := ⟨.hbm, 806, rfl⟩
abbrev main_call3_call0_v163 : Ref sig .tc := ⟨.hbm, 807, rfl⟩
abbrev main_call3_call0_c_42 : Ref sig .tc := ⟨.hbm, 808, rfl⟩
abbrev main_call3_call0_v164 : Ref sig .tc := ⟨.hbm, 809, rfl⟩
abbrev main_call3_call0_v165 : Ref sig .tc := ⟨.hbm, 810, rfl⟩
abbrev main_call3_call0_c_43 : Ref sig .tc := ⟨.hbm, 811, rfl⟩
abbrev main_call3_call0_v166 : Ref sig .tc := ⟨.hbm, 812, rfl⟩
abbrev main_call3_call0_v167 : Ref sig .tc := ⟨.hbm, 813, rfl⟩
abbrev main_call3_call0_v168 : Ref sig .tc := ⟨.hbm, 814, rfl⟩
abbrev main_call3_call0_v169 : Ref sig .tc := ⟨.hbm, 815, rfl⟩
abbrev main_call3_call0_v170 : Ref sig .tc := ⟨.hbm, 816, rfl⟩
abbrev main_call3_v11_0 : Ref sig .tc := ⟨.hbm, 817, rfl⟩
abbrev main_call3_call0_v172 : Ref sig .tc := ⟨.hbm, 818, rfl⟩
abbrev main_call3_call0_v173 : Ref sig .tc := ⟨.hbm, 819, rfl⟩
abbrev main_call3_call0_c_44 : Ref sig .tc := ⟨.hbm, 820, rfl⟩
abbrev main_call3_call0_v174 : Ref sig .tc := ⟨.hbm, 821, rfl⟩
abbrev main_call3_v11_1 : Ref sig .tc := ⟨.hbm, 822, rfl⟩
abbrev main_v66 : Ref sig .tc := ⟨.hbm, 823, rfl⟩
abbrev main_cst_18 : Ref sig .tc := ⟨.hbm, 824, rfl⟩
abbrev main_cst_19 : Ref sig .tc := ⟨.hbm, 825, rfl⟩
abbrev main_call4_v0 : Ref sig .tc := ⟨.hbm, 826, rfl⟩
abbrev main_call4_v1 : Ref sig .tc := ⟨.hbm, 827, rfl⟩
abbrev main_call4_v2 : Ref sig .tc := ⟨.hbm, 828, rfl⟩
abbrev main_call4_v3 : Ref sig .tc := ⟨.hbm, 829, rfl⟩
abbrev main_call4_v4 : Ref sig .tc := ⟨.hbm, 830, rfl⟩
abbrev main_call4_v5 : Ref sig .tc := ⟨.hbm, 831, rfl⟩
abbrev main_call4_v6 : Ref sig .tc := ⟨.hbm, 832, rfl⟩
abbrev main_call4_v7 : Ref sig .tc := ⟨.hbm, 833, rfl⟩
abbrev main_call4_v8 : Ref sig .tc := ⟨.hbm, 834, rfl⟩
abbrev main_call4_v9 : Ref sig .tc := ⟨.hbm, 835, rfl⟩
abbrev main_call4_c : Ref sig .tc := ⟨.hbm, 836, rfl⟩
abbrev main_call4_v10 : Ref sig .tc := ⟨.hbm, 837, rfl⟩
abbrev main_call4_v11 : Ref sig .tc := ⟨.hbm, 838, rfl⟩
abbrev main_call4_c_0 : Ref sig .tc := ⟨.hbm, 839, rfl⟩
abbrev main_call4_v12 : Ref sig .tc := ⟨.hbm, 840, rfl⟩
abbrev main_call4_v13 : Ref sig .tc := ⟨.hbm, 841, rfl⟩
abbrev main_call4_v14 : Ref sig .tc := ⟨.hbm, 842, rfl⟩
abbrev main_call4_c_1 : Ref sig .tc := ⟨.hbm, 843, rfl⟩
abbrev main_call4_v15 : Ref sig .tc := ⟨.hbm, 844, rfl⟩
abbrev main_call4_v16 : Ref sig .tc := ⟨.hbm, 845, rfl⟩
abbrev main_call4_v17 : Ref sig .tc := ⟨.hbm, 846, rfl⟩
abbrev main_call4_v18 : Ref sig .tc := ⟨.hbm, 847, rfl⟩
abbrev main_call4_call0_v0 : Ref sig .tc := ⟨.hbm, 848, rfl⟩
abbrev main_call4_call0_c : Ref sig .tc := ⟨.hbm, 849, rfl⟩
abbrev main_call4_call0_v1 : Ref sig .tc := ⟨.hbm, 850, rfl⟩
abbrev main_call4_call0_v2 : Ref sig .tc := ⟨.hbm, 851, rfl⟩
abbrev main_call4_call0_v3 : Ref sig .tc := ⟨.hbm, 852, rfl⟩
abbrev main_call4_call0_v4 : Ref sig .tc := ⟨.hbm, 853, rfl⟩
abbrev main_call4_call0_v5 : Ref sig .tc := ⟨.hbm, 854, rfl⟩
abbrev main_call4_call0_v6 : Ref sig .tc := ⟨.hbm, 855, rfl⟩
abbrev main_call4_call0_c_0 : Ref sig .tc := ⟨.hbm, 856, rfl⟩
abbrev main_call4_call0_v7 : Ref sig .tc := ⟨.hbm, 857, rfl⟩
abbrev main_call4_call0_v8 : Ref sig .tc := ⟨.hbm, 858, rfl⟩
abbrev main_call4_call0_c_1 : Ref sig .tc := ⟨.hbm, 859, rfl⟩
abbrev main_call4_call0_v9 : Ref sig .tc := ⟨.hbm, 860, rfl⟩
abbrev main_call4_call0_v10 : Ref sig .tc := ⟨.hbm, 861, rfl⟩
abbrev main_call4_call0_v11 : Ref sig .tc := ⟨.hbm, 862, rfl⟩
abbrev main_call4_call0_v12 : Ref sig .tc := ⟨.hbm, 863, rfl⟩
abbrev main_call4_call0_v13 : Ref sig .tc := ⟨.hbm, 864, rfl⟩
abbrev main_call4_call0_c_2 : Ref sig .tc := ⟨.hbm, 865, rfl⟩
abbrev main_call4_call0_v14 : Ref sig .tc := ⟨.hbm, 866, rfl⟩
abbrev main_call4_call0_v15 : Ref sig .tc := ⟨.hbm, 867, rfl⟩
abbrev main_call4_call0_c_3 : Ref sig .tc := ⟨.hbm, 868, rfl⟩
abbrev main_call4_call0_v16 : Ref sig .tc := ⟨.hbm, 869, rfl⟩
abbrev main_call4_call0_v17 : Ref sig .tc := ⟨.hbm, 870, rfl⟩
abbrev main_call4_call0_v18 : Ref sig .tc := ⟨.hbm, 871, rfl⟩
abbrev main_call4_call0_v19 : Ref sig .tc := ⟨.hbm, 872, rfl⟩
abbrev main_call4_call0_v20 : Ref sig .tc := ⟨.hbm, 873, rfl⟩
abbrev main_call4_call0_c_4 : Ref sig .tc := ⟨.hbm, 874, rfl⟩
abbrev main_call4_call0_v21 : Ref sig .tc := ⟨.hbm, 875, rfl⟩
abbrev main_call4_call0_v22 : Ref sig .tc := ⟨.hbm, 876, rfl⟩
abbrev main_call4_call0_c_5 : Ref sig .tc := ⟨.hbm, 877, rfl⟩
abbrev main_call4_call0_v23 : Ref sig .tc := ⟨.hbm, 878, rfl⟩
abbrev main_call4_call0_v24 : Ref sig .tc := ⟨.hbm, 879, rfl⟩
abbrev main_call4_call0_v25 : Ref sig .tc := ⟨.hbm, 880, rfl⟩
abbrev main_call4_call0_v26 : Ref sig .tc := ⟨.hbm, 881, rfl⟩
abbrev main_call4_call0_v27 : Ref sig .tc := ⟨.hbm, 882, rfl⟩
abbrev main_call4_call0_c_6 : Ref sig .tc := ⟨.hbm, 883, rfl⟩
abbrev main_call4_call0_v28 : Ref sig .tc := ⟨.hbm, 884, rfl⟩
abbrev main_call4_call0_v29 : Ref sig .tc := ⟨.hbm, 885, rfl⟩
abbrev main_call4_call0_c_7 : Ref sig .tc := ⟨.hbm, 886, rfl⟩
abbrev main_call4_call0_v30 : Ref sig .tc := ⟨.hbm, 887, rfl⟩
abbrev main_call4_call0_v31 : Ref sig .tc := ⟨.hbm, 888, rfl⟩
abbrev main_call4_call0_v32 : Ref sig .tc := ⟨.hbm, 889, rfl⟩
abbrev main_call4_call0_v33 : Ref sig .tc := ⟨.hbm, 890, rfl⟩
abbrev main_call4_call0_v34 : Ref sig .tc := ⟨.hbm, 891, rfl⟩
abbrev main_call4_call0_v35 : Ref sig .tc := ⟨.hbm, 892, rfl⟩
abbrev main_call4_call0_v36 : Ref sig .tc := ⟨.hbm, 893, rfl⟩
abbrev main_call4_call0_v37 : Ref sig .tc := ⟨.hbm, 894, rfl⟩
abbrev main_call4_call0_c_8 : Ref sig .tc := ⟨.hbm, 895, rfl⟩
abbrev main_call4_call0_v38 : Ref sig .tc := ⟨.hbm, 896, rfl⟩
abbrev main_call4_call0_v39 : Ref sig .tc := ⟨.hbm, 897, rfl⟩
abbrev main_call4_call0_v40 : Ref sig .tc := ⟨.hbm, 898, rfl⟩
abbrev main_call4_call0_c_9 : Ref sig .tc := ⟨.hbm, 899, rfl⟩
abbrev main_call4_call0_v41 : Ref sig .tc := ⟨.hbm, 900, rfl⟩
abbrev main_call4_call0_v42 : Ref sig .tc := ⟨.hbm, 901, rfl⟩
abbrev main_call4_call0_c_10 : Ref sig .tc := ⟨.hbm, 902, rfl⟩
abbrev main_call4_call0_v43 : Ref sig .tc := ⟨.hbm, 903, rfl⟩
abbrev main_call4_call0_v44 : Ref sig .tc := ⟨.hbm, 904, rfl⟩
abbrev main_call4_call0_v45 : Ref sig .tc := ⟨.hbm, 905, rfl⟩
abbrev main_call4_call0_v46 : Ref sig .tc := ⟨.hbm, 906, rfl⟩
abbrev main_call4_call0_v47 : Ref sig .tc := ⟨.hbm, 907, rfl⟩
abbrev main_call4_call0_c_11 : Ref sig .tc := ⟨.hbm, 908, rfl⟩
abbrev main_call4_call0_v48 : Ref sig .tc := ⟨.hbm, 909, rfl⟩
abbrev main_call4_call0_v49 : Ref sig .tc := ⟨.hbm, 910, rfl⟩
abbrev main_call4_call0_c_12 : Ref sig .tc := ⟨.hbm, 911, rfl⟩
abbrev main_call4_call0_v50 : Ref sig .tc := ⟨.hbm, 912, rfl⟩
abbrev main_call4_call0_v51 : Ref sig .tc := ⟨.hbm, 913, rfl⟩
abbrev main_call4_call0_v52 : Ref sig .tc := ⟨.hbm, 914, rfl⟩
abbrev main_call4_call0_v53 : Ref sig .tc := ⟨.hbm, 915, rfl⟩
abbrev main_call4_call0_v54 : Ref sig .tc := ⟨.hbm, 916, rfl⟩
abbrev main_call4_call0_c_13 : Ref sig .tc := ⟨.hbm, 917, rfl⟩
abbrev main_call4_call0_v55 : Ref sig .tc := ⟨.hbm, 918, rfl⟩
abbrev main_call4_call0_v56 : Ref sig .tc := ⟨.hbm, 919, rfl⟩
abbrev main_call4_call0_c_14 : Ref sig .tc := ⟨.hbm, 920, rfl⟩
abbrev main_call4_call0_v57 : Ref sig .tc := ⟨.hbm, 921, rfl⟩
abbrev main_call4_call0_v58 : Ref sig .tc := ⟨.hbm, 922, rfl⟩
abbrev main_call4_call0_v59 : Ref sig .tc := ⟨.hbm, 923, rfl⟩
abbrev main_call4_call0_v60 : Ref sig .tc := ⟨.hbm, 924, rfl⟩
abbrev main_call4_call0_v61 : Ref sig .tc := ⟨.hbm, 925, rfl⟩
abbrev main_call4_call0_c_15 : Ref sig .tc := ⟨.hbm, 926, rfl⟩
abbrev main_call4_call0_v62 : Ref sig .tc := ⟨.hbm, 927, rfl⟩
abbrev main_call4_call0_v63 : Ref sig .tc := ⟨.hbm, 928, rfl⟩
abbrev main_call4_call0_c_16 : Ref sig .tc := ⟨.hbm, 929, rfl⟩
abbrev main_call4_call0_v64 : Ref sig .tc := ⟨.hbm, 930, rfl⟩
abbrev main_call4_call0_v65 : Ref sig .tc := ⟨.hbm, 931, rfl⟩
abbrev main_call4_call0_v66 : Ref sig .tc := ⟨.hbm, 932, rfl⟩
abbrev main_call4_call0_v67 : Ref sig .tc := ⟨.hbm, 933, rfl⟩
abbrev main_call4_call0_v68 : Ref sig .tc := ⟨.hbm, 934, rfl⟩
abbrev main_call4_call0_v69 : Ref sig .tc := ⟨.hbm, 935, rfl⟩
abbrev main_call4_call0_v70 : Ref sig .tc := ⟨.hbm, 936, rfl⟩
abbrev main_call4_call0_v71 : Ref sig .tc := ⟨.hbm, 937, rfl⟩
abbrev main_call4_call0_c_17 : Ref sig .tc := ⟨.hbm, 938, rfl⟩
abbrev main_call4_call0_v72 : Ref sig .tc := ⟨.hbm, 939, rfl⟩
abbrev main_call4_call0_v73 : Ref sig .tc := ⟨.hbm, 940, rfl⟩
abbrev main_call4_call0_v74 : Ref sig .tc := ⟨.hbm, 941, rfl⟩
abbrev main_call4_call0_c_18 : Ref sig .tc := ⟨.hbm, 942, rfl⟩
abbrev main_call4_call0_v75 : Ref sig .tc := ⟨.hbm, 943, rfl⟩
abbrev main_call4_call0_v76 : Ref sig .tc := ⟨.hbm, 944, rfl⟩
abbrev main_call4_call0_c_19 : Ref sig .tc := ⟨.hbm, 945, rfl⟩
abbrev main_call4_call0_v77 : Ref sig .tc := ⟨.hbm, 946, rfl⟩
abbrev main_call4_call0_v78 : Ref sig .tc := ⟨.hbm, 947, rfl⟩
abbrev main_call4_call0_v79 : Ref sig .tc := ⟨.hbm, 948, rfl⟩
abbrev main_call4_call0_v80 : Ref sig .tc := ⟨.hbm, 949, rfl⟩
abbrev main_call4_call0_v81 : Ref sig .tc := ⟨.hbm, 950, rfl⟩
abbrev main_call4_call0_c_20 : Ref sig .tc := ⟨.hbm, 951, rfl⟩
abbrev main_call4_call0_v82 : Ref sig .tc := ⟨.hbm, 952, rfl⟩
abbrev main_call4_call0_v83 : Ref sig .tc := ⟨.hbm, 953, rfl⟩
abbrev main_call4_call0_c_21 : Ref sig .tc := ⟨.hbm, 954, rfl⟩
abbrev main_call4_call0_v84 : Ref sig .tc := ⟨.hbm, 955, rfl⟩
abbrev main_call4_call0_v85 : Ref sig .tc := ⟨.hbm, 956, rfl⟩
abbrev main_call4_call0_v86 : Ref sig .tc := ⟨.hbm, 957, rfl⟩
abbrev main_call4_call0_v87 : Ref sig .tc := ⟨.hbm, 958, rfl⟩
abbrev main_call4_call0_v88 : Ref sig .tc := ⟨.hbm, 959, rfl⟩
abbrev main_call4_call0_c_22 : Ref sig .tc := ⟨.hbm, 960, rfl⟩
abbrev main_call4_call0_v89 : Ref sig .tc := ⟨.hbm, 961, rfl⟩
abbrev main_call4_call0_v90 : Ref sig .tc := ⟨.hbm, 962, rfl⟩
abbrev main_call4_call0_c_23 : Ref sig .tc := ⟨.hbm, 963, rfl⟩
abbrev main_call4_call0_v91 : Ref sig .tc := ⟨.hbm, 964, rfl⟩
abbrev main_call4_call0_v92 : Ref sig .tc := ⟨.hbm, 965, rfl⟩
abbrev main_call4_call0_v93 : Ref sig .tc := ⟨.hbm, 966, rfl⟩
abbrev main_call4_call0_v94 : Ref sig .tc := ⟨.hbm, 967, rfl⟩
abbrev main_call4_call0_v95 : Ref sig .tc := ⟨.hbm, 968, rfl⟩
abbrev main_call4_call0_c_24 : Ref sig .tc := ⟨.hbm, 969, rfl⟩
abbrev main_call4_call0_v96 : Ref sig .tc := ⟨.hbm, 970, rfl⟩
abbrev main_call4_call0_v97 : Ref sig .tc := ⟨.hbm, 971, rfl⟩
abbrev main_call4_call0_c_25 : Ref sig .tc := ⟨.hbm, 972, rfl⟩
abbrev main_call4_call0_v98 : Ref sig .tc := ⟨.hbm, 973, rfl⟩
abbrev main_call4_call0_v99 : Ref sig .tc := ⟨.hbm, 974, rfl⟩
abbrev main_call4_call0_v100 : Ref sig .tc := ⟨.hbm, 975, rfl⟩
abbrev main_call4_call0_v101 : Ref sig .tc := ⟨.hbm, 976, rfl⟩
abbrev main_call4_call0_v102 : Ref sig .tc := ⟨.hbm, 977, rfl⟩
abbrev main_call4_call0_v103 : Ref sig .tc := ⟨.hbm, 978, rfl⟩
abbrev main_call4_call0_v104 : Ref sig .tc := ⟨.hbm, 979, rfl⟩
abbrev main_call4_call0_v105 : Ref sig .tc := ⟨.hbm, 980, rfl⟩
abbrev main_call4_call0_c_26 : Ref sig .tc := ⟨.hbm, 981, rfl⟩
abbrev main_call4_call0_v106 : Ref sig .tc := ⟨.hbm, 982, rfl⟩
abbrev main_call4_call0_v107 : Ref sig .tc := ⟨.hbm, 983, rfl⟩
abbrev main_call4_call0_v108 : Ref sig .tc := ⟨.hbm, 984, rfl⟩
abbrev main_call4_call0_c_27 : Ref sig .tc := ⟨.hbm, 985, rfl⟩
abbrev main_call4_call0_v109 : Ref sig .tc := ⟨.hbm, 986, rfl⟩
abbrev main_call4_call0_v110 : Ref sig .tc := ⟨.hbm, 987, rfl⟩
abbrev main_call4_call0_c_28 : Ref sig .tc := ⟨.hbm, 988, rfl⟩
abbrev main_call4_call0_v111 : Ref sig .tc := ⟨.hbm, 989, rfl⟩
abbrev main_call4_call0_v112 : Ref sig .tc := ⟨.hbm, 990, rfl⟩
abbrev main_call4_call0_v113 : Ref sig .tc := ⟨.hbm, 991, rfl⟩
abbrev main_call4_call0_v114 : Ref sig .tc := ⟨.hbm, 992, rfl⟩
abbrev main_call4_call0_v115 : Ref sig .tc := ⟨.hbm, 993, rfl⟩
abbrev main_call4_call0_c_29 : Ref sig .tc := ⟨.hbm, 994, rfl⟩
abbrev main_call4_call0_v116 : Ref sig .tc := ⟨.hbm, 995, rfl⟩
abbrev main_call4_call0_v117 : Ref sig .tc := ⟨.hbm, 996, rfl⟩
abbrev main_call4_call0_c_30 : Ref sig .tc := ⟨.hbm, 997, rfl⟩
abbrev main_call4_call0_v118 : Ref sig .tc := ⟨.hbm, 998, rfl⟩
abbrev main_call4_call0_v119 : Ref sig .tc := ⟨.hbm, 999, rfl⟩
abbrev main_call4_call0_v120 : Ref sig .tc := ⟨.hbm, 1000, rfl⟩
abbrev main_call4_call0_v121 : Ref sig .tc := ⟨.hbm, 1001, rfl⟩
abbrev main_call4_call0_v122 : Ref sig .tc := ⟨.hbm, 1002, rfl⟩
abbrev main_call4_call0_c_31 : Ref sig .tc := ⟨.hbm, 1003, rfl⟩
abbrev main_call4_call0_v123 : Ref sig .tc := ⟨.hbm, 1004, rfl⟩
abbrev main_call4_call0_v124 : Ref sig .tc := ⟨.hbm, 1005, rfl⟩
abbrev main_call4_call0_c_32 : Ref sig .tc := ⟨.hbm, 1006, rfl⟩
abbrev main_call4_call0_v125 : Ref sig .tc := ⟨.hbm, 1007, rfl⟩
abbrev main_call4_call0_v126 : Ref sig .tc := ⟨.hbm, 1008, rfl⟩
abbrev main_call4_call0_v127 : Ref sig .tc := ⟨.hbm, 1009, rfl⟩
abbrev main_call4_call0_v128 : Ref sig .tc := ⟨.hbm, 1010, rfl⟩
abbrev main_call4_call0_v129 : Ref sig .tc := ⟨.hbm, 1011, rfl⟩
abbrev main_call4_call0_c_33 : Ref sig .tc := ⟨.hbm, 1012, rfl⟩
abbrev main_call4_call0_v130 : Ref sig .tc := ⟨.hbm, 1013, rfl⟩
abbrev main_call4_call0_v131 : Ref sig .tc := ⟨.hbm, 1014, rfl⟩
abbrev main_call4_call0_c_34 : Ref sig .tc := ⟨.hbm, 1015, rfl⟩
abbrev main_call4_call0_v132 : Ref sig .tc := ⟨.hbm, 1016, rfl⟩
abbrev main_call4_call0_v133 : Ref sig .tc := ⟨.hbm, 1017, rfl⟩
abbrev main_call4_call0_v134 : Ref sig .tc := ⟨.hbm, 1018, rfl⟩
abbrev main_call4_call0_v135 : Ref sig .tc := ⟨.hbm, 1019, rfl⟩
abbrev main_call4_call0_v136 : Ref sig .tc := ⟨.hbm, 1020, rfl⟩
abbrev main_call4_call0_v137 : Ref sig .tc := ⟨.hbm, 1021, rfl⟩
abbrev main_call4_call0_v138 : Ref sig .tc := ⟨.hbm, 1022, rfl⟩
abbrev main_call4_call0_v139 : Ref sig .tc := ⟨.hbm, 1023, rfl⟩
abbrev main_call4_call0_c_35 : Ref sig .tc := ⟨.hbm, 1024, rfl⟩
abbrev main_call4_call0_v140 : Ref sig .tc := ⟨.hbm, 1025, rfl⟩
abbrev main_call4_call0_v141 : Ref sig .tc := ⟨.hbm, 1026, rfl⟩
abbrev main_call4_call0_v142 : Ref sig .tc := ⟨.hbm, 1027, rfl⟩
abbrev main_call4_call0_c_36 : Ref sig .tc := ⟨.hbm, 1028, rfl⟩
abbrev main_call4_call0_v143 : Ref sig .tc := ⟨.hbm, 1029, rfl⟩
abbrev main_call4_call0_v144 : Ref sig .tc := ⟨.hbm, 1030, rfl⟩
abbrev main_call4_call0_c_37 : Ref sig .tc := ⟨.hbm, 1031, rfl⟩
abbrev main_call4_call0_v145 : Ref sig .tc := ⟨.hbm, 1032, rfl⟩
abbrev main_call4_call0_v146 : Ref sig .tc := ⟨.hbm, 1033, rfl⟩
abbrev main_call4_call0_v147 : Ref sig .tc := ⟨.hbm, 1034, rfl⟩
abbrev main_call4_call0_v148 : Ref sig .tc := ⟨.hbm, 1035, rfl⟩
abbrev main_call4_call0_v149 : Ref sig .tc := ⟨.hbm, 1036, rfl⟩
abbrev main_call4_call0_c_38 : Ref sig .tc := ⟨.hbm, 1037, rfl⟩
abbrev main_call4_call0_v150 : Ref sig .tc := ⟨.hbm, 1038, rfl⟩
abbrev main_call4_call0_v151 : Ref sig .tc := ⟨.hbm, 1039, rfl⟩
abbrev main_call4_call0_c_39 : Ref sig .tc := ⟨.hbm, 1040, rfl⟩
abbrev main_call4_call0_v152 : Ref sig .tc := ⟨.hbm, 1041, rfl⟩
abbrev main_call4_call0_v153 : Ref sig .tc := ⟨.hbm, 1042, rfl⟩
abbrev main_call4_call0_v154 : Ref sig .tc := ⟨.hbm, 1043, rfl⟩
abbrev main_call4_call0_v155 : Ref sig .tc := ⟨.hbm, 1044, rfl⟩
abbrev main_call4_call0_v156 : Ref sig .tc := ⟨.hbm, 1045, rfl⟩
abbrev main_call4_call0_c_40 : Ref sig .tc := ⟨.hbm, 1046, rfl⟩
abbrev main_call4_call0_v157 : Ref sig .tc := ⟨.hbm, 1047, rfl⟩
abbrev main_call4_call0_v158 : Ref sig .tc := ⟨.hbm, 1048, rfl⟩
abbrev main_call4_call0_c_41 : Ref sig .tc := ⟨.hbm, 1049, rfl⟩
abbrev main_call4_call0_v159 : Ref sig .tc := ⟨.hbm, 1050, rfl⟩
abbrev main_call4_call0_v160 : Ref sig .tc := ⟨.hbm, 1051, rfl⟩
abbrev main_call4_call0_v161 : Ref sig .tc := ⟨.hbm, 1052, rfl⟩
abbrev main_call4_call0_v162 : Ref sig .tc := ⟨.hbm, 1053, rfl⟩
abbrev main_call4_call0_v163 : Ref sig .tc := ⟨.hbm, 1054, rfl⟩
abbrev main_call4_call0_c_42 : Ref sig .tc := ⟨.hbm, 1055, rfl⟩
abbrev main_call4_call0_v164 : Ref sig .tc := ⟨.hbm, 1056, rfl⟩
abbrev main_call4_call0_v165 : Ref sig .tc := ⟨.hbm, 1057, rfl⟩
abbrev main_call4_call0_c_43 : Ref sig .tc := ⟨.hbm, 1058, rfl⟩
abbrev main_call4_call0_v166 : Ref sig .tc := ⟨.hbm, 1059, rfl⟩
abbrev main_call4_call0_v167 : Ref sig .tc := ⟨.hbm, 1060, rfl⟩
abbrev main_call4_call0_v168 : Ref sig .tc := ⟨.hbm, 1061, rfl⟩
abbrev main_call4_call0_v169 : Ref sig .tc := ⟨.hbm, 1062, rfl⟩
abbrev main_call4_call0_v170 : Ref sig .tc := ⟨.hbm, 1063, rfl⟩
abbrev main_call4_v19_0 : Ref sig .tc := ⟨.hbm, 1064, rfl⟩
abbrev main_call4_call0_v172 : Ref sig .tc := ⟨.hbm, 1065, rfl⟩
abbrev main_call4_call0_v173 : Ref sig .tc := ⟨.hbm, 1066, rfl⟩
abbrev main_call4_call0_c_44 : Ref sig .tc := ⟨.hbm, 1067, rfl⟩
abbrev main_call4_call0_v174 : Ref sig .tc := ⟨.hbm, 1068, rfl⟩
abbrev main_call4_v19_1 : Ref sig .tc := ⟨.hbm, 1069, rfl⟩
abbrev main_call4_v20 : Ref sig .tc := ⟨.hbm, 1070, rfl⟩
abbrev main_call4_c_2 : Ref sig .tc := ⟨.hbm, 1071, rfl⟩
abbrev main_call4_v21 : Ref sig .tc := ⟨.hbm, 1072, rfl⟩
abbrev main_call4_v22 : Ref sig .tc := ⟨.hbm, 1073, rfl⟩
abbrev main_call4_c_3 : Ref sig .tc := ⟨.hbm, 1074, rfl⟩
abbrev main_call4_v23 : Ref sig .tc := ⟨.hbm, 1075, rfl⟩
abbrev main_call4_v24 : Ref sig .tc := ⟨.hbm, 1076, rfl⟩
abbrev main_call4_v25 : Ref sig .tc := ⟨.hbm, 1077, rfl⟩
abbrev main_call4_cst : Ref sig .tc := ⟨.hbm, 1078, rfl⟩
abbrev main_call4_v26 : Ref sig .tc := ⟨.hbm, 1079, rfl⟩
abbrev main_call4_v27 : Ref sig .tc := ⟨.hbm, 1080, rfl⟩
abbrev main_call4_v28 : Ref sig .tc := ⟨.hbm, 1081, rfl⟩
abbrev main_call4_v29 : Ref sig .tc := ⟨.hbm, 1082, rfl⟩
abbrev main_call4_v30 : Ref sig .tc := ⟨.hbm, 1083, rfl⟩
abbrev main_call4_v31 : Ref sig .tc := ⟨.hbm, 1084, rfl⟩
abbrev main_call4_v32 : Ref sig .tc := ⟨.hbm, 1085, rfl⟩
abbrev main_call4_v33 : Ref sig .tc := ⟨.hbm, 1086, rfl⟩
abbrev main_v67 : Ref sig .tc := ⟨.hbm, 1087, rfl⟩
abbrev main_cst_20 : Ref sig .tc := ⟨.hbm, 1088, rfl⟩
abbrev main_v68 : Ref sig .tc := ⟨.hbm, 1089, rfl⟩
abbrev main_v69 : Ref sig .tc := ⟨.hbm, 1090, rfl⟩
abbrev main_v70 : Ref sig .tc := ⟨.hbm, 1091, rfl⟩
abbrev main_v71 : Ref sig .tc := ⟨.hbm, 1092, rfl⟩
abbrev main_v72 : Ref sig .tc := ⟨.hbm, 1093, rfl⟩
abbrev main_v73 : Ref sig .tc := ⟨.hbm, 1094, rfl⟩
abbrev main_v74 : Ref sig .tc := ⟨.hbm, 1095, rfl⟩
abbrev main_call5_v0 : Ref sig .tc := ⟨.hbm, 1096, rfl⟩
abbrev main_call5_cst : Ref sig .tc := ⟨.hbm, 1097, rfl⟩
abbrev main_call5_c : Ref sig .tc := ⟨.hbm, 1098, rfl⟩
abbrev main_call5_v1_0 : Ref sig .tc := ⟨.hbm, 1099, rfl⟩
abbrev main_v75 : Ref sig .tc := ⟨.hbm, 1100, rfl⟩
abbrev main_v76 : Ref sig .tc := ⟨.hbm, 1101, rfl⟩
abbrev main_v77 : Ref sig .tc := ⟨.hbm, 1102, rfl⟩
abbrev main_v78 : Ref sig .tc := ⟨.hbm, 1103, rfl⟩
abbrev main_v79 : Ref sig .tc := ⟨.hbm, 1104, rfl⟩

abbrev nD : Nat := 1
abbrev τ : Topo := Topo.v7x

variable {F : FTy → Type} [FloatOps F]
-- ==== Proof.Host.Line.lean ====
/- A straight line of host operations in which every value has a buffer of its own, read as a system of equations.

   Running such a line leaves a valuation of the buffers at which EVERY operation holds as an equation between its
   operands and its result: nothing written later disturbs what an operation read or wrote. So a long line need never
   be composed into one term: each value is described by the equation of the operation that made it, in terms of the
   values it read, and a function called several times is read once, for any record of buffers. -/
module

public import Idealize.ShloMosaic.Lib.StableHlo.Run

@[expose] public section

noncomputable section

namespace Cert.Proof.Host

open Idealize.ShloMosaic Idealize.ShloMosaic.StableHlo Idealize.SL.Sem

variable {τ : Topo} {sig : RefSig} {Val : EltTy → Type} {nD : Nat} {Λ : Labels}

/-- What the buffer of a typed reference holds, at the value's type. -/
def get {T : BufTy} (W : Valuation τ sig Val) (t : TRef sig T) : T.Contents Val := t.ofBuf (W (Proc.devRef .tc t.ref))

/-- At a literal reference that is the buffer's contents. -/
theorem get_of (W : Valuation τ sig Val) (r : Ref sig .tc) (h₁ : r.space ≠ .host) (h₂ : r.isScoped = false) :
    get W (⟨r, rfl, h₁, h₂⟩ : TRef sig r.ty) = W (Proc.devRef .tc r) := rfl

/-- The operation writes the buffer `y` alone, determines it, and its result depends on the buffers `ins` alone. -/
structure Reads (op : HloOp τ sig Val) (ins : List (Ref sig .tc)) (y : Ref sig .tc) : Prop where
  writes : op.writes = {Proc.devRef .tc y}
  sub : op.bufs ⊆ tcRefs τ sig
  fresh : op.fresh = ∅
  congr : ∀ V W : Valuation τ sig Val, (∀ r ∈ ins, V (Proc.devRef .tc r) = W (Proc.devRef .tc r)) →
    op.result V (Proc.devRef .tc y) = op.result W (Proc.devRef .tc y)

section Builders

variable (x a b c e y : Ref sig .tc)

theorem reads_nullary (v : y.ty.Contents Val) (hy) : Reads (nullary (τ := τ) y v hy) [] y where
  writes := rfl
  sub := nullary_bufs_sub ..
  fresh := rfl
  congr V W _ := by rw [nullary_result, nullary_result]

theorem reads_unary (f : x.ty.Contents Val → y.ty.Contents Val) (hx hy) :
    Reads (unary (τ := τ) x y f hx hy) [x] y where
  writes := rfl
  sub := unary_bufs_sub ..
  fresh := rfl
  congr V W h := by rw [unary_result, unary_result, h x (by simp)]

theorem reads_binary (f : a.ty.Contents Val → b.ty.Contents Val → y.ty.Contents Val) (ha hb hy) :
    Reads (binary (τ := τ) a b y f ha hb hy) [a, b] y where
  writes := rfl
  sub := binary_bufs_sub ..
  fresh := rfl
  congr V W h := by rw [binary_result, binary_result, h a (by simp), h b (by simp)]

theorem reads_quaternary
    (f : a.ty.Contents Val → b.ty.Contents Val → c.ty.Contents Val → e.ty.Contents Val → y.ty.Contents Val) (ha hb hc he hy) :
    Reads (quaternary (τ := τ) a b c e y f ha hb hc he hy) [a, b, c, e] y where
  writes := rfl
  sub := quaternary_bufs_sub ..
  fresh := rfl
  congr V W h := by
    rw [quaternary_result, quaternary_result, h a (by simp), h b (by simp), h c (by simp), h e (by simp)]

theorem reads_reshape (he hn hx hy) : Reads (reshape (τ := τ) (Val := Val) x y he hn hx hy) [x] y where
  writes := rfl
  sub := reshape_bufs_sub ..
  fresh := rfl
  congr V W h := by rw [reshape_result, reshape_result, h x (by simp)]

end Builders

/-! ## A line with its buffers and its equations -/

/-- Every statement of the list holds. -/
def all : List Prop → Prop
  | [] => True
  | e :: l => e ∧ all l

theorem all_append : ∀ {l l' : List Prop}, all l → all l' → all (l ++ l')
  | [], _, _, h' => h'
  | _ :: _, _, h, h' => ⟨h.1, all_append h.2 h'⟩

/-- The program `p` runs the operations `ops` in order; `D` lists for each the buffers it reads and the one it writes;
    and at a valuation no operation of the line changes, the equations `E` hold. -/
structure Line (p : Prog (TpuEff nD τ sig Val Λ .tc) PUnit) (ops : List (HloOp τ sig Val))
    (D : List (List (Ref sig .tc) × Ref sig .tc)) (E : Valuation τ sig Val → List Prop) : Prop where
  prog : p = seq ops
  reads : List.Forall₂ (fun op d => Reads op d.1 d.2) ops D
  eqs : ∀ W : Valuation τ sig Val, (∀ op ∈ ops, op.result W = W) → all (E W)

theorem Line.nil : Line (pure ⟨⟩ : Prog (TpuEff nD τ sig Val Λ .tc) PUnit) [] [] fun _ => [] :=
  ⟨rfl, .nil, fun _ _ => trivial⟩

/-- One operation in front of a line. -/
theorem Line.cons {p : Prog (TpuEff nD τ sig Val Λ .tc) PUnit} {ops D E} {op : HloOp τ sig Val} {ins : List (Ref sig .tc)}
    {y : Ref sig .tc} {e : Valuation τ sig Val → Prop} (hr : Reads op ins y) (he : ∀ W, op.result W = W → e W)
    (h : Line p ops D E) :
    Line ((hlo rfl op fun _ => .ret (⟨⟩ : PUnit)) >>= fun _ => p) (op :: ops) ((ins, y) :: D) fun W => e W :: E W where
  prog := by rw [h.prog]; rfl
  reads := .cons hr h.reads
  eqs W hW := ⟨he W (hW _ List.mem_cons_self), h.eqs W fun o ho => hW o (List.mem_cons_of_mem _ ho)⟩

/-- Two lines run one after the other, their equations in one list. -/
theorem Line.append {p q : Prog (TpuEff nD τ sig Val Λ .tc) PUnit} {ops ops' D D' E E'} (h : Line p ops D E)
    (h' : Line q ops' D' E') : Line (p >>= fun _ => q) (ops ++ ops') (D ++ D') fun W => E W ++ E' W where
  prog := by rw [h.prog, h'.prog, seq_append]
  reads := List.rel_append h.reads h'.reads
  eqs W hW := all_append (h.eqs W fun o ho => hW o (List.mem_append_left _ ho))
    (h'.eqs W fun o ho => hW o (List.mem_append_right _ ho))

/-- A line run inside another, its equations kept together as one of the other's. -/
theorem Line.call {p q : Prog (TpuEff nD τ sig Val Λ .tc) PUnit} {ops ops' D D' E E'} (h : Line p ops D E)
    (h' : Line q ops' D' E') : Line (p >>= fun _ => q) (ops ++ ops') (D ++ D') fun W => all (E W) :: E' W where
  prog := by rw [h.prog, h'.prog, seq_append]
  reads := List.rel_append h.reads h'.reads
  eqs W hW := ⟨h.eqs W fun o ho => hW o (List.mem_append_left _ ho), h'.eqs W fun o ho => hW o (List.mem_append_right _ ho)⟩

theorem seq_cons (op : HloOp τ sig Val) (ops : List (HloOp τ sig Val)) :
    (seq (op :: ops) : Prog (TpuEff nD τ sig Val Λ .tc) PUnit) = (hlo rfl op fun _ => .ret (⟨⟩ : PUnit)) >>= fun _ => seq ops := rfl

/-- A line ending in one operation. -/
theorem Line.last {p : Prog (TpuEff nD τ sig Val Λ .tc) PUnit} {ops D E} (h : Line (p >>= fun _ => pure ⟨⟩) ops D E) :
    Line p ops D E := by
  have : (p >>= fun _ => (pure ⟨⟩ : Prog (TpuEff nD τ sig Val Λ .tc) PUnit)) = p := bind_pure p
  rwa [this] at h

/-- A reshape between buffers whose types are the values', at the values' types. -/
theorem cast_reshape {s s' : Shape} {t : EltTy} {X Y : BufTy} (hX : X = ⟨s, t⟩) (hY : Y = ⟨s', t⟩) (he : X.elt = Y.elt)
    (hn : X.shape.ShapeCasts Y.shape) (hn' : s.ShapeCasts s') (u : X.Contents Val) :
    cast (congrArg (fun U : BufTy => U.Contents Val) hY) (fun i => he ▸ shapeCast Y.shape u hn i)
      = shapeCast s' (cast (congrArg (fun U : BufTy => U.Contents Val) hX) u : (⟨s, t⟩ : BufTy).Contents Val) hn' := by
  subst hX; subst hY; rfl

section Cons

variable {p : Prog (TpuEff nD τ sig Val Λ .tc) PUnit} {ops : List (HloOp τ sig Val)}
  {D : List (List (Ref sig .tc) × Ref sig .tc)} {E : Valuation τ sig Val → List Prop}
variable {x a b c e y : Ref sig .tc} {T Tx Ta Tb Tc Te Ty : BufTy}

theorem Line.nullary {v : y.ty.Contents Val} {hy} (h : Line p ops D E) :
    Line ((hlo rfl (nullary y v hy) fun _ => .ret (⟨⟩ : PUnit)) >>= fun _ => p) (StableHlo.nullary y v hy :: ops)
      (([], y) :: D) fun W => (W (Proc.devRef .tc y) = v) :: E W :=
  .cons (reads_nullary ..) (fun W hW => by rw [← nullary_result y v hy W]; exact (congrFun hW _).symm) h

theorem Line.unary {f : x.ty.Contents Val → y.ty.Contents Val} {hx hy} (h : Line p ops D E) :
    Line ((hlo rfl (unary x y f hx hy) fun _ => .ret (⟨⟩ : PUnit)) >>= fun _ => p) (StableHlo.unary x y f hx hy :: ops)
      (([x], y) :: D) fun W => (W (Proc.devRef .tc y) = f (W (Proc.devRef .tc x))) :: E W :=
  .cons (reads_unary ..) (fun W hW => by rw [← unary_result x y f hx hy W]; exact (congrFun hW _).symm) h

theorem Line.binary {f : a.ty.Contents Val → b.ty.Contents Val → y.ty.Contents Val} {ha hb hy} (h : Line p ops D E) :
    Line ((hlo rfl (binary a b y f ha hb hy) fun _ => .ret (⟨⟩ : PUnit)) >>= fun _ => p)
      (StableHlo.binary a b y f ha hb hy :: ops)
      (([a, b], y) :: D) fun W => (W (Proc.devRef .tc y) = f (W (Proc.devRef .tc a)) (W (Proc.devRef .tc b))) :: E W :=
  .cons (reads_binary ..) (fun W hW => by rw [← binary_result a b y f ha hb hy W]; exact (congrFun hW _).symm) h

theorem Line.reshape {he hn hx hy} (h : Line p ops D E) :
    Line ((hlo rfl (reshape (Val := Val) x y he hn hx hy) fun _ => .ret (⟨⟩ : PUnit)) >>= fun _ => p)
      (StableHlo.reshape x y he hn hx hy :: ops)
      (([x], y) :: D) fun W => (W (Proc.devRef .tc y) = (fun i => he ▸ shapeCast y.ty.shape (W (Proc.devRef .tc x)) hn i)) :: E W :=
  .cons (reads_reshape ..) (fun W hW => (congrFun hW _).symm.trans (reshape_result x y he hn hx hy W)) h

theorem Line.tnullary {y : TRef sig Ty} {v : Ty.Contents Val} (h : Line p ops D E) :
    Line ((hlo rfl (TRef.nullary y v) fun _ => .ret (⟨⟩ : PUnit)) >>= fun _ => p) (TRef.nullary y v :: ops)
      (([], y.ref) :: D) fun W => (get W y = v) :: E W :=
  .cons (reads_nullary ..) (fun W hW => by
    obtain ⟨y, rfl, _, _⟩ := y
    exact (congrFun hW _).symm.trans (nullary_result _ _ _ W)) h

theorem Line.tunary {x : TRef sig Tx} {y : TRef sig Ty} {f : Tx.Contents Val → Ty.Contents Val} (h : Line p ops D E) :
    Line ((hlo rfl (TRef.unary x y f) fun _ => .ret (⟨⟩ : PUnit)) >>= fun _ => p) (TRef.unary x y f :: ops)
      (([x.ref], y.ref) :: D) fun W => (get W y = f (get W x)) :: E W :=
  .cons (reads_unary ..) (fun W hW => by
    obtain ⟨y, rfl, _, _⟩ := y
    exact (congrFun hW _).symm.trans (unary_result _ _ _ _ _ W)) h

theorem Line.tbinary {a : TRef sig Ta} {b : TRef sig Tb} {y : TRef sig Ty}
    {f : Ta.Contents Val → Tb.Contents Val → Ty.Contents Val} (h : Line p ops D E) :
    Line ((hlo rfl (TRef.binary a b y f) fun _ => .ret (⟨⟩ : PUnit)) >>= fun _ => p) (TRef.binary a b y f :: ops)
      (([a.ref, b.ref], y.ref) :: D) fun W => (get W y = f (get W a) (get W b)) :: E W :=
  .cons (reads_binary ..) (fun W hW => by
    obtain ⟨y, rfl, _, _⟩ := y
    exact (congrFun hW _).symm.trans (binary_result _ _ _ _ _ _ _ W)) h

theorem Line.tquaternary {a : TRef sig Ta} {b : TRef sig Tb} {c : TRef sig Tc} {e : TRef sig Te} {y : TRef sig Ty}
    {f : Ta.Contents Val → Tb.Contents Val → Tc.Contents Val → Te.Contents Val → Ty.Contents Val} (h : Line p ops D E) :
    Line ((hlo rfl (TRef.quaternary a b c e y f) fun _ => .ret (⟨⟩ : PUnit)) >>= fun _ => p)
      (TRef.quaternary a b c e y f :: ops)
      (([a.ref, b.ref, c.ref, e.ref], y.ref) :: D)
      fun W => (get W y = f (get W a) (get W b) (get W c) (get W e)) :: E W :=
  .cons (reads_quaternary ..) (fun W hW => by
    obtain ⟨y, rfl, _, _⟩ := y
    exact (congrFun hW _).symm.trans (quaternary_result _ _ _ _ _ _ _ _ _ _ _ W)) h

theorem Line.treshape {s s' : Shape} {t : EltTy} {x : TRef sig ⟨s, t⟩} {y : TRef sig ⟨s', t⟩} {hn : s.ShapeCasts s'}
    (h : Line p ops D E) :
    Line ((hlo rfl (TRef.reshape x y rfl hn) fun _ => .ret (⟨⟩ : PUnit)) >>= fun _ => p)
      (TRef.reshape x y rfl hn :: ops)
      (([x.ref], y.ref) :: D) fun W => (get W y = shapeCast s' (get W x) hn) :: E W :=
  .cons (reads_reshape ..) (fun W hW => by
    have e := (congrFun hW _).symm.trans (reshape_result _ _ _ _ _ _ W)
    exact (congrArg (cast (congrArg (fun U : BufTy => U.Contents Val) y.ty_eq)) e).trans
      (cast_reshape x.ty_eq y.ty_eq _ _ hn _)) h

end Cons

/-! ## The valuation a line leaves -/

/-- Every buffer is written once, and only after its last reading by the operation that writes it: each operation reads
    none of the buffers written by it or later ones, and no two write one buffer. Judged by the buffers' numbers: the
    number written grows along the line, and every operation reads smaller numbers. -/
def ordered : Nat → List (List (Ref sig .tc) × Ref sig .tc) → Bool
  | _, [] => true
  | n, (ins, y) :: D => decide (n ≤ y.idx.val) && (ins.all fun r => decide (r.idx.val < y.idx.val))
      && ordered (y.idx.val + 1) D

theorem ordered_ge : ∀ (D : List (List (Ref sig .tc) × Ref sig .tc)) (n : Nat), ordered n D = true →
    ∀ d ∈ D, n ≤ d.2.idx.val
  | [], _, _, _, h => absurd h (by simp)
  | (ins, y) :: D, n, h, d, hd => by
    simp only [ordered, Bool.and_eq_true, decide_eq_true_eq] at h
    rcases List.mem_cons.mp hd with rfl | hd
    · exact h.1.1
    · exact le_trans (le_trans h.1.1 (Nat.le_succ _)) (ordered_ge D _ h.2 d hd)

theorem exists_of_mem {α β : Type} {R : α → β → Prop} : ∀ {l : List α} {l' : List β}, List.Forall₂ R l l' → ∀ a ∈ l, ∃ b ∈ l', R a b
  | _, _, .nil, _, h => absurd h (by simp)
  | _, _, .cons hR h, a, ha => by
    rcases List.mem_cons.mp ha with rfl | ha
    · exact ⟨_, List.mem_cons_self, hR⟩
    · obtain ⟨b, hb, hab⟩ := exists_of_mem h a ha
      exact ⟨b, List.mem_cons_of_mem _ hb, hab⟩

/-- A buffer numbered below every buffer the line writes keeps its contents. -/
theorem after_of_lt {ops : List (HloOp τ sig Val)} {D : List (List (Ref sig .tc) × Ref sig .tc)}
    (h : List.Forall₂ (fun op d => Reads op d.1 d.2) ops D) {n : Nat} (hD : ordered n D = true) {r : Ref sig .tc}
    (hr : r.idx.val < n) (V : Valuation τ sig Val) : after ops V (Proc.devRef .tc r) = V (Proc.devRef .tc r) := by
  refine after_of_forall_not_mem ops V fun op hop hb => ?_
  obtain ⟨d, hd, hR⟩ := exists_of_mem h op hop
  rw [hR.writes, Finset.mem_singleton] at hb
  have := Proc.devRef_injective _ hb
  subst this
  exact absurd (ordered_ge D n hD d hd) (not_le.mpr hr)

/-- At the valuation an ordered line leaves, every operation of it changes nothing. -/
theorem after_fixed : ∀ {ops : List (HloOp τ sig Val)} {D : List (List (Ref sig .tc) × Ref sig .tc)}
    (_ : List.Forall₂ (fun op d => Reads op d.1 d.2) ops D) {n : Nat} (_ : ordered n D = true) (V : Valuation τ sig Val),
    ∀ op ∈ ops, op.result (after ops V) = after ops V
  | _, _, .nil, _, _, _, _, h => absurd h (by simp)
  | _, _, .cons (a := op) (b := (ins, y)) (l₁ := ops) (l₂ := D) hR hRs, n, hD, V, op', hop => by
    simp only [ordered, Bool.and_eq_true, decide_eq_true_eq, List.all_eq_true] at hD
    rcases List.mem_cons.mp hop with rfl | hop
    · rw [after_cons]
      funext b
      by_cases hb : b ∈ op'.writes
      · rw [hR.writes, Finset.mem_singleton] at hb
        subst hb
        have hy : ∀ W : Valuation τ sig Val, after ops W (Proc.devRef .tc y) = W (Proc.devRef .tc y) :=
          fun W => after_of_lt hRs hD.2 (Nat.lt_succ_self _) W
        rw [hy]
        refine hR.congr _ _ fun r hr => ?_
        have hr' := hD.1.2 r hr
        rw [after_of_lt hRs hD.2 (Nat.lt_succ_of_lt hr')]
        refine op'.result_of_not_mem _ ?_
        rw [hR.writes, Finset.mem_singleton]
        intro e
        have := Proc.devRef_injective _ e
        subst this
        exact absurd hr' (lt_irrefl _)
      · exact op'.result_of_not_mem _ hb
    · exact after_fixed hRs hD.2 _ op' hop

theorem Line.sub {p : Prog (TpuEff nD τ sig Val Λ .tc) PUnit} {ops D E} (h : Line p ops D E) :
    ops.Forall fun op => op.bufs ⊆ tcRefs τ sig :=
  List.forall_iff_forall_mem.mpr fun op hop => by
    obtain ⟨d, _, hR⟩ := exists_of_mem h.reads op hop
    exact hR.sub

theorem Line.fresh {p : Prog (TpuEff nD τ sig Val Λ .tc) PUnit} {ops D E} (h : Line p ops D E) :
    ∀ op ∈ ops, op.fresh = ∅ := fun op hop => by
  obtain ⟨d, _, hR⟩ := exists_of_mem h.reads op hop
  exact hR.fresh

end Cert.Proof.Host
-- ==== Proof.Reference.Lines.lean ====
/- The reference program as one ordered line of host operations: each of its functions is a line of its own, over any
   arguments and any record of buffers, and the program runs them one after the other. -/
module

public import proofs.«01_k».proof.ReferenceIdeal
public import proofs.«01_k».proof.Proof.Gen.ReferenceIdeal
public import proofs.«01_k».proof.Proof.Host.Line

@[expose] public section

noncomputable section

namespace Cert.Proof.Reference

open Cert.ReferenceIdeal Cert.ReferenceIdeal.Gen Cert.Proof.Host Idealize.ShloMosaic Idealize.ShloMosaic.TcCoe Idealize.SL.Sem

variable {F : FTy → Type} [FloatOps F]

/-- A line's operations, the buffers of each, and their equations. -/
abbrev Data (F : FTy → Type) [FloatOps F] : Type :=
  List (HloOp τ sig (Elt F)) × List (List (Ref sig .tc) × Ref sig .tc) × (Valuation τ sig (Elt F) → List Prop)

/-- A program of this module's kind. -/
abbrev Host (F : FTy → Type) [FloatOps F] : Type 1 :=
  Prog (TpuEff nD τ sig (Elt F) (Pipeline.Sig Λ₀ (Fin 0) fun p => (pcfgs (F := F) p).Adm) .tc) PUnit

/-- That program is a line with this data. -/
abbrev Runs (p : Host F) (d : Data F) : Prop := Line p d.1 d.2.1 d.2.2

/-- A line's data, from the line. -/
def found {p : Host F} {ops : List (HloOp τ sig (Elt F))} {D : List (List (Ref sig .tc) × Ref sig .tc)}
    {E : Valuation τ sig (Elt F) → List Prop} (h : Line p ops D E) : {d : Data F // Runs p d} := ⟨(ops, D, E), h⟩

/-! ## The key function's threefry, on one pair of counters -/

set_option maxHeartbeats 4000000 in
set_option maxRecDepth 16384 in
def threefryKey0 (arg0 arg1 : StableHlo.TRef sig ⟨S_, .i32⟩) (arg2 arg3 : StableHlo.TRef sig ⟨S1, .i32⟩)
    (φ : fn_threefry2x32.Bufs) :
    {d : Data F // Runs (fn_threefry2x32.body_part0 arg0 arg1 arg2 arg3 φ) d} := by
  apply found
  unfold fn_threefry2x32.body_part0
  apply Line.last
  simp only [bind_assoc]
  repeat (first | exact .nil | with_reducible apply Line.tbinary | with_reducible apply Line.tunary | with_reducible apply Line.tnullary)

set_option maxHeartbeats 4000000 in
set_option maxRecDepth 16384 in
def threefryKey1 (arg0 arg1 : StableHlo.TRef sig ⟨S_, .i32⟩) (arg2 arg3 : StableHlo.TRef sig ⟨S1, .i32⟩)
    (φ : fn_threefry2x32.Bufs) :
    {d : Data F // Runs (fn_threefry2x32.body_part1 arg0 arg1 arg2 arg3 φ) d} := by
  apply found
  unfold fn_threefry2x32.body_part1
  apply Line.last
  simp only [bind_assoc]
  repeat (first | exact .nil | with_reducible apply Line.tbinary | with_reducible apply Line.tunary | with_reducible apply Line.tnullary)

set_option maxHeartbeats 4000000 in
set_option maxRecDepth 16384 in
def threefryKey2 (arg0 arg1 : StableHlo.TRef sig ⟨S_, .i32⟩) (arg2 arg3 : StableHlo.TRef sig ⟨S1, .i32⟩)
    (φ : fn_threefry2x32.Bufs) :
    {d : Data F // Runs (fn_threefry2x32.body_part2 arg0 arg1 arg2 arg3 φ) d} := by
  apply found
  unfold fn_threefry2x32.body_part2
  apply Line.last
  simp only [bind_assoc]
  repeat (first | exact .nil | with_reducible apply Line.tbinary | with_reducible apply Line.tunary | with_reducible apply Line.tnullary)

set_option maxHeartbeats 4000000 in
set_option maxRecDepth 16384 in
def threefryKey3 (arg0 arg1 : StableHlo.TRef sig ⟨S_, .i32⟩) (arg2 arg3 : StableHlo.TRef sig ⟨S1, .i32⟩)
    (φ : fn_threefry2x32.Bufs) :
    {d : Data F // Runs (fn_threefry2x32.body_part3 arg0 arg1 arg2 arg3 φ) d} := by
  apply found
  unfold fn_threefry2x32.body_part3
  repeat (first | exact .nil | with_reducible apply Line.tbinary | with_reducible apply Line.tunary | with_reducible apply Line.tnullary)

def threefryKey (arg0 arg1 : StableHlo.TRef sig ⟨S_, .i32⟩) (arg2 arg3 : StableHlo.TRef sig ⟨S1, .i32⟩)
    (φ : fn_threefry2x32.Bufs) :
    {d : Data F // Runs (fn_threefry2x32.body arg0 arg1 arg2 arg3 φ) d} :=
  found (.append (threefryKey0 arg0 arg1 arg2 arg3 φ).2 (.append (threefryKey1 arg0 arg1 arg2 arg3 φ).2
    (.append (threefryKey2 arg0 arg1 arg2 arg3 φ).2 (threefryKey3 arg0 arg1 arg2 arg3 φ).2)))

/-! ## The generator's threefry, on a pair of counters per element -/

set_option maxHeartbeats 4000000 in
set_option maxRecDepth 16384 in
def threefry0 (arg0 arg1 : StableHlo.TRef sig ⟨S_, .i32⟩) (arg2 arg3 : StableHlo.TRef sig ⟨S128x100000, .i32⟩)
    (φ : fn_threefry2x32_0.Bufs) :
    {d : Data F // Runs (fn_threefry2x32_0.body_part0 arg0 arg1 arg2 arg3 φ) d} := by
  apply found
  unfold fn_threefry2x32_0.body_part0
  apply Line.last
  simp only [bind_assoc]
  repeat (first | exact .nil | with_reducible apply Line.tbinary | with_reducible apply Line.tunary | with_reducible apply Line.tnullary)

set_option maxHeartbeats 4000000 in
set_option maxRecDepth 16384 in
def threefry1 (arg0 arg1 : StableHlo.TRef sig ⟨S_, .i32⟩) (arg2 arg3 : StableHlo.TRef sig ⟨S128x100000, .i32⟩)
    (φ : fn_threefry2x32_0.Bufs) :
    {d : Data F // Runs (fn_threefry2x32_0.body_part1 arg0 arg1 arg2 arg3 φ) d} := by
  apply found
  unfold fn_threefry2x32_0.body_part1
  apply Line.last
  simp only [bind_assoc]
  repeat (first | exact .nil | with_reducible apply Line.tbinary | with_reducible apply Line.tunary | with_reducible apply Line.tnullary)

set_option maxHeartbeats 4000000 in
set_option maxRecDepth 16384 in
def threefry2 (arg0 arg1 : StableHlo.TRef sig ⟨S_, .i32⟩) (arg2 arg3 : StableHlo.TRef sig ⟨S128x100000, .i32⟩)
    (φ : fn_threefry2x32_0.Bufs) :
    {d : Data F // Runs (fn_threefry2x32_0.body_part2 arg0 arg1 arg2 arg3 φ) d} := by
  apply found
  unfold fn_threefry2x32_0.body_part2
  apply Line.last
  simp only [bind_assoc]
  repeat (first | exact .nil | with_reducible apply Line.tbinary | with_reducible apply Line.tunary | with_reducible apply Line.tnullary)

set_option maxHeartbeats 4000000 in
set_option maxRecDepth 16384 in
def threefry3 (arg0 arg1 : StableHlo.TRef sig ⟨S_, .i32⟩) (arg2 arg3 : StableHlo.TRef sig ⟨S128x100000, .i32⟩)
    (φ : fn_threefry2x32_0.Bufs) :
    {d : Data F // Runs (fn_threefry2x32_0.body_part3 arg0 arg1 arg2 arg3 φ) d} := by
  apply found
  unfold fn_threefry2x32_0.body_part3
  repeat (first | exact .nil | with_reducible apply Line.tbinary | with_reducible apply Line.tunary | with_reducible apply Line.tnullary)

def threefry (arg0 arg1 : StableHlo.TRef sig ⟨S_, .i32⟩) (arg2 arg3 : StableHlo.TRef sig ⟨S128x100000, .i32⟩)
    (φ : fn_threefry2x32_0.Bufs) :
    {d : Data F // Runs (fn_threefry2x32_0.body arg0 arg1 arg2 arg3 φ) d} :=
  found (.append (threefry0 arg0 arg1 arg2 arg3 φ).2 (.append (threefry1 arg0 arg1 arg2 arg3 φ).2
    (.append (threefry2 arg0 arg1 arg2 arg3 φ).2 (threefry3 arg0 arg1 arg2 arg3 φ).2)))

/-! ## The functions that call it -/

set_option maxHeartbeats 4000000 in
set_option maxRecDepth 16384 in
def foldIn (arg0 : StableHlo.TRef sig ⟨S2, .i32⟩) (arg1 : StableHlo.TRef sig ⟨S_, .i32⟩) (φ : fn_threefry_fold_in.Bufs) :
    {d : Data F // Runs (fn_threefry_fold_in.body arg0 arg1 φ) d} := by
  apply found
  unfold fn_threefry_fold_in.body
  repeat (first | exact .nil | with_reducible apply Line.tbinary | with_reducible apply Line.tunary | with_reducible apply Line.tnullary | with_reducible apply Line.treshape | apply Line.call (threefryKey _ _ _ _ _).2)

set_option maxHeartbeats 4000000 in
set_option maxRecDepth 16384 in
def uniform (arg0 : StableHlo.TRef sig ⟨S2, .i32⟩) (arg1 arg2 : StableHlo.TRef sig ⟨S_, .f32⟩) (φ : fn_uniform.Bufs) :
    {d : Data F // Runs (fn_uniform.body arg0 arg1 arg2 φ) d} := by
  apply found
  unfold fn_uniform.body
  repeat (first | exact .nil | with_reducible apply Line.tbinary | with_reducible apply Line.tunary | with_reducible apply Line.tnullary | with_reducible apply Line.treshape | apply Line.call (threefry _ _ _ _ _).2)

set_option maxHeartbeats 4000000 in
set_option maxRecDepth 16384 in
def argmax (arg0 : StableHlo.TRef sig ⟨S128x100000, .f32⟩) (φ : fn_argmax.Bufs) :
    {d : Data F // Runs (fn_argmax.body arg0 φ) d} := by
  apply found
  unfold fn_argmax.body
  repeat (first | exact .nil | with_reducible apply Line.tbinary | with_reducible apply Line.tunary | with_reducible apply Line.tnullary | with_reducible apply Line.treshape | with_reducible apply Line.tquaternary)

/-! ## The whole program -/

set_option maxHeartbeats 4000000 in
set_option maxRecDepth 16384 in
def main0 : {d : Data F // Runs (main_part0 (F := F) 0) d} := by
  apply found
  unfold main_part0
  beta_reduce
  apply Line.last
  simp only [bind_assoc]
  repeat (first | exact .nil | with_reducible apply Line.binary | with_reducible apply Line.unary | with_reducible apply Line.nullary | with_reducible apply Line.reshape | apply Line.call (foldIn _ _ _).2 | apply Line.call (uniform _ _ _ _).2 | apply Line.call (argmax _ _).2)

set_option maxHeartbeats 4000000 in
set_option maxRecDepth 16384 in
def main1 : {d : Data F // Runs (main_part1 (F := F) 0) d} := by
  apply found
  unfold main_part1
  beta_reduce
  repeat (first | exact .nil | with_reducible apply Line.binary | with_reducible apply Line.unary | with_reducible apply Line.nullary | with_reducible apply Line.reshape | apply Line.call (foldIn _ _ _).2 | apply Line.call (uniform _ _ _ _).2 | apply Line.call (argmax _ _).2)

def mainLine : {d : Data F // Runs (main (F := F) 0) d} := found (.append main0.2 main1.2)

end Cert.Proof.Reference
-- ==== Proof.Reference.Run.lean ====
/- The reference's run: every execution ends with the buffers at one valuation, at which all the equations of the
   reference's line hold and the arguments are what they were. -/
module

public import proofs.«01_k».proof.Proof.Reference.Lines
public import Idealize.ShloMosaic.PureOps.Ideal
public import Idealize.ShloMosaic.Adequacy
public import Idealize.ShloMosaic.Init

@[expose] public section

noncomputable section

namespace Cert.Proof.Reference

open Cert.ReferenceIdeal Cert.ReferenceIdeal.Gen Cert.Proof.Host Idealize.ShloMosaic Idealize.ShloMosaic.TcCoe Idealize.SL.Sem

/-- The reference's line over extended reals. -/
abbrev line : {d : Data Ideal // Runs (main (F := Ideal) 0) d} := mainLine

set_option maxRecDepth 16384 in
/-- Each buffer is written once, before any operation reads it. -/
theorem ordered_line : ordered 2 line.1.2.1 = true := by decide +kernel

/-- What the buffers of device `c` hold at the end. -/
def final (m : (ℓ : Loc nD τ sig) → Buf (Elt Ideal) ℓ) (c : Dev nD) : Valuation τ sig (Elt Ideal) :=
  StableHlo.after line.1.1 (StableHlo.launchContents m c)

theorem final_arg0 (m : (ℓ : Loc nD τ sig) → Buf (Elt Ideal) ℓ) (c : Dev nD) :
    final m c (Proc.devRef .tc main_arg0) = m ((c.tc : Thread nD τ).loc main_arg0) :=
  after_of_lt line.2.reads ordered_line (by decide) _

theorem final_arg1 (m : (ℓ : Loc nD τ sig) → Buf (Elt Ideal) ℓ) (c : Dev nD) :
    final m c (Proc.devRef .tc main_arg1) = m ((c.tc : Thread nD τ).loc main_arg1) :=
  after_of_lt line.2.reads ordered_line (by decide) _

/-- The equations of the line hold there. -/
theorem final_eqs (m : (ℓ : Loc nD τ sig) → Buf (Elt Ideal) ℓ) (c : Dev nD) : all (line.1.2.2 (final m c)) :=
  line.2.eqs _ (after_fixed line.2.reads ordered_line _)

theorem scopedRefs_eq : (Finset.univ.filter fun b : Ref sig .tc => b.isScoped) = ∅ := by decide
theorem scopedSems_eq : (Finset.univ.filter fun sm : SemLoc sig => sm.isScoped .tc) = ∅ := by decide

/-- Every execution ends with every buffer at that valuation. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ (c : Dev nD) (b : Ref sig .tc), r.2.mem ((c.tc : Thread nD τ).loc b) = final m c (Proc.devRef .tc b) :=
  StableHlo.run_seq scopedRefs_eq scopedSems_eq defs main (fun _ => line.1.1) (fun _ => line.2.prog) (fun _ => line.2.sub) m ρ
    (fun _ => line.2.fresh)

end Cert.Proof.Reference
-- ==== Proof.Reference.Frame.lean ====
/- The reference's frame: it ends with its arguments unchanged and, having no semaphores, with none of them raised. -/
module

public import proofs.«01_k».proof.Proof.Reference.Run
public import Idealize.ShloMosaic.Lib.Quiescent

@[expose] public section

noncomputable section

namespace Cert.Proof.Reference

open Cert.ReferenceIdeal Cert.ReferenceIdeal.Gen Idealize.ShloMosaic Idealize.ShloMosaic.TcCoe Idealize.SL.Sem

/-- Every execution ends with the arguments unchanged and every semaphore at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h =>
    ⟨fun c => ⟨(h c main_arg0).trans (final_arg0 m c), (h c main_arg1).trans (final_arg1 m c)⟩,
      sem_eq_zero_of_no_sems (by decide) r.2⟩) (run m ρ)

end Cert.Proof.Reference
-- ==== Proof.Threefry.Mix.lean ====
/- Threefry on one pair of words, and a line of host operations computing it read elementwise.

   The hash adds the key, then five times mixes the pair by four rounds and adds key words and the group's number. A
   host line spells each round as nine operations on whole vectors; its equations, taken in order, say that at every
   index the pair it ends with is the hash of the pair it began with. -/
module

public import proofs.«01_k».proof.Proof.Host.Line
public import Idealize.ShloMosaic.PureOps

@[expose] public section

noncomputable section

namespace Cert.Proof.Threefry

open Idealize.ShloMosaic Cert.Proof.Host

abbrev Word : Type := BitVec 32

/-- One round: the words are added, and the second, rotated, is combined with the sum. -/
def rnd (d e : Word) (s : Word × Word) : Word × Word :=
  (s.1 + s.2, (s.1 + s.2) ^^^ ((s.2 <<< d) ||| (s.2 >>> e)))

/-- Four rounds with the first set of rotations. -/
def even (s : Word × Word) : Word × Word := rnd 6 26 (rnd 26 6 (rnd 15 17 (rnd 13 19 s)))

/-- Four rounds with the second. -/
def odd (s : Word × Word) : Word × Word := rnd 24 8 (rnd 16 16 (rnd 29 3 (rnd 17 15 s)))

/-- Two key words and a number are added. -/
def inj (a b n : Word) (s : Word × Word) : Word × Word := (s.1 + a, s.2 + b + n)

/-- The third word of the key. -/
def third (k₀ k₁ : Word) : Word := k₀ ^^^ k₁ ^^^ 466688986

/-- The hash of a pair of words under a key. -/
def mix (k₀ k₁ x y : Word) : Word × Word :=
  inj (third k₀ k₁) k₀ 5 (even (inj k₁ (third k₀ k₁) 4 (odd (inj k₀ k₁ 3 (even (inj (third k₀ k₁) k₀ 2 (odd
    (inj k₁ (third k₀ k₁) 1 (even (x + k₀, y + k₁))))))))))

theorem shli_of_lt (u : ArithUnit) (x y : Word) (h : y.toNat < 32) : IntOp.shli u x y = x <<< y := if_pos h
theorem shrui_of_lt (u : ArithUnit) (x y : Word) (h : y.toNat < 32) : IntOp.shrui u x y = x >>> y := if_pos h

variable {S₀ S : Shape} {dims : Fin S₀.rank → Fin S.rank} {bc : S₀.BroadcastsInDim S dims}

/-- A one-element vector broadcast holds its element everywhere. -/
theorem bcast_apply {α : Type} [Subsingleton S₀.Idx] (x : S₀.Idx → α) (z : S₀.Idx) (i : S.Idx) :
    broadcastInDim S dims bc x i = x z := congrArg x (Subsingleton.elim _ _)

/-- The equations of a round from `(X, Y)` to `(X', Y')`. -/
abbrev roundEqs (bc : S₀.BroadcastsInDim S dims) (d e : Word) (X Y X' : IVec S 32) (c : IVec S₀ 32) (b L : IVec S 32)
    (c' : IVec S₀ 32) (b' R O Y' : IVec S 32) (l : List Prop) : List Prop :=
  (X' = addi X Y) :: (c = constantI S₀ 32 d) :: (b = broadcastInDim S dims bc c) :: (L = Host.shli Y b)
    :: (c' = constantI S₀ 32 e) :: (b' = broadcastInDim S dims bc c') :: (R = Host.shrui Y b') :: (O = ori L R)
    :: (Y' = xori X' O) :: l

theorem round_of {d e : Word} {X Y X' : IVec S 32} {c : IVec S₀ 32} {b L : IVec S 32} {c' : IVec S₀ 32}
    {b' R O Y' : IVec S 32} {l : List Prop} (hd : d.toNat < 32) (he : e.toNat < 32)
    (h : all (roundEqs bc d e X Y X' c b L c' b' R O Y' l)) :
    (∀ i, (X' i, Y' i) = rnd d e (X i, Y i)) ∧ all l := by
  obtain ⟨rfl, rfl, rfl, rfl, rfl, rfl, rfl, rfl, rfl, h⟩ := h
  refine ⟨fun i => ?_, h⟩
  show (X i + Y i, (X i + Y i) ^^^ (IntOp.shli .host (Y i) d ||| IntOp.shrui .host (Y i) e)) = _
  rw [shli_of_lt _ _ _ hd, shrui_of_lt _ _ _ he]; rfl

/-- The equations of the addition of two key words and a number. -/
abbrev injEqs (bc : S₀.BroadcastsInDim S dims) (a b : IVec S₀ 32) (n : Word) (X Y a' X' b' Y₁ : IVec S 32)
    (c : IVec S₀ 32) (c' Y' : IVec S 32) (l : List Prop) : List Prop :=
  (a' = broadcastInDim S dims bc a) :: (X' = addi X a') :: (b' = broadcastInDim S dims bc b) :: (Y₁ = addi Y b')
    :: (c = constantI S₀ 32 n) :: (c' = broadcastInDim S dims bc c) :: (Y' = addi Y₁ c') :: l

theorem inj_of [Subsingleton S₀.Idx] {a b : IVec S₀ 32} {n : Word} {X Y a' X' b' Y₁ : IVec S 32}
    {c : IVec S₀ 32} {c' Y' : IVec S 32} {l : List Prop} (z : S₀.Idx)
    (h : all (injEqs bc a b n X Y a' X' b' Y₁ c c' Y' l)) :
    (∀ i, (X' i, Y' i) = inj (a z) (b z) n (X i, Y i)) ∧ all l := by
  obtain ⟨rfl, rfl, rfl, rfl, rfl, rfl, rfl, h⟩ := h
  refine ⟨fun i => ?_, h⟩
  show (X i + broadcastInDim S dims bc a i, Y i + broadcastInDim S dims bc b i + n) = _
  rw [bcast_apply a z, bcast_apply b z]; rfl

/-- The equations that add the key at the start. -/
abbrev startEqs (bc : S₀.BroadcastsInDim S dims) (a₀ a₁ : IVec S₀ 32) (x y : IVec S 32) (v c k : IVec S₀ 32)
    (b₀ X b₁ Y : IVec S 32) (l : List Prop) : List Prop :=
  (v = xori a₀ a₁) :: (c = constantI S₀ 32 466688986#32) :: (k = xori v c) :: (b₀ = broadcastInDim S dims bc a₀)
    :: (X = addi x b₀) :: (b₁ = broadcastInDim S dims bc a₁) :: (Y = addi y b₁) :: l

theorem start_of [Subsingleton S₀.Idx] {a₀ a₁ : IVec S₀ 32} {x y : IVec S 32} {v c k : IVec S₀ 32}
    {b₀ X b₁ Y : IVec S 32} {l : List Prop} (z : S₀.Idx) (h : all (startEqs bc a₀ a₁ x y v c k b₀ X b₁ Y l)) :
    (k z = third (a₀ z) (a₁ z) ∧ ∀ i, (X i, Y i) = (x i + a₀ z, y i + a₁ z)) ∧ all l := by
  obtain ⟨rfl, rfl, rfl, rfl, rfl, rfl, rfl, h⟩ := h
  refine ⟨⟨rfl, fun i => ?_⟩, h⟩
  show (x i + broadcastInDim S dims bc a₀ i, y i + broadcastInDim S dims bc a₁ i) = _
  rw [bcast_apply a₀ z, bcast_apply a₁ z]

section Four

variable {X Y : IVec S 32} {l : List Prop}
variable {X₁ X₂ X₃ X₄ Y₁ Y₂ Y₃ Y₄ b₁ b₂ b₃ b₄ L₁ L₂ L₃ L₄ e₁ e₂ e₃ e₄ R₁ R₂ R₃ R₄ O₁ O₂ O₃ O₄ : IVec S 32}
variable {c₁ c₂ c₃ c₄ d₁ d₂ d₃ d₄ : IVec S₀ 32}

theorem even_of (h : all (roundEqs bc 13#32 19#32 X Y X₁ c₁ b₁ L₁ d₁ e₁ R₁ O₁ Y₁
    (roundEqs bc 15#32 17#32 X₁ Y₁ X₂ c₂ b₂ L₂ d₂ e₂ R₂ O₂ Y₂
    (roundEqs bc 26#32 6#32 X₂ Y₂ X₃ c₃ b₃ L₃ d₃ e₃ R₃ O₃ Y₃
    (roundEqs bc 6#32 26#32 X₃ Y₃ X₄ c₄ b₄ L₄ d₄ e₄ R₄ O₄ Y₄ l))))) :
    (∀ i, (X₄ i, Y₄ i) = even (X i, Y i)) ∧ all l := by
  obtain ⟨s₁, h⟩ := round_of (by decide) (by decide) h
  obtain ⟨s₂, h⟩ := round_of (by decide) (by decide) h
  obtain ⟨s₃, h⟩ := round_of (by decide) (by decide) h
  obtain ⟨s₄, h⟩ := round_of (by decide) (by decide) h
  exact ⟨fun i => by rw [s₄, s₃, s₂, s₁]; rfl, h⟩

theorem odd_of (h : all (roundEqs bc 17#32 15#32 X Y X₁ c₁ b₁ L₁ d₁ e₁ R₁ O₁ Y₁
    (roundEqs bc 29#32 3#32 X₁ Y₁ X₂ c₂ b₂ L₂ d₂ e₂ R₂ O₂ Y₂
    (roundEqs bc 16#32 16#32 X₂ Y₂ X₃ c₃ b₃ L₃ d₃ e₃ R₃ O₃ Y₃
    (roundEqs bc 24#32 8#32 X₃ Y₃ X₄ c₄ b₄ L₄ d₄ e₄ R₄ O₄ Y₄ l))))) :
    (∀ i, (X₄ i, Y₄ i) = odd (X i, Y i)) ∧ all l := by
  obtain ⟨s₁, h⟩ := round_of (by decide) (by decide) h
  obtain ⟨s₂, h⟩ := round_of (by decide) (by decide) h
  obtain ⟨s₃, h⟩ := round_of (by decide) (by decide) h
  obtain ⟨s₄, h⟩ := round_of (by decide) (by decide) h
  exact ⟨fun i => by rw [s₄, s₃, s₂, s₁]; rfl, h⟩

end Four

/-- The hash, from its start and its groups. -/
theorem mix_of {S : Shape} {k₀ k₁ k : Word} {x y X₀ Y₀ X₁ Y₁ X₂ Y₂ X₃ Y₃ X₄ Y₄ X₅ Y₅ X₆ Y₆ X₇ Y₇ X₈ Y₈ X₉ Y₉ X Y : IVec S 32}
    (s : k = third k₀ k₁ ∧ ∀ i, (X₀ i, Y₀ i) = (x i + k₀, y i + k₁))
    (h₁ : ∀ i, (X₁ i, Y₁ i) = even (X₀ i, Y₀ i)) (h₂ : ∀ i, (X₂ i, Y₂ i) = inj k₁ k 1#32 (X₁ i, Y₁ i))
    (h₃ : ∀ i, (X₃ i, Y₃ i) = odd (X₂ i, Y₂ i)) (h₄ : ∀ i, (X₄ i, Y₄ i) = inj k k₀ 2#32 (X₃ i, Y₃ i))
    (h₅ : ∀ i, (X₅ i, Y₅ i) = even (X₄ i, Y₄ i)) (h₆ : ∀ i, (X₆ i, Y₆ i) = inj k₀ k₁ 3#32 (X₅ i, Y₅ i))
    (h₇ : ∀ i, (X₇ i, Y₇ i) = odd (X₆ i, Y₆ i)) (h₈ : ∀ i, (X₈ i, Y₈ i) = inj k₁ k 4#32 (X₇ i, Y₇ i))
    (h₉ : ∀ i, (X₉ i, Y₉ i) = even (X₈ i, Y₈ i)) (h : ∀ i, (X i, Y i) = inj k k₀ 5#32 (X₉ i, Y₉ i)) (i : S.Idx) :
    (X i, Y i) = mix k₀ k₁ (x i) (y i) := by
  obtain ⟨rfl, s⟩ := s
  rw [h, h₉, h₈, h₇, h₆, h₅, h₄, h₃, h₂, h₁, s]; rfl

end Cert.Proof.Threefry
-- ==== Proof.KernelValue.Bits.lean ====
/- The random words of the kernel's body. The two branches spell the hash of an element's number under the branch's two
   key words differently, cut at different places; here both are that hash at every element, with its two words combined
   by exclusive or. -/
module

public import proofs.«01_k».proof.Proof.Gen.KernelIdeal.Skeleton
public import proofs.«01_k».proof.Proof.Threefry.Mix

@[expose] public section

set_option maxHeartbeats 1000000

noncomputable section

namespace Cert.Proof.KernelValue

open Idealize.ShloMosaic Cert.KernelIdeal Cert.KernelIdeal.Gen Cert.Proof.Threefry

variable {F : FTy → Type} [FloatOps F]

/-- A round as the vector unit spells it. -/
def vrnd (d e : Word) (s : Word × Word) : Word × Word :=
  (s.1 + s.2, (s.1 + s.2) ^^^ (IntOp.shli .vector s.2 d ||| IntOp.shrui .vector s.2 e))

theorem vrnd_eq (d e : Word) (hd : d.toNat < 32) (he : e.toNat < 32) (s : Word × Word) : vrnd d e s = rnd d e s := by
  unfold vrnd rnd; rw [shli_of_lt _ _ _ hd, shrui_of_lt _ _ _ he]

theorem even_eq (s : Word × Word) : vrnd 6 26 (vrnd 26 6 (vrnd 15 17 (vrnd 13 19 s))) = even s := by
  simp only [vrnd_eq 6 26 (by decide) (by decide), vrnd_eq 26 6 (by decide) (by decide),
    vrnd_eq 15 17 (by decide) (by decide), vrnd_eq 13 19 (by decide) (by decide)]; rfl

theorem odd_eq (s : Word × Word) : vrnd 24 8 (vrnd 16 16 (vrnd 29 3 (vrnd 17 15 s))) = odd s := by
  simp only [vrnd_eq 24 8 (by decide) (by decide), vrnd_eq 16 16 (by decide) (by decide),
    vrnd_eq 29 3 (by decide) (by decide), vrnd_eq 17 15 (by decide) (by decide)]; rfl

/-- The two words of a hash, combined. -/
def word (k₀ k₁ n : Word) : Word := (mix k₀ k₁ 0 n).1 ^^^ (mix k₀ k₁ 0 n).2

/-- The hash from its rounds as the vector unit spells them, the first key word standing for the first word. -/
theorem word_eq (k₀ k₁ n : Word) :
    (fun s : Word × Word => s.1 ^^^ s.2) (inj (third k₀ k₁) k₀ 5
      (vrnd 6 26 (vrnd 26 6 (vrnd 15 17 (vrnd 13 19 (inj k₁ (third k₀ k₁) 4
      (vrnd 24 8 (vrnd 16 16 (vrnd 29 3 (vrnd 17 15 (inj k₀ k₁ 3
      (vrnd 6 26 (vrnd 26 6 (vrnd 15 17 (vrnd 13 19 (inj (third k₀ k₁) k₀ 2
      (vrnd 24 8 (vrnd 16 16 (vrnd 29 3 (vrnd 17 15 (inj k₁ (third k₀ k₁) 1
      (vrnd 6 26 (vrnd 26 6 (vrnd 15 17 (vrnd 13 19 (k₀, n + k₁)))))))))))))))))))))))))) = word k₀ k₁ n := by
  simp only [even_eq, odd_eq]
  unfold word mix
  rw [show (0 : Word) + k₀ = k₀ from BitVec.zero_add k₀]

/-- The element's number in the block of the coordinates `i`. -/
def number (i : grid0.Coords) : IVec S8x100000 32 :=
  addi (broadcastTo S8x100000 (muli (k0_pay4 i) (broadcast S8x1 100000#32)) broadcasts_S8x1_S8x100000)
    (iota .tc S8x100000 32 [1] iota_S8x100000_d1_w32)

section First

variable (i : grid0.Coords) (k₀ k₁ : Word) (j : S8x100000.Idx)

theorem first_start : (k0_pay12 (F := F) i k₀ k₁ j, k0_pay13 (F := F) i k₀ k₁ j)
    = vrnd 6 26 (vrnd 26 6 (vrnd 15 17 (vrnd 13 19 (k₀, number i j + k₁)))) := rfl

theorem first_odd (t : Word) (x y : IVec S8x100000 32) :
    (k0_pay21 (F := F) k₁ t x y j + t, k0_pay22 (F := F) k₀ k₁ t x y j)
      = inj t k₀ 2 (vrnd 24 8 (vrnd 16 16 (vrnd 29 3 (vrnd 17 15 (inj k₁ t 1 (x j, y j)))))) := rfl

theorem first_cut (t : Word) (x y : IVec S8x100000 32) :
    (k0_pay25 (F := F) k₀ k₁ t x y j, k0_pay26 (k0_pay24 (F := F) k₀ k₁ t x y) (k0_pay25 (F := F) k₀ k₁ t x y) j)
      = vrnd 15 17 (vrnd 13 19 (k0_pay21 (F := F) k₁ t x y j + t, k0_pay22 (F := F) k₀ k₁ t x y j)) := rfl

theorem first_mid (x y : IVec S8x100000 32) : (k0_pay35 (F := F) k₀ k₁ x y j, k0_pay36 (F := F) k₀ k₁ x y j)
    = vrnd 16 16 (vrnd 29 3 (vrnd 17 15 (inj k₀ k₁ 3 (vrnd 6 26 (vrnd 26 6 (y j, k0_pay26 x y j)))))) := rfl

theorem first_end (t : Word) (x y : IVec S8x100000 32) : k0_pay37 (F := F) k₀ k₁ t x y j
    = (fun s : Word × Word => s.1 ^^^ s.2) (inj t k₀ 5 (vrnd 6 26 (vrnd 26 6 (vrnd 15 17 (vrnd 13 19
      (inj k₁ t 4 (vrnd 24 8 (x j, y j)))))))) := rfl

/-- The words of the first branch. -/
def firstWords : IVec S8x100000 32 :=
  have t : Word := third k₀ k₁
  have x : IVec S8x100000 32 := k0_pay12 (F := F) i k₀ k₁
  have y : IVec S8x100000 32 := k0_pay13 (F := F) i k₀ k₁
  have x' : IVec S8x100000 32 := k0_pay25 (F := F) k₀ k₁ t x y
  have y' : IVec S8x100000 32 := k0_pay24 (F := F) k₀ k₁ t x y
  k0_pay37 (F := F) k₀ k₁ t (k0_pay35 (F := F) k₀ k₁ y' x') (k0_pay36 (F := F) k₀ k₁ y' x')

theorem firstWords_apply : firstWords (F := F) i k₀ k₁ j = word k₀ k₁ (number i j) := by
  unfold firstWords
  rw [first_end, first_mid, first_cut, first_odd, first_start, word_eq]

end First

section Second

variable (i : grid0.Coords) (k₀ k₁ t : Word) (j : S8x100000.Idx)

theorem second_start :
    have v0 : IVec S8x100000 32 := iota .tc S8x100000 32 [1] iota_S8x100000_d1_w32
    (k0_pay48 (F := F) v0 (k0_pay4 i) k₀ k₁ j, k0_pay51 (k0_pay48 (F := F) v0 (k0_pay4 i) k₀ k₁)
        (k0_pay49 (F := F) v0 (k0_pay4 i) k₀ k₁) (k0_pay50 (F := F) v0 (k0_pay4 i) k₀ k₁) j)
      = vrnd 26 6 (vrnd 15 17 (vrnd 13 19 (k₀, number i j + k₁))) := rfl

theorem second_odd (x y z : IVec S8x100000 32) :
    (k0_pay61 (F := F) k₁ t x y z j, k0_pay64 (k0_pay62 (F := F) k₀ k₁ t x y z) k0_pay63 j)
      = inj t k₀ 2 (vrnd 24 8 (vrnd 16 16 (vrnd 29 3 (vrnd 17 15 (inj k₁ t 1 (vrnd 6 26 (x j, k0_pay51 x y z j))))))) := rfl

theorem second_mid (x y z : IVec S8x100000 32) :
    (k0_pay75 (F := F) k₀ k₁ x y z j, k0_pay78 (k0_pay75 (F := F) k₀ k₁ x y z) (k0_pay76 (F := F) k₀ k₁ x y z)
        (k0_pay77 (F := F) k₀ k₁ x y z) j)
      = vrnd 29 3 (vrnd 17 15 (inj k₀ k₁ 3 (vrnd 6 26 (vrnd 26 6 (vrnd 15 17 (vrnd 13 19 (x j, k0_pay64 y z j))))))) := rfl

/-- The end of the hash as the second branch cuts it. -/
def lastWords (x y z w : IVec S8x100000 32) : IVec S8x100000 32 :=
  xori (addi y (broadcast S8x100000 t))
    (addi (addi (xori y (ori z (shrui x w))) (broadcast S8x100000 k₀)) (broadcast S8x100000 5#32))

theorem second_end (x y z : IVec S8x100000 32) :
    lastWords k₀ t (k0_pay88 (F := F) k₁ t x y z) (k0_pay89 (F := F) k₁ t x y z) (k0_pay90 (F := F) k₁ t x y z) k0_pay91 j
      = (fun s : Word × Word => s.1 ^^^ s.2) (inj t k₀ 5 (vrnd 6 26 (vrnd 26 6 (vrnd 15 17 (vrnd 13 19
        (inj k₁ t 4 (vrnd 24 8 (vrnd 16 16 (x j, k0_pay78 x y z j))))))))) := rfl

/-- The words of the second branch. -/
def secondWords : IVec S8x100000 32 :=
  have v0 : IVec S8x100000 32 := iota .tc S8x100000 32 [1] iota_S8x100000_d1_w32
  have t : Word := third k₀ k₁
  have x₁ : IVec S8x100000 32 := k0_pay48 (F := F) v0 (k0_pay4 i) k₀ k₁
  have y₁ : IVec S8x100000 32 := k0_pay49 (F := F) v0 (k0_pay4 i) k₀ k₁
  have z₁ : IVec S8x100000 32 := k0_pay50 (F := F) v0 (k0_pay4 i) k₀ k₁
  have x₂ : IVec S8x100000 32 := k0_pay61 (F := F) k₁ t x₁ y₁ z₁
  have y₂ : IVec S8x100000 32 := k0_pay62 (F := F) k₀ k₁ t x₁ y₁ z₁
  have z₂ : IVec S8x100000 32 := k0_pay63
  have x₃ : IVec S8x100000 32 := k0_pay75 (F := F) k₀ k₁ x₂ y₂ z₂
  have y₃ : IVec S8x100000 32 := k0_pay76 (F := F) k₀ k₁ x₂ y₂ z₂
  have z₃ : IVec S8x100000 32 := k0_pay77 (F := F) k₀ k₁ x₂ y₂ z₂
  lastWords k₀ t (k0_pay88 (F := F) k₁ t x₃ y₃ z₃) (k0_pay89 (F := F) k₁ t x₃ y₃ z₃) (k0_pay90 (F := F) k₁ t x₃ y₃ z₃)
    k0_pay91

theorem secondWords_apply : secondWords (F := F) i k₀ k₁ j = word k₀ k₁ (number i j) := by
  unfold secondWords
  rw [second_end, second_mid, second_odd, second_start, word_eq]

/-- The second branch turns its words into waits as the first does. -/
theorem pay92_eq (x y z w : IVec S8x100000 32) : k0_pay92 (F := F) k₀ t x y z w = k0_pay38 (lastWords k₀ t x y z w) := rfl

end Second

end Cert.Proof.KernelValue
-- ==== Proof.Math.Pick.lean ====
/- The first greatest entry of a finite family, found two ways: by folding over (value, index) pairs in any order, and as
   the least index among those whose value equals the maximum. -/
module

public import Idealize.ShloMosaic.PureOps.Ideal
public import Idealize.ShloMosaic.PureOps.Ideal.Laws
public import Idealize.ShloMosaic.PureOps.Reduce

@[expose] public section

noncomputable section

namespace Cert.Proof.Pick

open Idealize.ShloMosaic

variable {n : ℕ}

/-- Entry `j` is the first of the greatest. -/
def IsFirst (z : Fin n → EReal) (j : Fin n) : Prop := ∀ i, z i ≤ z j ∧ (i < j → z i < z j)

theorem IsFirst.unique {z : Fin n → EReal} {j j' : Fin n} (h : IsFirst z j) (h' : IsFirst z j') : j = j' := by
  rcases lt_trichotomy j j' with l | e | l
  · exact absurd ((h' j).2 l) (not_lt.mpr (h j').1)
  · exact e
  · exact absurd ((h j').2 l) (not_lt.mpr (h' j).1)

/-- A nonempty family has one. -/
theorem exists_isFirst (z : Fin n → EReal) (hn : 0 < n) : ∃ j, IsFirst z j := by
  haveI : Nonempty (Fin n) := ⟨⟨0, hn⟩⟩
  obtain ⟨k, -, hk⟩ := Finset.exists_max_image Finset.univ z Finset.univ_nonempty
  obtain ⟨j, hj, hj'⟩ := Finset.exists_min_image (Finset.univ.filter fun i => z i = z k) id ⟨k, by simp⟩
  have e : z j = z k := by simpa using hj
  refine ⟨j, fun i => ⟨e ▸ hk i (Finset.mem_univ _), fun hi => lt_of_le_of_ne (e ▸ hk i (Finset.mem_univ _)) fun h => ?_⟩⟩
  exact absurd (hj' i (by simp [h, e])) (not_le.mpr hi)

/-- The greatest value is the maximum over the family. -/
theorem IsFirst.fold_max {z : Fin n → EReal} {j : Fin n} (h : IsFirst z j) : (Finset.univ : Finset (Fin n)).fold max ⊥ z = z j :=
  le_antisymm (Finset.fold_max_le _ |>.mpr ⟨bot_le, fun i _ => (h i).1⟩)
    (Finset.le_fold_max _ |>.mpr (.inr ⟨j, Finset.mem_univ _, le_rfl⟩))

theorem toInt_minsi (x y : BitVec 32) : (IntOp.minsi x y).toInt = min x.toInt y.toInt := by
  unfold IntOp.minsi
  split <;> rename_i h
  · rw [min_eq_left (le_of_lt (by simpa [BitVec.slt] using h))]
  · rw [min_eq_right (not_lt.mp (by simpa [BitVec.slt] using h))]

theorem toInt_ofNat {k : ℕ} (h : k < 2 ^ 31) : (BitVec.ofNat 32 k).toInt = k := by
  have h' : (BitVec.ofNat 32 k).toNat = k := by rw [BitVec.toNat_ofNat]; exact Nat.mod_eq_of_lt (by omega)
  rw [BitVec.toInt_eq_toNat_of_lt (by rw [h']; omega), h']

/-- The least, as signed words, of the indices whose value is the maximum — a word at least as large as every index
    standing in elsewhere — is the first greatest entry. -/
theorem fold_min {z : Fin n → EReal} {j : Fin n} (h : IsFirst z j) (hn : n < 2 ^ 31) {v : Fin n → BitVec 32}
    (hv : ∀ i, v i = if z i = z j then BitVec.ofNat 32 i.val else BitVec.ofNat 32 n) :
    (Finset.univ : Finset (Fin n)).fold IntOp.minsi 2147483647#32 v = BitVec.ofNat 32 j.val := by
  apply BitVec.eq_of_toInt_eq
  have e := Finset.fold_hom (op := IntOp.minsi) (op' := (min : ℤ → ℤ → ℤ)) (m := BitVec.toInt)
    (fun x y => toInt_minsi x y) (f := v) (s := (Finset.univ : Finset (Fin n))) (b := 2147483647#32)
  rw [← e, toInt_ofNat (k := j.val) (by omega)]
  refine le_antisymm ?_ ?_
  · refine Finset.fold_min_le _ |>.mpr (.inr ⟨j, Finset.mem_univ _, ?_⟩)
    rw [hv, if_pos rfl, toInt_ofNat (by omega)]
  · refine Finset.le_fold_min _ |>.mpr ⟨?_, fun i _ => ?_⟩
    · have : (2147483647#32 : BitVec 32).toInt = 2147483647 := by decide
      omega
    · rw [hv]
      split <;> rename_i hz
      · rw [toInt_ofNat (by omega)]
        rcases lt_or_ge i j with l | l
        · exact absurd hz (ne_of_lt ((h i).2 l))
        · exact_mod_cast l
      · rw [toInt_ofNat hn]; omega

/-- A step that keeps the pair of greater value, and of the lower index at equal values. -/
def step (p q : EReal × BitVec 32) : EReal × BitVec 32 :=
  if q.1 < p.1 ∨ (p.1 = q.1 ∧ p.2.toInt < q.2.toInt) then p else q

/-- The pair `p` is at least as good as `q`. -/
def Beats (p q : EReal × BitVec 32) : Prop := q.1 < p.1 ∨ (p.1 = q.1 ∧ p.2.toInt ≤ q.2.toInt)

theorem Beats.refl (p : EReal × BitVec 32) : Beats p p := .inr ⟨rfl, le_rfl⟩

theorem Beats.trans {p q r : EReal × BitVec 32} (h : Beats p q) (h' : Beats q r) : Beats p r := by
  rcases h with h | ⟨h, k⟩ <;> rcases h' with h' | ⟨h', k'⟩
  · exact .inl (lt_trans h' h)
  · exact .inl (h' ▸ h)
  · exact .inl (h ▸ h')
  · exact .inr ⟨h.trans h', k.trans k'⟩

theorem step_beats (p q : EReal × BitVec 32) : Beats (step p q) p ∧ Beats (step p q) q := by
  unfold step
  split <;> rename_i h
  · exact ⟨.refl _, h.imp id fun h => ⟨h.1, le_of_lt h.2⟩⟩
  · refine ⟨?_, .refl _⟩
    rw [not_or, not_lt] at h
    rcases lt_or_eq_of_le h.1 with l | e
    · exact .inl l
    · exact .inr ⟨e.symm, not_lt.mp fun k => h.2 ⟨e, k⟩⟩

theorem step_mem (p q : EReal × BitVec 32) : step p q = p ∨ step p q = q := by
  unfold step; split <;> simp

/-- What the fold leaves is at least as good as the start and every pair, and is one of them. -/
theorem foldl_step : ∀ (l : List (EReal × BitVec 32)) (p : EReal × BitVec 32),
    Beats (l.foldl step p) p ∧ (∀ q ∈ l, Beats (l.foldl step p) q) ∧ (l.foldl step p = p ∨ l.foldl step p ∈ l)
  | [], p => ⟨.refl p, by simp, .inl rfl⟩
  | q :: l, p => by
    obtain ⟨h, hl, hm⟩ := foldl_step l (step p q)
    refine ⟨h.trans (step_beats p q).1, fun r hr => ?_, ?_⟩
    · rcases List.mem_cons.mp hr with rfl | hr
      · exact h.trans (step_beats p _).2
      · exact hl r hr
    · rw [List.foldl_cons]
      rcases hm with hm | hm
      · rw [hm]
        exact (step_mem p q).imp id fun e => by rw [e]; exact List.mem_cons_self
      · exact .inr (List.mem_cons_of_mem _ hm)

/-- Folding over the pairs (value, index) of a family, in any order, from the pair of minus infinity and zero leaves the
    first greatest entry's index. -/
theorem foldl_first {z : Fin n → EReal} {j : Fin n} (h : IsFirst z j) (hn : n < 2 ^ 31) {l : List (EReal × BitVec 32)}
    (hl : ∀ p, p ∈ l ↔ ∃ i : Fin n, p = (z i, BitVec.ofNat 32 i.val)) : (l.foldl step (⊥, 0#32)).2 = BitVec.ofNat 32 j.val := by
  obtain ⟨-, hb, hm⟩ := foldl_step l (⊥, 0#32)
  set r := l.foldl step (⊥, 0#32) with hr
  have hj := hb (z j, BitVec.ofNat 32 j.val) ((hl _).mpr ⟨j, rfl⟩)
  rcases hm with hm | hm
  · rw [hm] at hj ⊢
    rcases hj with hj | ⟨hj, hk⟩
    · exact absurd hj not_lt_bot
    · apply BitVec.eq_of_toInt_eq
      have h0 : j.val = 0 := by
        by_contra h0
        have h' := (h ⟨0, by omega⟩).2 (Fin.mk_lt_of_lt_val (by omega))
        simp only at hj
        rw [← hj] at h'
        exact not_lt_bot h'
      rw [h0]
  · obtain ⟨i, hi⟩ := (hl _).mp hm
    rw [hi] at hj ⊢
    have : i = j := by
      rcases hj with hj | ⟨hj, hk⟩
      · exact absurd hj (not_lt.mpr (h i).1)
      · simp only at hj hk
        rw [toInt_ofNat (by omega), toInt_ofNat (by omega)] at hk
        rcases lt_or_eq_of_le (show i ≤ j by exact_mod_cast hk) with l | e
        · exact absurd hj (ne_of_lt ((h i).2 l))
        · exact e
    rw [this]

end Cert.Proof.Pick
-- ==== Proof.Math.Gumbel.lean ====
/- Adding Gumbel noise to the logarithms and taking the greatest picks the entry with the greatest quotient of
   (probability + ε) by an exponential variable, with the same tie broken the same way. -/
module

public import proofs.«01_k».proof.Proof.Math.Pick

@[expose] public section

noncomputable section

namespace Cert.Proof.Pick

open Idealize.ShloMosaic

variable {n : ℕ}

theorem log_coe {r : ℝ} (h : 0 < r) : Ideal.log (r : EReal) = (Real.log r : ℝ) := if_neg (not_le.mpr h)

theorem log_nonpos {x : EReal} (h : x ≤ 0) : Ideal.log x = ⊥ := by
  induction x with
  | bot => rfl
  | top => exact absurd h (by simp)
  | coe r => exact if_pos (by exact_mod_cast h)

/-- Above zero the logarithm is strictly increasing. -/
theorem log_lt {x y : EReal} (hy : 0 < y) (h : x < y) : Ideal.log x < Ideal.log y := by
  rcases le_or_gt x 0 with hx | hx
  · rw [log_nonpos hx]
    induction y with
    | bot => exact absurd hy (by simp)
    | top => exact bot_lt_top
    | coe r => rw [log_coe (by exact_mod_cast hy)]; exact EReal.bot_lt_coe _
  · induction x with
    | bot => exact absurd hx (by simp)
    | top => exact absurd h (by simp)
    | coe r =>
      have hr : 0 < r := by exact_mod_cast hx
      rw [log_coe hr]
      induction y with
      | bot => exact absurd hy (by simp)
      | top => exact EReal.coe_lt_top _
      | coe s =>
        have hs : r < s := by exact_mod_cast h
        rw [log_coe (lt_trans hr hs)]
        exact_mod_cast Real.log_lt_log hr hs

/-- The logarithm of a quotient by a positive number. -/
theorem log_div (t : EReal) {w : ℝ} (hw : 0 < w) : Ideal.log (Ideal.div t w) = -Ideal.log w + Ideal.log t := by
  rw [Ideal.div_coe hw.ne', log_coe hw, ← EReal.coe_neg]
  have h1 : 0 < 1 / w := by positivity
  induction t with
  | bot => rw [EReal.bot_mul_coe_of_pos h1]; show (⊥ : EReal) = _ + ⊥; simp
  | top => rw [EReal.top_mul_coe_of_pos h1]; show (⊤ : EReal) = _ + ⊤; simp
  | coe r =>
    rw [← EReal.coe_mul]
    rcases le_or_gt r 0 with hr | hr
    · rw [log_nonpos (x := (r : EReal)) (by exact_mod_cast hr), log_nonpos]
      · simp
      · exact_mod_cast mul_nonpos_of_nonpos_of_nonneg hr h1.le
    · rw [log_coe hr, log_coe (by positivity), ← EReal.coe_add, Real.log_mul hr.ne' h1.ne', one_div, Real.log_inv]
      congr 1; ring

/-- If the greatest quotient is positive, or all numerators are minus infinity, its first entry is also the first of the
    greatest sums. -/
theorem IsFirst.gumbel {t : Fin n → EReal} {w : Fin n → ℝ} (hw : ∀ i, 0 < w i) (ht : (∃ k, 0 < t k) ∨ ∀ k, t k = ⊥)
    {j : Fin n} (h : IsFirst (fun i => Ideal.div (t i) (w i)) j) :
    IsFirst (fun i => -Ideal.log (w i) + Ideal.log (t i)) j := by
  have e : (fun i => -Ideal.log (w i : EReal) + Ideal.log (t i)) = fun i => Ideal.log (Ideal.div (t i) (w i)) :=
    funext fun i => (log_div (t i) (hw i)).symm
  rw [e]
  rcases ht with ⟨k, hk⟩ | ht
  · have hp : 0 < Ideal.div (t j) (w j) := by
      refine lt_of_lt_of_le ?_ (h k).1
      show 0 < Ideal.div (t k) (w k)
      rw [Ideal.div_coe (hw k).ne']
      exact EReal.mul_pos hk (by exact_mod_cast one_div_pos.mpr (hw k))
    refine fun i => ⟨?_, fun hi => log_lt hp ((h i).2 hi)⟩
    rcases lt_or_eq_of_le (h i).1 with l | l
    · exact le_of_lt (log_lt hp l)
    · exact le_of_eq (congrArg Ideal.log l)
  · have hb : ∀ i, Ideal.div (t i) (w i) = ⊥ := fun i => by
      rw [Ideal.div_coe (hw i).ne', ht i, EReal.bot_mul_coe_of_pos (one_div_pos.mpr (hw i))]
    refine fun i => ⟨by simp only [hb]; exact le_rfl, fun hi => ?_⟩
    have := (h i).2 hi
    simp only [hb] at this
    exact absurd this (lt_irrefl _)

/-- A family divided by its sum and raised by a positive number has a positive entry, or is minus infinity throughout. -/
theorem exists_pos_or_bot (raw : Fin n → EReal) {ε : EReal} (hε : 0 < ε) :
    (∃ k, 0 < Ideal.div (raw k) (∑ i, raw i) + ε) ∨ ∀ k, Ideal.div (raw k) (∑ i, raw i) + ε = ⊥ := by
  by_cases h : ∃ k, 0 < Ideal.div (raw k) (∑ i, raw i) + ε
  · exact .inl h
  refine .inr fun k => ?_
  simp only [not_exists, not_lt] at h
  have hp : ∀ i, Ideal.div (raw i) (∑ i, raw i) < 0 := fun i => by
    by_contra hi
    exact absurd (h i) (not_le.mpr (lt_of_lt_of_le hε (le_add_of_nonneg_left (not_lt.mp hi))))
  set D := ∑ i, raw i with hD
  by_cases h0 : D = 0
  · have := hp k
    unfold Ideal.div at this ⊢
    rw [if_pos h0] at this ⊢
    split at this
    · exact absurd this (by simp)
    · rename_i hr; rw [if_neg hr, EReal.bot_add]
  · exfalso
    have hq : ∀ i, raw i * D⁻¹ < 0 := fun i => by
      have := hp i; unfold Ideal.div at this; rwa [if_neg h0] at this
    rcases lt_or_gt_of_ne h0 with hn | hn
    · have : 0 ≤ D := hD ▸ Finset.sum_nonneg fun i _ => by
        by_contra hi
        refine absurd (hq i) (not_lt.mpr ?_)
        rw [← neg_mul_neg]
        exact mul_nonneg (EReal.neg_nonneg.mpr (le_of_lt (not_le.mp hi))) (EReal.neg_nonneg.mpr (EReal.inv_nonpos_of_nonpos hn.le))
      exact absurd hn (not_lt.mpr this)
    · have : D ≤ 0 := hD ▸ Finset.sum_nonpos fun i _ => by
        by_contra hi
        exact absurd (hq i) (not_lt.mpr (mul_nonneg (le_of_lt (not_le.mp hi)) (EReal.inv_nonneg_of_nonneg hn.le)))
      exact absurd hn (not_lt.mpr this)

end Cert.Proof.Pick
-- ==== Proof.Math.Uniform.lean ====
/- The number in [0, 1) that 23 bits of a random word spell, the same number with zero replaced by the least positive
   normal one, and the exponential variable it gives. -/
module

public import proofs.«01_k».proof.Proof.Math.Gumbel

@[expose] public section

noncomputable section

namespace Cert.Proof.Uniform

open Idealize.ShloMosaic Cert.Proof.Pick

theorem ofBits_f32 (b : BitVec 32) : Ideal.ofBits .f32 b = Ideal.ieee 8 23 b := rfl

theorem ofBits_one : Ideal.ofBits .f32 0x3F800000#32 = (1 : ℝ) := by
  rw [ofBits_f32]
  unfold Ideal.ieee
  have h1 : (0x3F800000#32 : BitVec 32).extractLsb' (8 + 23) 1 = 0#1 := by decide
  have h2 : ((0x3F800000#32 : BitVec 32).extractLsb' 23 8).toNat = 127 := by decide
  have h3 : ((0x3F800000#32 : BitVec 32).extractLsb' 0 23).toNat = 0 := by decide
  simp only [h1, h2, h3]
  norm_num

theorem ofBits_zero : Ideal.ofBits .f32 0x00000000#32 = 0 := Ideal.ofBits_zero_f32

theorem ofBits_neg_inf : Ideal.ofBits .f32 0xFF800000#32 = ⊥ := by
  rw [ofBits_f32]
  unfold Ideal.ieee
  have h1 : (0xFF800000#32 : BitVec 32).extractLsb' (8 + 23) 1 = 1#1 := by decide
  have h2 : ((0xFF800000#32 : BitVec 32).extractLsb' 23 8).toNat = 255 := by decide
  have h3 : ((0xFF800000#32 : BitVec 32).extractLsb' 0 23).toNat = 0 := by decide
  simp only [h1, h2, h3]
  norm_num

/-- The least positive normal number. -/
theorem ofBits_tiny : Ideal.ofBits .f32 0x00800000#32 = (((2 : ℝ) ^ (-126 : ℤ) : ℝ) : EReal) := by
  rw [ofBits_f32]
  unfold Ideal.ieee
  have h1 : (0x00800000#32 : BitVec 32).extractLsb' (8 + 23) 1 = 0#1 := by decide
  have h2 : ((0x00800000#32 : BitVec 32).extractLsb' 23 8).toNat = 1 := by decide
  have h3 : ((0x00800000#32 : BitVec 32).extractLsb' 0 23).toNat = 0 := by decide
  simp only [h1, h2, h3]
  norm_num

/-- The small number added to the probabilities is positive. -/
theorem ofBits_eps : 0 < Ideal.ofBits .f32 0x33D6BF95#32 := by
  rw [ofBits_f32]
  unfold Ideal.ieee
  have h1 : (0x33D6BF95#32 : BitVec 32).extractLsb' (8 + 23) 1 = 0#1 := by decide
  have h2 : ((0x33D6BF95#32 : BitVec 32).extractLsb' 23 8).toNat = 103 := by decide
  simp only [h1, h2]
  norm_num

/-- Twenty-three bits of a word as a number in [0, 1). -/
def unit (b : BitVec 32) : EReal := Ideal.ofBits .f32 (b >>> (9#32) ||| 1065353216#32) - Ideal.ofBits .f32 0x3F800000#32

theorem top_bits (b : BitVec 32) : (b >>> (9#32)).toNat < 2 ^ 23 := by
  rw [BitVec.ushiftRight_eq', BitVec.toNat_ushiftRight, show (9#32).toNat = 9 from rfl, Nat.shiftRight_eq_div_pow]
  have := b.isLt
  omega

theorem unit_eq (b : BitVec 32) : unit b = (((b >>> (9#32)).toNat / 2 ^ 23 : ℝ) : EReal) := by
  unfold unit
  have hm := top_bits b
  set m := b >>> (9#32) with hb
  have hc : (m ||| 1065353216#32).toNat = m.toNat + 127 * 2 ^ 23 := by
    rw [BitVec.toNat_or, show (1065353216#32).toNat = 127 <<< 23 from rfl, Nat.or_comm, ← Nat.shiftLeft_add_eq_or_of_lt hm]
    rw [Nat.shiftLeft_eq]; omega
  rw [ofBits_one, ofBits_f32]
  unfold Ideal.ieee
  have h1 : (m ||| 1065353216#32).extractLsb' (8 + 23) 1 = 0#1 := by
    apply BitVec.eq_of_toNat_eq
    rw [BitVec.extractLsb'_toNat, hc, Nat.shiftRight_eq_div_pow]
    show _ = 0
    omega
  have h2 : ((m ||| 1065353216#32).extractLsb' 23 8).toNat = 127 := by
    rw [BitVec.extractLsb'_toNat, hc, Nat.shiftRight_eq_div_pow]; omega
  have h3 : ((m ||| 1065353216#32).extractLsb' 0 23).toNat = m.toNat := by
    rw [BitVec.extractLsb'_toNat, hc, Nat.shiftRight_eq_div_pow]; omega
  simp only [h1, h2, h3]
  rw [if_neg (by norm_num), if_neg (by norm_num), ← EReal.coe_sub]
  congr 1
  push_cast
  norm_num
  ring

/-- That number, with zero replaced by the least positive normal one. -/
def open01 (b : BitVec 32) : EReal := if unit b = 0 then Ideal.ofBits .f32 0x00800000#32 else unit b

/-- It lies strictly between zero and one. -/
theorem open01_eq (b : BitVec 32) : ∃ r : ℝ, 0 < r ∧ r < 1 ∧ open01 b = r := by
  unfold open01
  split <;> rename_i h
  · exact ⟨_, by positivity, by norm_num, ofBits_tiny⟩
  · rw [unit_eq] at h ⊢
    have hm := top_bits b
    have h' : ((b >>> (9#32)).toNat / 2 ^ 23 : ℝ) ≠ 0 := by exact_mod_cast h
    refine ⟨_, lt_of_le_of_ne (by positivity) h'.symm, ?_, rfl⟩
    rw [div_lt_one (by positivity)]
    exact_mod_cast hm

/-- Scaling by one, adding zero, and taking maxima with zero and with the least positive normal number gives it too. -/
theorem open01_max (b : BitVec 32) :
    max (max (Ideal.ofBits .f32 0x00000000#32) (unit b * (Ideal.ofBits .f32 0x3F800000#32 - Ideal.ofBits .f32 0x00000000#32)
      + Ideal.ofBits .f32 0x00000000#32)) (Ideal.ofBits .f32 0x00800000#32) = open01 b := by
  rw [ofBits_zero, ofBits_one]
  have h1 : unit b * (((1 : ℝ) : EReal) - 0) + 0 = unit b := by
    rw [sub_zero, EReal.coe_one, mul_one, add_zero]
  rw [h1]
  unfold open01
  rw [unit_eq, ofBits_tiny]
  have h0 : (0 : EReal) ≤ (((b >>> (9#32)).toNat / 2 ^ 23 : ℝ) : EReal) := by
    exact_mod_cast (by positivity : (0 : ℝ) ≤ ((b >>> (9#32)).toNat / 2 ^ 23 : ℝ))
  rw [max_eq_right h0]
  split <;> rename_i h
  · rw [h]; exact max_eq_right (by exact_mod_cast (by positivity : (0 : ℝ) ≤ (2 : ℝ) ^ (-126 : ℤ)))
  · refine max_eq_left ?_
    have h' : ((b >>> (9#32)).toNat / 2 ^ 23 : ℝ) ≠ 0 := by exact_mod_cast h
    have hn : 1 ≤ (b >>> (9#32)).toNat := by
      rw [Nat.one_le_iff_ne_zero]; intro e; rw [e] at h'; simp at h'
    have : ((2 : ℝ) ^ (-126 : ℤ)) ≤ ((b >>> (9#32)).toNat / 2 ^ 23 : ℝ) := by
      have : (1 : ℝ) ≤ ((b >>> (9#32)).toNat : ℝ) := by exact_mod_cast hn
      calc ((2 : ℝ) ^ (-126 : ℤ)) ≤ 1 / 2 ^ 23 := by norm_num [zpow_neg]
        _ ≤ _ := by gcongr
    exact_mod_cast this

/-- Minus the logarithm of a number strictly between zero and one is positive and finite. -/
def wait (b : BitVec 32) : EReal := -Ideal.log (open01 b)

theorem wait_eq (b : BitVec 32) : ∃ w : ℝ, 0 < w ∧ wait b = w := by
  obtain ⟨r, h0, h1, e⟩ := open01_eq b
  exact ⟨-Real.log r, neg_pos.mpr (Real.log_neg h0 h1), by rw [wait, e, log_coe h0, EReal.coe_neg]⟩

end Cert.Proof.Uniform
-- ==== Proof.Math.Row.lean ====
/- One row of the problem: the masked softmax of the logits, its logarithm, and the index it is sampled at. -/
module

public import proofs.«01_k».proof.Proof.Math.Uniform

@[expose] public section

noncomputable section

namespace Cert.Proof.Row

open Idealize.ShloMosaic Cert.Proof.Pick Cert.Proof.Uniform

variable {n : ℕ}

/-- The small number added to the probabilities. -/
def eps : EReal := Ideal.ofBits .f32 0x33D6BF95#32

/-- The greatest entry. -/
def top (x : Fin n → EReal) : EReal := (Finset.univ : Finset (Fin n)).fold max ⊥ x

/-- The exponentials of the entries less the greatest. -/
def expo (x : Fin n → EReal) (i : Fin n) : EReal := Ideal.exp (x i - top x)

/-- The entries over their sum. -/
def share (x : Fin n → EReal) (i : Fin n) : EReal := Ideal.div (x i) (∑ k, x k)

/-- The softmax, raised and masked. -/
def raw (x mask : Fin n → EReal) (i : Fin n) : EReal := (share (expo x) i + eps) * mask i

/-- The probabilities. -/
def prob (x mask : Fin n → EReal) : Fin n → EReal := share (raw x mask)

/-- The probabilities raised. -/
def raised (x mask : Fin n → EReal) (i : Fin n) : EReal := prob x mask i + eps

/-- Their logarithms. -/
def logp (x mask : Fin n → EReal) (i : Fin n) : EReal := Ideal.log (raised x mask i)

/-- The least index whose entry is the greatest, as words compare. -/
def pick (z : Fin n → EReal) : BitVec 32 :=
  (Finset.univ : Finset (Fin n)).fold IntOp.minsi 2147483647#32
    fun i => if z i = top z then BitVec.ofNat 32 i.val else BitVec.ofNat 32 n

theorem pick_eq {z : Fin n → EReal} {j : Fin n} (h : IsFirst z j) (hn : n < 2 ^ 31) : pick z = BitVec.ofNat 32 j.val := by
  unfold pick
  refine fold_min h hn fun i => ?_
  rw [top, h.fold_max]

/-- The index the row is sampled at: raised probabilities over waits. -/
def sample (x mask : Fin n → EReal) (bits : Fin n → BitVec 32) : BitVec 32 :=
  pick fun i => Ideal.div (raised x mask i) (wait (bits i))

/-- A search, in any order, for the greatest of the log probabilities less the logarithms of the waits, the least index
    among equals, finds the sampled index. -/
theorem search (x mask : Fin n → EReal) (bits : Fin n → BitVec 32) (h0 : 0 < n) (hn : n < 2 ^ 31) {l : List (EReal × BitVec 32)}
    (hl : ∀ p, p ∈ l ↔ ∃ i : Fin n, p = (-Ideal.log (wait (bits i)) + logp x mask i, BitVec.ofNat 32 i.val)) :
    (l.foldl step (⊥, 0#32)).2 = sample x mask bits := by
  obtain ⟨j, hj⟩ := exists_isFirst (fun i => Ideal.div (raised x mask i) (wait (bits i))) h0
  rw [sample, pick_eq hj hn]
  choose w hw e using fun i => wait_eq (bits i)
  have hq : IsFirst (fun i => Ideal.div (raised x mask i) (w i : EReal)) j := by simpa only [e] using hj
  have hj' : IsFirst (fun i => -Ideal.log (w i : EReal) + Ideal.log (raised x mask i)) j :=
    IsFirst.gumbel hw (exists_pos_or_bot (raw x mask) ofBits_eps) hq
  refine foldl_first hj' hn fun p => ?_
  simp only [← e]
  exact hl p

end Cert.Proof.Row
-- ==== Proof.KernelValue.Row.lean ====
/- The values the kernel's body computes from a block, row by row: the probabilities, their logarithms and the sampled
   index. -/
module

public import proofs.«01_k».proof.Proof.KernelValue.Bits
public import proofs.«01_k».proof.Proof.Math.Row
public import Idealize.ShloMosaic.Lib.ValueLayout
public import Idealize.ShloMosaic.Lib.ValueLayoutCasts
public import Idealize.ShloMosaic.PureOps.Ideal.Laws

@[expose] public section

set_option maxRecDepth 16384

noncomputable section

namespace Cert.Proof.KernelValue

open Idealize.ShloMosaic Idealize.ShloMosaic.ValueIdx Cert.KernelIdeal Cert.KernelIdeal.Gen Cert.Proof.Row

/-- A row of a block. -/
abbrev row {α : Type} (x : S8x100000.Idx → α) (r : Fin 8) : Fin 100000 → α := fun k => x (ix2 r k)

theorem lift_eq (r : Fin 8) (k : Fin 100000) :
    reduces_S8x100000_S8.lift (ix1 r) k = (ix2 r k : S8x100000.Idx) := by
  funext a; match a with | ⟨0, _⟩ => rfl | ⟨1, _⟩ => rfl

/-- A column put beside itself. -/
theorem wide_apply {α : Type} (v : S8.Idx → α) (r : Fin 8) (k : Fin 100000) :
    broadcastTo S8x100000 (shapeCast S8x1 v shapeCasts_S8_S8x1) broadcasts_S8x1_S8x100000 (ix2 r k) = v (ix1 r) := by
  rw [broadcastTo_apply _ _ _ (ix2 r (0 : Fin 1)) (fun a => by match a with | ⟨0, _⟩ => rfl | ⟨1, _⟩ => rfl)]
  exact shapeCast_a_a1_apply v _ r 0

/-- The greatest of every row, put beside itself. -/
def wideMax (x : FVec Ideal S8x100000 .f32) : FVec Ideal S8x100000 .f32 :=
  broadcastTo S8x100000 (shapeCast S8x1 (multiReduction .maximumf [1] S8 x 0xFF800000#32 reduces_S8x100000_S8 (.inl rfl) rfl)
    shapeCasts_S8_S8x1) broadcasts_S8x1_S8x100000

theorem wideMax_apply (x : FVec Ideal S8x100000 .f32) (r : Fin 8) (k : Fin 100000) :
    wideMax x (ix2 r k) = top (row x r) := by
  unfold wideMax
  rw [wide_apply]
  refine (Ideal.multiReduction_maximumf_single _ _ _ _ _ _).trans ?_
  rw [show (FloatOps.ofBits .f32 0xFF800000#32 : Ideal .f32) = (⊥ : EReal) from Uniform.ofBits_neg_inf]
  unfold top
  exact Finset.fold_congr fun k _ => congrArg x (lift_eq r k)

/-- The sum of every row, put beside itself. -/
def wideSum (x : FVec Ideal S8x100000 .f32) : FVec Ideal S8x100000 .f32 :=
  broadcastTo S8x100000 (shapeCast S8x1 (multiReduction .add [1] S8 x 0x00000000#32 reduces_S8x100000_S8 (.inl rfl) rfl)
    shapeCasts_S8_S8x1) broadcasts_S8x1_S8x100000

theorem wideSum_apply (x : FVec Ideal S8x100000 .f32) (r : Fin 8) (k : Fin 100000) :
    wideSum x (ix2 r k) = ∑ k, row x r k := by
  unfold wideSum
  rw [wide_apply]
  refine (Ideal.multiReduction_add_single _ _ _ _ _ _).trans ?_
  exact Finset.sum_congr rfl fun k _ => congrArg x (lift_eq r k)

section At

variable (a b : FVec Ideal S8x100000 .f32) (j : S8x100000.Idx)

theorem exp_at : (exp a : FVec Ideal S8x100000 .f32) j = Ideal.exp (a j) := rfl
theorem subf_at : subf a b j = a j - b j := rfl
theorem addf_at : addf a b j = a j + b j := rfl
theorem mulf_at : mulf a b j = a j * b j := rfl
theorem divf_at : divf a b j = Ideal.div (a j) (b j) := rfl
theorem eps_at : broadcast S8x100000 (Scalar.ofBits (F := Ideal) .f32 0x33D6BF95#32) j = eps := rfl

end At

/-- The exponentials of the logits less their row's greatest. -/
def expos (x : FVec Ideal S8x100000 .f32) : FVec Ideal S8x100000 .f32 := exp (subf x (wideMax x))

theorem expos_row (x : FVec Ideal S8x100000 .f32) (r : Fin 8) : row (expos x) r = expo (row x r) := funext fun k => by
  show expos x (ix2 r k) = _
  unfold expos expo
  rw [exp_at, subf_at, wideMax_apply]

/-- A block's entries over their row's sum. -/
def shares (x : FVec Ideal S8x100000 .f32) : FVec Ideal S8x100000 .f32 := divf x (wideSum x)

theorem shares_apply (x : FVec Ideal S8x100000 .f32) (r : Fin 8) (k : Fin 100000) : shares x (ix2 r k) = share (row x r) k := by
  unfold shares share
  rw [divf_at, wideSum_apply]

/-- The softmax, raised and masked. -/
def raws (x mask : FVec Ideal S8x100000 .f32) : FVec Ideal S8x100000 .f32 :=
  mulf (addf (shares (expos x)) (broadcast S8x100000 (Scalar.ofBits .f32 0x33D6BF95#32))) mask

theorem raws_row (x mask : FVec Ideal S8x100000 .f32) (r : Fin 8) : row (raws x mask) r = raw (row x r) (row mask r) :=
  funext fun k => by
    show raws x mask (ix2 r k) = _
    unfold raws raw
    rw [mulf_at, addf_at, shares_apply, expos_row, eps_at]

/-- The probabilities from logits and masks, as the body spells them. -/
def probs (x mask : FVec Ideal S8x100000 .f32) : FVec Ideal S8x100000 .f32 := shares (raws x mask)

theorem probs_apply (x mask : FVec Ideal S8x100000 .f32) (r : Fin 8) (k : Fin 100000) :
    probs x mask (ix2 r k) = prob (row x r) (row mask r) k := by
  unfold probs prob
  rw [shares_apply, raws_row]

/-- Both branches compute the probabilities so, from the branch's logits. -/
theorem pay39_eq (x : Vec Ideal S1x8x100000 .f32) (mask : Vec Ideal S8x100000 .f32) :
    k0_pay39 x mask = probs (shapeCast S8x100000 x shapeCasts_S1x8x100000_S8x100000) mask := rfl

theorem pay93_eq (x : Vec Ideal S1x8x100000 .f32) (mask : Vec Ideal S8x100000 .f32) :
    k0_pay93 x mask = probs (shapeCast S8x100000 x shapeCasts_S1x8x100000_S8x100000) mask := rfl

/-- The branch's logits, a row of them. -/
theorem row_cast (x : Vec Ideal S1x8x100000 .f32) (r : Fin 8) :
    row (shapeCast S8x100000 x shapeCasts_S1x8x100000_S8x100000) r = fun k => x (ix3 (0 : Fin 1) r k) :=
  funext fun k => shapeCast_1ab_ab_apply x _ r k

theorem raised_apply (p : FVec Ideal S8x100000 .f32) (j : S8x100000.Idx) : k0_pay1 p j = p j + eps := rfl

theorem logs_apply (p : FVec Ideal S8x100000 .f32) (j : S8x100000.Idx) : k0_pay2 p j = Ideal.log (p j + eps) := rfl

theorem pay41_eq (x : Vec Ideal S1x8x100000 .f32) (mask : Vec Ideal S8x100000 .f32) :
    k0_pay41 x mask = k0_pay2 (k0_pay39 x mask) := rfl

theorem select_oeq {α : Type} (x y : EReal) (a b : α) :
    Scalar.select (Ideal.cmp .oeq x y) a b = if x = y then a else b := by
  unfold Scalar.select Ideal.cmp
  by_cases h : x = y <;> simp [h]

/-- The waits from the words. -/
theorem waits_apply (b : IVec S8x100000 32) (j : S8x100000.Idx) :
    (k0_pay38 b : FVec Ideal S8x100000 .f32) j = Uniform.wait (b j) := by
  show Ideal.ofBits .f32 0x00000000#32 - Ideal.log (Scalar.select (Ideal.cmp .oeq
    (Ideal.ofBits .f32 (IntOp.shrui .vector (b j) 9#32 ||| 1065353216#32) - Ideal.ofBits .f32 0x3F800000#32)
    (Ideal.ofBits .f32 0x00000000#32)) (Ideal.ofBits .f32 0x00800000#32)
    (Ideal.ofBits .f32 (IntOp.shrui .vector (b j) 9#32 ||| 1065353216#32) - Ideal.ofBits .f32 0x3F800000#32)) = _
  rw [Threefry.shrui_of_lt _ _ _ (by decide), Uniform.ofBits_zero, zero_sub, select_oeq]
  rfl

theorem iota_at (r : Fin 8) (k : Fin 100000) :
    iota .tc S8x100000 32 [1] iota_S8x100000_d1_w32 (ix2 r k) = BitVec.ofNat 32 k.val := by
  show BitVec.ofNat 32 (0 * 100000 + k.val) = _
  rw [Nat.zero_mul, Nat.zero_add]

/-- The columns where a row is greatest, and past the last column elsewhere. -/
def marks (z : FVec Ideal S8x100000 .f32) : IVec S8x100000 32 :=
  select (cmpf .oeq z (wideMax z)) (iota .tc S8x100000 32 [1] iota_S8x100000_d1_w32) (broadcast S8x100000 100000#32)

theorem marks_apply (z : FVec Ideal S8x100000 .f32) (r : Fin 8) (k : Fin 100000) :
    marks z (ix2 r k) = if row z r k = top (row z r) then BitVec.ofNat 32 k.val else BitVec.ofNat 32 100000 := by
  have h : marks z (ix2 r k) = Scalar.select (Ideal.cmp .oeq (z (ix2 r k)) (wideMax z (ix2 r k)))
      (iota .tc S8x100000 32 [1] iota_S8x100000_d1_w32 (ix2 r k)) (BitVec.ofNat 32 100000) := rfl
  rw [h, select_oeq, wideMax_apply, iota_at]

/-- The least mark of every row. -/
theorem least_mark (z : FVec Ideal S8x100000 .f32) (r : Fin 8) :
    multiReductionI .minsi [1] S8 (marks z) 2147483647#32 reduces_S8x100000_S8 rfl (ix1 r) = pick (row z r) := by
  refine (multiReductionI_eq_fold _ _ _ _ _ _).trans ((reduces_S8x100000_S8.fold_filter_drop_single _ _ _ _).trans ?_)
  unfold pick
  refine Finset.fold_congr fun k _ => ?_
  exact (congrArg (marks z) (lift_eq r k)).trans (marks_apply z r k)

/-- The sampled indices from the quotients. -/
theorem pay3_apply (w p : FVec Ideal S8x100000 .f32) (r : Fin 8) (l : Fin 128) :
    k0_pay3 (iota .tc S8x100000 32 [1] iota_S8x100000_d1_w32) w p (ix2 r l)
      = pick fun k => Ideal.div (p (ix2 r k) + eps) (w (ix2 r k)) := by
  show broadcastTo S8x128 (shapeCast S8x1 (shapeCast S8x1 (multiReductionI .minsi [1] S8
    (marks (divf (k0_pay1 p) w)) 2147483647#32 reduces_S8x100000_S8 rfl) shapeCasts_S8_S8x1) shapeCasts_S8x1_S8x1)
    broadcasts_S8x1_S8x128 (ix2 r l) = _
  rw [broadcastTo_apply _ _ _ (ix2 r (0 : Fin 1)) (fun a => by match a with | ⟨0, _⟩ => rfl | ⟨1, _⟩ => rfl), shapeCast_self,
    shapeCast_a_a1_apply, least_mark]
  refine congrArg pick (funext fun k => ?_)
  exact divf_at _ _ _

theorem pay42_eq (v : IVec S8x100000 32) (w : FVec Ideal S8x100000 .f32) (x : Vec Ideal S1x8x100000 .f32) (mask : Vec Ideal S8x100000 .f32) :
    k0_pay42 v w (k0_pay40 x mask) = k0_pay3 v w (k0_pay39 x mask) := rfl

end Cert.Proof.KernelValue
-- ==== Proof.KernelValue.Block.lean ====
/- What the kernel's body leaves in its three output blocks, element by element, as functions of its key words and its
   blocks of logits and masks. A block's columns are two branches side by side. -/
module

public import proofs.«01_k».proof.Proof.KernelValue.Row
public import proofs.«01_k».proof.Proof.Gen.KernelIdeal.Frame
public import Idealize.ShloMosaic.Lib.WholeRead

@[expose] public section

set_option maxRecDepth 16384

noncomputable section

namespace Cert.Proof.KernelValue

open Idealize.ShloMosaic Idealize.ShloMosaic.ValueIdx Cert.KernelIdeal Cert.KernelIdeal.Gen Cert.Proof.Row

section Pieces

variable {Val : EltTy → Type} [∀ e, Nonempty (Val e)] {e : EltTy} {N w : ℕ}

/-- Of two pieces side by side, the left one's elements. -/
theorem canon_left (inb inb') (p q : (⟨2, ![8, w]⟩ : Shape).Idx → Val e) (r : Fin 8) (k : Fin w) (h : k.val < N) :
    View.canon (s := ⟨2, ![8, N]⟩) [⟨Rect.unit ![0, w] ![8, w] inb', q⟩, ⟨Rect.unit ![0, 0] ![8, w] inb, p⟩] (ix2 r ⟨k.val, h⟩)
      = p (ix2 r k) := by
  rw [View.canon_cons_of_not_mem]
  · have hi : (ix2 r ⟨k.val, h⟩ : (⟨2, ![8, N]⟩ : Shape).Idx) = (Rect.unit (s := ⟨2, ![8, N]⟩) ![0, 0] ![8, w] inb).emb (ix2 r k) := by
      funext a
      match a with
      | ⟨0, _⟩ => exact Fin.ext (show r.val = 0 + 1 * r.val by omega)
      | ⟨1, _⟩ => exact Fin.ext (show k.val = 0 + 1 * k.val by omega)
    rw [hi, View.canon_cons_emb]
  · intro hm
    obtain ⟨x, hx⟩ := LoadRect.exists_idx_of_mem _ hm
    have h1 : w + 1 * (x 1).val = k.val := congrArg (fun y : (⟨2, ![8, N]⟩ : Shape).Idx => (y 1).val) hx
    have := k.isLt
    omega

/-- And the right one's. -/
theorem canon_right (inb inb') (p q : (⟨2, ![8, w]⟩ : Shape).Idx → Val e) (r : Fin 8) (k : Fin w) (h : w + k.val < N) :
    View.canon (s := ⟨2, ![8, N]⟩) [⟨Rect.unit ![0, w] ![8, w] inb', q⟩, ⟨Rect.unit ![0, 0] ![8, w] inb, p⟩] (ix2 r ⟨w + k.val, h⟩)
      = q (ix2 r k) := by
  have hi : (ix2 r ⟨w + k.val, h⟩ : (⟨2, ![8, N]⟩ : Shape).Idx) = (Rect.unit (s := ⟨2, ![8, N]⟩) ![0, w] ![8, w] inb').emb (ix2 r k) := by
    funext a
    match a with
    | ⟨0, _⟩ => exact Fin.ext (show r.val = 0 + 1 * r.val by omega)
    | ⟨1, _⟩ => exact Fin.ext (show w + k.val = w + 1 * k.val by omega)
  rw [hi, View.canon_cons_emb]

end Pieces

/-- Column `k` of branch `b`. -/
def col (b : Fin 2) (k : Fin 100000) : Fin 200000 := ⟨b.val * 100000 + k.val, by omega⟩

/-- Lane `l` of branch `b` in the block of samples. -/
def lane (b : Fin 2) (l : Fin 128) : Fin 256 := ⟨b.val * 128 + l.val, by omega⟩

section Body

variable (c : Dev nD) (i : grid0.Coords) (arg1 : Memref sig .tc .smem S2x2 .i32) (harg1 : arg1.IsWhole)
  (arg2 : Memref sig .tc .vmem S2x8x100000 .f32) (harg2 : arg2.IsWhole) (arg3 : Memref sig .tc .vmem S8x200000 .f32)
  (harg3 : arg3.IsWhole) (arg4 : Memref sig .tc .vmem S8x200000 .f32) (harg4 : arg4.IsWhole)
  (arg5 : Memref sig .tc .vmem S8x200000 .f32) (harg5 : arg5.IsWhole) (arg6 : Memref sig .tc .vmem S8x256 .i32)
  (harg6 : arg6.IsWhole) (x0 : Vec Ideal S2x2 .i32) (x1 : Vec Ideal S2x8x100000 .f32) (x2 : Vec Ideal S8x200000 .f32)

/-- A row of a branch's logits in the block. -/
def logitRow (b : Fin 2) (r : Fin 8) : Fin 100000 → EReal := fun k => x1 (ix3 b r k)

/-- A row of a branch's masks in the block. -/
def maskRow (b : Fin 2) (r : Fin 8) : Fin 100000 → EReal := fun k => x2 (ix2 r (col b k))

/-- A row of a branch's random words. -/
def wordRow (b : Fin 2) (r : Fin 8) : Fin 100000 → BitVec 32 := fun k => word (x0 (ix2 b 0)) (x0 (ix2 b 1)) (number i (ix2 r k))

theorem key00 : kernelRun0_A.sl.r (F := Ideal) c arg1 harg1 x0 = x0 (ix2 0 0) :=
  (harg1.readAt_unread _ _ _).trans (congrArg x0 (funext fun a => by match a with | ⟨0, _⟩ => rfl | ⟨1, _⟩ => rfl))
theorem key01 : kernelRun0_A.sl.r_1 (F := Ideal) c arg1 harg1 x0 = x0 (ix2 0 1) :=
  (harg1.readAt_unread _ _ _).trans (congrArg x0 (funext fun a => by match a with | ⟨0, _⟩ => rfl | ⟨1, _⟩ => rfl))
theorem key10 : kernelRun0_A.sl.r_11 (F := Ideal) c arg1 harg1 x0 = x0 (ix2 1 0) :=
  (harg1.readAt_unread _ _ _).trans (congrArg x0 (funext fun a => by match a with | ⟨0, _⟩ => rfl | ⟨1, _⟩ => rfl))
theorem key11 : kernelRun0_A.sl.r_12 (F := Ideal) c arg1 harg1 x0 = x0 (ix2 1 1) :=
  (harg1.readAt_unread _ _ _).trans (congrArg x0 (funext fun a => by match a with | ⟨0, _⟩ => rfl | ⟨1, _⟩ => rfl))

/-- The first branch's waits. -/
theorem waits_first : kernelRun0_A.sl.r_9 (F := Ideal) c i arg1 harg1 x0
    = k0_pay38 (firstWords (F := Ideal) i (x0 (ix2 0 0)) (x0 (ix2 0 1))) := by
  rw [← key00 c arg1 harg1 x0, ← key01 c arg1 harg1 x0]; rfl

/-- The second branch's. -/
theorem waits_second : kernelRun0_A.sl.r_24 (F := Ideal) c i arg1 harg1 x0
    = k0_pay38 (secondWords (F := Ideal) i (x0 (ix2 1 0)) (x0 (ix2 1 1))) := by
  rw [← key10 c arg1 harg1 x0, ← key11 c arg1 harg1 x0]; rfl

/-- The first branch's probabilities. -/
def firstProbs : FVec Ideal S8x100000 .f32 :=
  k0_pay39 (View.readAt (Elt Ideal) arg2.view (Rect.unit (s := S2x8x100000) ![0, 0, 0] S1x8x100000.size inb_S2x8x100000_S1x8x100000_0_0_0).toLoadRect (harg2.unread x1))
    (View.readAt (Elt Ideal) arg3.view (Rect.unit (s := S8x200000) ![0, 0] S8x100000.size inb_S8x200000_S8x100000_0_0).toLoadRect (harg3.unread x2))

theorem firstProbs_apply (r : Fin 8) (k : Fin 100000) :
    firstProbs arg2 harg2 arg3 harg3 x1 x2 (ix2 r k) = prob (logitRow x1 0 r) (maskRow x2 0 r) k := by
  unfold firstProbs
  rw [pay39_eq, probs_apply, row_cast]
  refine congrFun (congrArg₂ prob (funext fun k => ?_) (funext fun k => ?_)) k
  · exact (harg2.readAt_unread _ _ _).trans (congrArg x1 (funext fun a => Fin.ext (by
      match a with
      | ⟨0, _⟩ => rfl
      | ⟨1, _⟩ => exact (show 0 + 1 * r.val = r.val by omega)
      | ⟨2, _⟩ => exact (show 0 + 1 * k.val = k.val by omega))))
  · exact (harg3.readAt_unread _ _ _).trans (congrArg x2 (funext fun a => Fin.ext (by
      match a with
      | ⟨0, _⟩ => exact (show 0 + 1 * r.val = r.val by omega)
      | ⟨1, _⟩ => exact (show 0 + 1 * k.val = 0 * 100000 + k.val by omega))))

theorem secondProbs_apply (r : Fin 8) (k : Fin 100000) :
    kernelRun0_A.sl.r_25 c arg2 harg2 arg3 harg3 x1 x2 (ix2 r k) = prob (logitRow x1 1 r) (maskRow x2 1 r) k := by
  unfold kernelRun0_A.sl.r_25
  rw [pay93_eq, probs_apply, row_cast]
  refine congrFun (congrArg₂ prob (funext fun k => ?_) (funext fun k => ?_)) k
  · exact (harg2.readAt_unread _ _ _).trans (congrArg x1 (funext fun a => Fin.ext (by
      match a with
      | ⟨0, _⟩ => rfl
      | ⟨1, _⟩ => exact (show 0 + 1 * r.val = r.val by omega)
      | ⟨2, _⟩ => exact (show 0 + 1 * k.val = k.val by omega))))
  · exact (harg3.readAt_unread _ _ _).trans (congrArg x2 (funext fun a => Fin.ext (by
      match a with
      | ⟨0, _⟩ => exact (show 0 + 1 * r.val = r.val by omega)
      | ⟨1, _⟩ => exact (show 100000 + 1 * k.val = 1 * 100000 + k.val by omega))))

/-- A column lies in the first branch or in the second. -/
theorem col_eq (b : Fin 2) (k : Fin 100000) :
    (b = 0 ∧ col b k = ⟨k.val, by omega⟩) ∨ (b = 1 ∧ col b k = ⟨100000 + k.val, by omega⟩) := by
  match b with
  | 0 => exact .inl ⟨rfl, Fin.ext (show 0 * 100000 + k.val = k.val by omega)⟩
  | 1 => exact .inr ⟨rfl, Fin.ext (show 1 * 100000 + k.val = 100000 + k.val by omega)⟩

theorem lane_eq (b : Fin 2) (l : Fin 128) :
    (b = 0 ∧ lane b l = ⟨l.val, by omega⟩) ∨ (b = 1 ∧ lane b l = ⟨128 + l.val, by omega⟩) := by
  match b with
  | 0 => exact .inl ⟨rfl, Fin.ext (show 0 * 128 + l.val = l.val by omega)⟩
  | 1 => exact .inr ⟨rfl, Fin.ext (show 1 * 128 + l.val = 128 + l.val by omega)⟩

/-- The block of probabilities. -/
theorem out3_apply (b : Fin 2) (r : Fin 8) (k : Fin 100000) :
    out0_A_3 c i arg1 harg1 arg2 harg2 arg3 harg3 arg4 harg4 arg5 harg5 arg6 harg6 x0 x1 x2 (ix2 r (col b k))
      = prob (logitRow x1 b r) (maskRow x2 b r) k := by
  unfold out0_A_3
  rw [View.read_writes_eq_canon _ _ _ (cover0_A_3 c i arg1 harg1 arg2 harg2 arg3 harg3 arg4 harg4 arg5 harg5 arg6 harg6 x0 x1 x2)]
  rcases col_eq b k with ⟨rfl, h⟩ | ⟨rfl, h⟩
  · rw [h]
    exact (canon_left (Val := Elt Ideal) (e := .f32) (N := 200000) (w := 100000) _ _ (firstProbs arg2 harg2 arg3 harg3 x1 x2) (kernelRun0_A.sl.r_25 c arg2 harg2 arg3 harg3 x1 x2)
      r k _).trans (firstProbs_apply ..)
  · rw [h]
    exact (canon_right (Val := Elt Ideal) (e := .f32) (N := 200000) (w := 100000) _ _ (firstProbs arg2 harg2 arg3 harg3 x1 x2) (kernelRun0_A.sl.r_25 c arg2 harg2 arg3 harg3 x1 x2)
      r k _).trans (secondProbs_apply ..)

/-- The block of their logarithms. -/
theorem out4_apply (b : Fin 2) (r : Fin 8) (k : Fin 100000) :
    out0_A_4 c i arg1 harg1 arg2 harg2 arg3 harg3 arg4 harg4 arg5 harg5 arg6 harg6 x0 x1 x2 (ix2 r (col b k))
      = logp (logitRow x1 b r) (maskRow x2 b r) k := by
  unfold out0_A_4
  rw [View.read_writes_eq_canon _ _ _ (cover0_A_4 c i arg1 harg1 arg2 harg2 arg3 harg3 arg4 harg4 arg5 harg5 arg6 harg6 x0 x1 x2)]
  rcases col_eq b k with ⟨rfl, h⟩ | ⟨rfl, h⟩
  · rw [h]
    refine (canon_left (Val := Elt Ideal) (e := .f32) (N := 200000) (w := 100000) _ _ (k0_pay2 (firstProbs arg2 harg2 arg3 harg3 x1 x2))
      (k0_pay2 (kernelRun0_A.sl.r_25 c arg2 harg2 arg3 harg3 x1 x2)) r k _).trans ?_
    rw [logs_apply, firstProbs_apply]; rfl
  · rw [h]
    refine (canon_right (Val := Elt Ideal) (e := .f32) (N := 200000) (w := 100000) _ _ (k0_pay2 (firstProbs arg2 harg2 arg3 harg3 x1 x2))
      (k0_pay2 (kernelRun0_A.sl.r_25 c arg2 harg2 arg3 harg3 x1 x2)) r k _).trans ?_
    rw [logs_apply, secondProbs_apply]; rfl

/-- The block of sampled indices: every lane of a branch holds the row's. -/
theorem out5_apply (b : Fin 2) (r : Fin 8) (l : Fin 128) :
    out0_A_5 c i arg1 harg1 arg2 harg2 arg3 harg3 arg4 harg4 arg5 harg5 arg6 harg6 x0 x1 x2 (ix2 r (lane b l))
      = sample (logitRow x1 b r) (maskRow x2 b r) (wordRow i x0 b r) := by
  unfold out0_A_5
  rw [View.read_writes_eq_canon _ _ _ (cover0_A_5 c i arg1 harg1 arg2 harg2 arg3 harg3 arg4 harg4 arg5 harg5 arg6 harg6 x0 x1 x2)]
  rcases lane_eq b l with ⟨rfl, h⟩ | ⟨rfl, h⟩
  · rw [h]
    refine (canon_left (Val := Elt Ideal) (e := .i32) (N := 256) (w := 128) _ _ (k0_pay3 (iota .tc S8x100000 32 [1] iota_S8x100000_d1_w32) (kernelRun0_A.sl.r_9 c i arg1 harg1 x0)
        (firstProbs arg2 harg2 arg3 harg3 x1 x2))
      (k0_pay3 (iota .tc S8x100000 32 [1] iota_S8x100000_d1_w32) (kernelRun0_A.sl.r_24 c i arg1 harg1 x0)
        (kernelRun0_A.sl.r_25 c arg2 harg2 arg3 harg3 x1 x2)) r l _).trans ?_
    rw [pay3_apply]
    refine congrArg pick (funext fun k => ?_)
    rw [firstProbs_apply, waits_first, waits_apply, firstWords_apply]; rfl
  · rw [h]
    refine (canon_right (Val := Elt Ideal) (e := .i32) (N := 256) (w := 128) _ _ (k0_pay3 (iota .tc S8x100000 32 [1] iota_S8x100000_d1_w32) (kernelRun0_A.sl.r_9 c i arg1 harg1 x0)
        (firstProbs arg2 harg2 arg3 harg3 x1 x2))
      (k0_pay3 (iota .tc S8x100000 32 [1] iota_S8x100000_d1_w32) (kernelRun0_A.sl.r_24 c i arg1 harg1 x0)
        (kernelRun0_A.sl.r_25 c arg2 harg2 arg3 harg3 x1 x2)) r l _).trans ?_
    rw [pay3_apply]
    refine congrArg pick (funext fun k => ?_)
    rw [secondProbs_apply, waits_second, waits_apply, secondWords_apply]; rfl

end Body

end Cert.Proof.KernelValue
-- ==== Proof.KernelValue.Array.lean ====
/- The kernel's arrays after the run, element by element: block `t` of each holds what the body leaves at grid point `t`,
   whose blocks of the arguments are rows `8 t`, …, `8 t + 7`. -/
module

public import proofs.«01_k».proof.Proof.KernelValue.Block
public import Idealize.ShloMosaic.Lib.Pipeline.Value

@[expose] public section

set_option maxRecDepth 16384

noncomputable section

namespace Cert.Proof.KernelValue

open Idealize.ShloMosaic Idealize.ShloMosaic.TcCoe Idealize.ShloMosaic.ValueIdx Cert.KernelIdeal Cert.KernelIdeal.Gen Cert.Proof.Row
open Idealize.ShloMosaic.Pipeline (Dat)

variable (m : (ℓ : Loc nD τ sig) → Buf (Elt Ideal) ℓ) (c : Dev nD)

/-- Row `r` of block `t`. -/
def rowOf (t : Fin cfg0.N) (r : Fin 8) : Fin 128 := ⟨t.val * 8 + r.val, by have : t.val < 16 := t.isLt; omega⟩

/-- Every row is a row of a block. -/
theorem exists_rowOf (R : Fin 128) : ∃ t r, R = rowOf t r :=
  ⟨⟨R.val / 8, show R.val / 8 < 16 by omega⟩, ⟨R.val % 8, by omega⟩, Fin.ext (show R.val = R.val / 8 * 8 + R.val % 8 by omega)⟩

/-- Grid point `t`'s one coordinate is `t`. -/
theorem coord_eq : ∀ t : Fin grid0.N, (grid0.coords t 0).val = t.val := by decide +kernel

theorem index1 : ∀ t : Fin grid0.N, cc0_transform_1 (grid0.coords t) = ![0, t.val, 0] := by decide +kernel
theorem index2 : ∀ t : Fin grid0.N, cc0_transform_2 (grid0.coords t) = ![t.val, 0] := by decide +kernel
theorem index3 : ∀ t : Fin grid0.N, cc0_transform_3 (grid0.coords t) = ![t.val, 0] := by decide +kernel
theorem index4 : ∀ t : Fin grid0.N, cc0_transform_4 (grid0.coords t) = ![t.val, 0] := by decide +kernel
theorem index5 : ∀ t : Fin grid0.N, cc0_transform_5 (grid0.coords t) = ![t.val, 0] := by decide +kernel

/-- A row's number in the whole array, as a word. -/
theorem pay4_apply (i : grid0.Coords) (r : Fin 8) :
    k0_pay4 i (ix2 r 0) = BitVec.ofNat 32 r.val + BitVec.ofNat 32 (i 0).val * 8#32 := by
  show BitVec.ofNat 32 (0 * 8 + r.val) + 8#32 * BitVec.ofNat 32 (i 0).val = _
  rw [Nat.zero_mul, Nat.zero_add, BitVec.mul_comm]

/-- The number of an element of block `t`: its place in the whole array of rows. -/
theorem number_apply (t : Fin cfg0.N) (r : Fin 8) (k : Fin 100000) :
    number (grid0.coords t) (ix2 r k) = BitVec.ofNat 32 ((rowOf t r).val * 100000 + k.val) := by
  have h : number (grid0.coords t) (ix2 r k)
      = (BitVec.ofNat 32 r.val + BitVec.ofNat 32 (grid0.coords t 0).val * 8#32) * 100000#32 + BitVec.ofNat 32 k.val := by
    show IntOp.addi (broadcastTo S8x100000 (muli (k0_pay4 (grid0.coords t)) (broadcast S8x1 100000#32)) broadcasts_S8x1_S8x100000 (ix2 r k))
      (iota .tc S8x100000 32 [1] iota_S8x100000_d1_w32 (ix2 r k)) = _
    rw [iota_at, broadcastTo_apply _ _ _ (ix2 r (0 : Fin 1)) (fun a => by match a with | ⟨0, _⟩ => rfl | ⟨1, _⟩ => rfl)]
    show IntOp.addi (IntOp.muli (k0_pay4 (grid0.coords t) (ix2 r 0)) 100000#32) (BitVec.ofNat 32 k.val) = _
    rw [pay4_apply]
    rfl
  rw [h, coord_eq]
  show _ = BitVec.ofNat 32 ((t.val * 8 + r.val) * 100000 + k.val)
  rw [BitVec.ofNat_add, BitVec.ofNat_mul, BitVec.ofNat_add, BitVec.ofNat_mul]
  congr 2
  exact BitVec.add_comm ..

/-- The block of keys is the array of keys at every point. -/
theorem keys_apply (t : Fin cfg0.N) (b w : Fin 2) :
    (iblk m c 0 t : Vec Ideal S2x2 .i32) (ix2 b w) = (V m c main_v11 : Vec Ideal S2x2 .i32) (ix2 b w) := by
  unfold iblk
  refine congrArg (V m c main_v11 : Vec Ideal S2x2 .i32) (funext fun a => Fin.ext ?_)
  match a with
  | ⟨0, _⟩ => exact (show 0 * 2 + 1 * b.val = b.val by omega)
  | ⟨1, _⟩ => exact (show 0 * 2 + 1 * w.val = w.val by omega)

/-- The block of logits at point `t`. -/
theorem logits_apply (t : Fin cfg0.N) (b : Fin 2) (r : Fin 8) (k : Fin 100000) :
    (iblk m c 1 t : Vec Ideal S2x8x100000 .f32) (ix3 b r k) = (m ((c : Thread nD τ).loc main_arg0) : Vec Ideal S2x128x100000 .f32) (ix3 b (rowOf t r) k) := by
  rw [← V_main_arg0 m c]
  unfold iblk
  refine congrArg (V m c main_arg0 : Vec Ideal S2x128x100000 .f32) (funext fun a => Fin.ext ?_)
  match a with
  | ⟨0, _⟩ => exact (show cc0_transform_1 (grid0.coords t) 0 * 2 + 1 * b.val = b.val by rw [index1]; show 0 * 2 + 1 * b.val = b.val; omega)
  | ⟨1, _⟩ => exact (show cc0_transform_1 (grid0.coords t) 1 * 8 + 1 * r.val = t.val * 8 + r.val by rw [index1]; show t.val * 8 + 1 * r.val = _; omega)
  | ⟨2, _⟩ => exact (show cc0_transform_1 (grid0.coords t) 2 * 100000 + 1 * k.val = k.val by rw [index1]; show 0 * 100000 + 1 * k.val = _; omega)

/-- The block of masks at point `t`. -/
theorem masks_apply (t : Fin cfg0.N) (r : Fin 8) (k : Fin 200000) :
    (iblk m c 2 t : Vec Ideal S8x200000 .f32) (ix2 r k) = (m ((c : Thread nD τ).loc main_arg1) : Vec Ideal S128x200000 .f32) (ix2 (rowOf t r) k) := by
  rw [← V_main_arg1 m c]
  unfold iblk
  refine congrArg (V m c main_arg1 : Vec Ideal S128x200000 .f32) (funext fun a => Fin.ext ?_)
  match a with
  | ⟨0, _⟩ => exact (show cc0_transform_2 (grid0.coords t) 0 * 8 + 1 * r.val = t.val * 8 + r.val by rw [index2]; show t.val * 8 + 1 * r.val = _; omega)
  | ⟨1, _⟩ => exact (show cc0_transform_2 (grid0.coords t) 1 * 200000 + 1 * k.val = k.val by rw [index2]; show 0 * 200000 + 1 * k.val = _; omega)

/-- Different points write different blocks. -/
theorem index3_inj : ∀ t t' : Fin cfg0.N, win0_3.index t = win0_3.index t' → t = t' :=
  (by decide +kernel : ∀ t t' : Fin grid0.N, win0_3.index t = win0_3.index t' → t = t')
theorem index4_inj : ∀ t t' : Fin cfg0.N, win0_4.index t = win0_4.index t' → t = t' :=
  (by decide +kernel : ∀ t t' : Fin grid0.N, win0_4.index t = win0_4.index t' → t = t')
theorem index5_inj : ∀ t t' : Fin cfg0.N, win0_5.index t = win0_5.index t' → t = t' :=
  (by decide +kernel : ∀ t t' : Fin grid0.N, win0_5.index t = win0_5.index t' → t = t')
theorem flush3 : ∀ t : Fin cfg0.N, win0_3.flush t = true := (by decide +kernel : ∀ t : Fin grid0.N, win0_3.flush t = true)
theorem flush4 : ∀ t : Fin cfg0.N, win0_4.flush t = true := (by decide +kernel : ∀ t : Fin grid0.N, win0_4.flush t = true)
theorem flush5 : ∀ t : Fin cfg0.N, win0_5.flush t = true := (by decide +kernel : ∀ t : Fin grid0.N, win0_5.flush t = true)

/-- Block `t` of window 3's array at an element. -/
theorem read3 (X : Vec Ideal S128x200000 .f32) (t : Fin cfg0.N) (r : Fin 8) (k : Fin 200000) :
    ((cfg0.win 3).blk t).view.read (Elt Ideal) X (ix2 r k) = X (ix2 (rowOf t r) k) := by
  refine congrArg X (funext fun a => Fin.ext ?_)
  match a with
  | ⟨0, _⟩ => exact (show cc0_transform_3 (grid0.coords t) 0 * 8 + 1 * r.val = t.val * 8 + r.val by rw [index3]; show t.val * 8 + 1 * r.val = _; omega)
  | ⟨1, _⟩ => exact (show cc0_transform_3 (grid0.coords t) 1 * 200000 + 1 * k.val = k.val by rw [index3]; show 0 * 200000 + 1 * k.val = _; omega)

/-- What is written of a block is the whole block. -/
theorem cut3 (Y : Vec Ideal S8x200000 .f32) (t : Fin cfg0.N) (r : Fin 8) (k : Fin 200000) :
    (cfg0.win 3).cut (grid0.coords t) Y (ix2 r k) = Y (ix2 r k) := rfl

/-- Block `t` of window 4's array at an element. -/
theorem read4 (X : Vec Ideal S128x200000 .f32) (t : Fin cfg0.N) (r : Fin 8) (k : Fin 200000) :
    ((cfg0.win 4).blk t).view.read (Elt Ideal) X (ix2 r k) = X (ix2 (rowOf t r) k) := by
  refine congrArg X (funext fun a => Fin.ext ?_)
  match a with
  | ⟨0, _⟩ => exact (show cc0_transform_4 (grid0.coords t) 0 * 8 + 1 * r.val = t.val * 8 + r.val by rw [index4]; show t.val * 8 + 1 * r.val = _; omega)
  | ⟨1, _⟩ => exact (show cc0_transform_4 (grid0.coords t) 1 * 200000 + 1 * k.val = k.val by rw [index4]; show 0 * 200000 + 1 * k.val = _; omega)

/-- What is written of a block is the whole block. -/
theorem cut4 (Y : Vec Ideal S8x200000 .f32) (t : Fin cfg0.N) (r : Fin 8) (k : Fin 200000) :
    (cfg0.win 4).cut (grid0.coords t) Y (ix2 r k) = Y (ix2 r k) := rfl

/-- Block `t` of window 5's array at an element. -/
theorem read5 (X : Vec Ideal S128x256 .i32) (t : Fin cfg0.N) (r : Fin 8) (k : Fin 256) :
    ((cfg0.win 5).blk t).view.read (Elt Ideal) X (ix2 r k) = X (ix2 (rowOf t r) k) := by
  refine congrArg X (funext fun a => Fin.ext ?_)
  match a with
  | ⟨0, _⟩ => exact (show cc0_transform_5 (grid0.coords t) 0 * 8 + 1 * r.val = t.val * 8 + r.val by rw [index5]; show t.val * 8 + 1 * r.val = _; omega)
  | ⟨1, _⟩ => exact (show cc0_transform_5 (grid0.coords t) 1 * 256 + 1 * k.val = k.val by rw [index5]; show 0 * 256 + 1 * k.val = _; omega)

/-- What is written of a block is the whole block. -/
theorem cut5 (Y : Vec Ideal S8x256 .i32) (t : Fin cfg0.N) (r : Fin 8) (k : Fin 256) :
    (cfg0.win 5).cut (grid0.coords t) Y (ix2 r k) = Y (ix2 r k) := rfl

/-- The array of probabilities after the run, read at an element of block `t`. -/
theorem array3 (t : Fin cfg0.N) (r : Fin 8) (k : Fin 200000) :
    ((dats m 0 c).arrAt 3 cfg0.N : Vec Ideal S128x200000 .f32) (ix2 (rowOf t r) k) = (outsAt0 m c t).1 (ix2 r k) := by
  have h := (dats m 0 c).read_blk_arrAt_eq_flushed 3
    (fun t t' _ _ hne => (cfg0.win 3).disjoint_blk fun h => hne (index3_inj t t' h)) cfg0.N t t.isLt (flush3 t)
  have h' : (dats m 0 c).flushed 3 t = (cfg0.win 3).cut (grid0.coords t) ((outsAt0 m c t).1) :=
    congrArg ((cfg0.win 3).cut (grid0.coords t)) (after0_3 m c t)
  exact (read3 ((dats m 0 c).arrAt 3 cfg0.N) t r k).symm.trans
    ((congrFun (h.trans h') (ix2 r k)).trans (cut3 _ t r k))

/-- The array of log-probabilities likewise. -/
theorem array4 (t : Fin cfg0.N) (r : Fin 8) (k : Fin 200000) :
    ((dats m 0 c).arrAt 4 cfg0.N : Vec Ideal S128x200000 .f32) (ix2 (rowOf t r) k) = (outsAt0 m c t).2.1 (ix2 r k) := by
  have h := (dats m 0 c).read_blk_arrAt_eq_flushed 4
    (fun t t' _ _ hne => (cfg0.win 4).disjoint_blk fun h => hne (index4_inj t t' h)) cfg0.N t t.isLt (flush4 t)
  have h' : (dats m 0 c).flushed 4 t = (cfg0.win 4).cut (grid0.coords t) ((outsAt0 m c t).2.1) :=
    congrArg ((cfg0.win 4).cut (grid0.coords t)) (after0_4 m c t)
  exact (read4 ((dats m 0 c).arrAt 4 cfg0.N) t r k).symm.trans
    ((congrFun (h.trans h') (ix2 r k)).trans (cut4 _ t r k))

/-- The array of samples likewise. -/
theorem array5 (t : Fin cfg0.N) (r : Fin 8) (k : Fin 256) :
    ((dats m 0 c).arrAt 5 cfg0.N : Vec Ideal S128x256 .i32) (ix2 (rowOf t r) k) = (outsAt0 m c t).2.2 (ix2 r k) := by
  have h := (dats m 0 c).read_blk_arrAt_eq_flushed 5
    (fun t t' _ _ hne => (cfg0.win 5).disjoint_blk fun h => hne (index5_inj t t' h)) cfg0.N t t.isLt (flush5 t)
  have h' : (dats m 0 c).flushed 5 t = (cfg0.win 5).cut (grid0.coords t) ((outsAt0 m c t).2.2) :=
    congrArg ((cfg0.win 5).cut (grid0.coords t)) (after0_5 m c t)
  exact (read5 ((dats m 0 c).arrAt 5 cfg0.N) t r k).symm.trans
    ((congrFun (h.trans h') (ix2 r k)).trans (cut5 _ t r k))

/-- Row `R` of branch `b` of an array of logits. -/
def logitsOf (X : Vec Ideal S2x128x100000 .f32) (b : Fin 2) (R : Fin 128) : Fin 100000 → EReal := fun k => X (ix3 b R k)

/-- Row `R` of branch `b` of an array of masks. -/
def masksOf (X : Vec Ideal S128x200000 .f32) (b : Fin 2) (R : Fin 128) : Fin 100000 → EReal := fun k => X (ix2 R (col b k))

/-- Row `R`'s random words under the key `(k₀, k₁)`. -/
def wordsOf (k₀ k₁ : BitVec 32) (R : Fin 128) : Fin 100000 → BitVec 32 := fun k => word k₀ k₁ (BitVec.ofNat 32 (R.val * 100000 + k.val))

theorem logitRow_iblk (t : Fin cfg0.N) (b : Fin 2) (r : Fin 8) :
    logitRow (iblk m c 1 t) b r = logitsOf (m ((c : Thread nD τ).loc main_arg0)) b (rowOf t r) :=
  funext fun k => logits_apply m c t b r k

theorem maskRow_iblk (t : Fin cfg0.N) (b : Fin 2) (r : Fin 8) :
    maskRow (iblk m c 2 t) b r = masksOf (m ((c : Thread nD τ).loc main_arg1)) b (rowOf t r) :=
  funext fun k => masks_apply m c t r (col b k)

theorem wordRow_iblk (t : Fin cfg0.N) (b : Fin 2) (r : Fin 8) :
    wordRow (grid0.coords t) (iblk m c 0 t) b r
      = wordsOf ((V m c main_v11 : Vec Ideal S2x2 .i32) (ix2 b 0)) ((V m c main_v11 : Vec Ideal S2x2 .i32) (ix2 b 1)) (rowOf t r) :=
  funext fun k => by
    unfold wordRow wordsOf
    rw [keys_apply, keys_apply, number_apply]

/-- The probabilities the kernel returns. -/
theorem probs_array (b : Fin 2) (R : Fin 128) (k : Fin 100000) :
    ((dats m 0 c).arrAt 3 cfg0.N : Vec Ideal S128x200000 .f32) (ix2 R (col b k))
      = prob (logitsOf (m ((c : Thread nD τ).loc main_arg0)) b R) (masksOf (m ((c : Thread nD τ).loc main_arg1)) b R) k := by
  obtain ⟨t, r, rfl⟩ := exists_rowOf R
  rw [array3, ← logitRow_iblk, ← maskRow_iblk]
  rw [show (outsAt0 m c t).1 = _ by dsimp only [outsAt0]]
  exact out3_apply c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) b r k

/-- The log-probabilities it returns. -/
theorem logp_array (b : Fin 2) (R : Fin 128) (k : Fin 100000) :
    ((dats m 0 c).arrAt 4 cfg0.N : Vec Ideal S128x200000 .f32) (ix2 R (col b k))
      = logp (logitsOf (m ((c : Thread nD τ).loc main_arg0)) b R) (masksOf (m ((c : Thread nD τ).loc main_arg1)) b R) k := by
  obtain ⟨t, r, rfl⟩ := exists_rowOf R
  rw [array4, ← logitRow_iblk, ← maskRow_iblk]
  rw [show (outsAt0 m c t).2.1 = _ by dsimp only [outsAt0]]
  exact out4_apply c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) b r k

/-- The lanes of samples it leaves. -/
theorem sample_array (b : Fin 2) (R : Fin 128) (l : Fin 128) :
    ((dats m 0 c).arrAt 5 cfg0.N : Vec Ideal S128x256 .i32) (ix2 R (lane b l))
      = sample (logitsOf (m ((c : Thread nD τ).loc main_arg0)) b R) (masksOf (m ((c : Thread nD τ).loc main_arg1)) b R)
          (wordsOf ((V m c main_v11 : Vec Ideal S2x2 .i32) (ix2 b 0)) ((V m c main_v11 : Vec Ideal S2x2 .i32) (ix2 b 1)) R) := by
  obtain ⟨t, r, rfl⟩ := exists_rowOf R
  rw [array5, ← logitRow_iblk, ← maskRow_iblk, ← wordRow_iblk]
  rw [show (outsAt0 m c t).2.2 = _ by dsimp only [outsAt0]]
  exact out5_apply c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) b r l

end Cert.Proof.KernelValue
-- ==== Proof.Threefry.Fold.lean ====
/- The keys of the two branches: a number is folded into a key by hashing the number's two halves under it. A host line
   spells the halves, the key's words and the new key as slices and concatenations of short vectors; its equations are
   read here for any line. -/
module

public import proofs.«01_k».proof.Proof.Threefry.Mix
public import Idealize.ShloMosaic.Lib.Pipeline.Value
public import Idealize.ShloMosaic.Lib.ValueLayout
public import Idealize.ShloMosaic.Lib.ValueLayoutCasts

@[expose] public section

noncomputable section

namespace Cert.Proof.Threefry

open Idealize.ShloMosaic Idealize.ShloMosaic.ValueIdx Cert.Proof.Host

/-- The shapes of a word, of a vector of one word and of a pair of words. -/
abbrev T0 : Shape := ⟨0, ![]⟩
abbrev T1 : Shape := ⟨1, ![1]⟩
abbrev T2 : Shape := ⟨1, ![2]⟩

/-- The only index of a word. -/
abbrev z0 : T0.Idx := fun a => a.elim0

instance : Subsingleton T0.Idx := ⟨fun _ _ => funext fun a => a.elim0⟩

/-- A number's upper half, as the host shifts it out. -/
def hi (n : Word) : Word := IntOp.shrui .host n 32#32

/-- A number's lower half. -/
def lo (n : Word) : Word := n &&& 4294967295#32

/-- The key made of the seed 42 by folding in the number `n`. -/
def key (n : Word) : Word × Word := mix (hi 42#32) (lo 42#32) (hi n) (lo n)

/-- Two words put side by side. -/
theorem joined (X Y : T1.Idx → Word) (h : Shape.Concatenates [T1, T1] T2 0) :
    concatenate T2 0 [⟨T1, X⟩, ⟨T1, Y⟩] h (ix1 0) = X (ix1 0) ∧ concatenate T2 0 [⟨T1, X⟩, ⟨T1, Y⟩] h (ix1 1) = Y (ix1 0) :=
  ⟨concatenate_pair_apply_left (s₁ := T1) (s₂ := T1) (t := T2) 0 X Y h (ix1 0) rfl (ix1 0) (fun b => by match b with | ⟨0, _⟩ => rfl),
   concatenate_pair_apply_right (s₁ := T1) (s₂ := T1) (t := T2) 0 X Y h (ix1 1) rfl rfl (ix1 0)
    (fun b hb => by match b with | ⟨0, _⟩ => exact absurd rfl hb) rfl⟩

/-- The equations that make the seed's key. -/
theorem seed_of {c c₀ v₀ v₁ c₁ v₃ v₄ : IVec T0 32} {v₂ v₅ : IVec T1 32} {v₆ : IVec T2 32} {l : List Prop} {b b'} {hc}
    (h : all ((c = constantI T0 32 42#32) :: (c₀ = constantI T0 32 32#32) :: (v₀ = Host.shrui c c₀) :: (v₁ = id v₀)
      :: (v₂ = broadcastInDim T1 ![] b v₁) :: (c₁ = constantI T0 32 4294967295#32) :: (v₃ = andi c c₁) :: (v₄ = id v₃)
      :: (v₅ = broadcastInDim T1 ![] b' v₄) :: (v₆ = concatenate T2 0 [⟨T1, v₂⟩, ⟨T1, v₅⟩] hc) :: l)) :
    (v₆ (ix1 0) = hi 42#32 ∧ v₆ (ix1 1) = lo 42#32) ∧ all l := by
  obtain ⟨rfl, rfl, rfl, rfl, rfl, rfl, rfl, rfl, rfl, rfl, h⟩ := h
  exact ⟨⟨(joined _ _ hc).1, (joined _ _ hc).2⟩, h⟩

/-- The equations that take a key and a number apart into words. -/
theorem fold_of {k : IVec T2 32} {n c v₀ c₀ v₂ v₆ v₈ : IVec T0 32} {v₁ v₃ v₅ v₇ v₉ v₁₀ : IVec T1 32} {v₄ : IVec T2 32}
    {l : List Prop} {b b'} {hc} {hs hs' hr hr' ht ht'}
    (h : all ((c = constantI T0 32 32#32) :: (v₀ = Host.shrui n c) :: (v₁ = broadcastInDim T1 ![] b v₀)
      :: (c₀ = constantI T0 32 4294967295#32) :: (v₂ = andi n c₀) :: (v₃ = broadcastInDim T1 ![] b' v₂)
      :: (v₄ = concatenate T2 0 [⟨T1, v₁⟩, ⟨T1, v₃⟩] hc) :: (v₅ = extractStridedSlice T1 ![0] k hs)
      :: (v₆ = shapeCast T0 v₅ hr) :: (v₇ = extractStridedSlice T1 ![1] k hs') :: (v₈ = shapeCast T0 v₇ hr')
      :: (v₉ = extractStridedSlice T1 ![0] v₄ ht) :: (v₁₀ = extractStridedSlice T1 ![1] v₄ ht') :: l)) :
    ((v₆ z0 = k (ix1 0) ∧ v₈ z0 = k (ix1 1)) ∧ v₉ (ix1 0) = hi (n z0) ∧ v₁₀ (ix1 0) = lo (n z0)) ∧ all l := by
  have first (x : T2.Idx → Word) (hs) : extractStridedSlice T1 ![0] x hs (ix1 0) = x (ix1 0) :=
    extractStridedSlice_apply _ x hs _ _ fun a => by match a with | ⟨0, _⟩ => rfl
  have second (x : T2.Idx → Word) (hs) : extractStridedSlice T1 ![1] x hs (ix1 0) = x (ix1 1) :=
    extractStridedSlice_apply _ x hs _ _ fun a => by match a with | ⟨0, _⟩ => rfl
  have word (x : T1.Idx → Word) (hr) : shapeCast T0 x hr z0 = x (ix1 0) := shapeCast_apply x hr _ _ (by decide)
  obtain ⟨rfl, rfl, rfl, rfl, rfl, rfl, rfl, rfl, rfl, rfl, rfl, rfl, rfl, h⟩ := h
  refine ⟨⟨⟨?_, ?_⟩, ?_, ?_⟩, h⟩
  · rw [word, first]
  · rw [word, second]
  · rw [first, (joined _ _ hc).1, bcast_apply _ z0]; rfl
  · rw [second, (joined _ _ hc).2, bcast_apply _ z0]; rfl

end Cert.Proof.Threefry
-- ==== Proof.KernelValue.Lines.lean ====
/- The function of the kernel's module that folds a number into a key, as an ordered line of host operations. -/
module

public import proofs.«01_k».proof.Proof.Gen.KernelIdeal.Launch
public import proofs.«01_k».proof.Proof.Threefry.Fold
public import Idealize.ShloMosaic.PureOps.Ideal

@[expose] public section

noncomputable section

namespace Cert.Proof.KernelValue

open Cert.KernelIdeal Cert.KernelIdeal.Gen Cert.Proof.Host Idealize.ShloMosaic Idealize.ShloMosaic.TcCoe Idealize.SL.Sem

variable {F : FTy → Type} [FloatOps F]

/-- A line's operations, the buffers of each, and their equations. -/
abbrev Lined (F : FTy → Type) [FloatOps F] : Type :=
  List (HloOp τ sig (Elt F)) × List (List (Ref sig .tc) × Ref sig .tc) × (Valuation τ sig (Elt F) → List Prop)

/-- A program of this module's kind. -/
abbrev Host (F : FTy → Type) [FloatOps F] : Type 1 :=
  Prog (TpuEff nD τ sig (Elt F) (Pipeline.Sig Λ₀ (Fin 1) fun p => (pcfgs (F := F) p).Adm) .tc) PUnit

/-- That program is a line with this data. -/
abbrev Runs (p : Host F) (d : Lined F) : Prop := Line p d.1 d.2.1 d.2.2

/-- A line's data, from the line. -/
def line_of {p : Host F} {ops : List (HloOp τ sig (Elt F))} {D : List (List (Ref sig .tc) × Ref sig .tc)}
    {E : Valuation τ sig (Elt F) → List Prop} (h : Line p ops D E) : {d : Lined F // Runs p d} := ⟨(ops, D, E), h⟩

/-! ## The key function's threefry, on one pair of counters -/

set_option maxHeartbeats 4000000 in
set_option maxRecDepth 16384 in
def threefryKey0 (arg0 arg1 : StableHlo.TRef sig ⟨S_, .i32⟩) (arg2 arg3 : StableHlo.TRef sig ⟨S1, .i32⟩)
    (φ : fn_threefry2x32.Bufs) :
    {d : Lined F // Runs (fn_threefry2x32.body_part0 arg0 arg1 arg2 arg3 φ) d} := by
  apply line_of
  unfold fn_threefry2x32.body_part0
  apply Line.last
  simp only [bind_assoc]
  repeat (first | exact .nil | with_reducible apply Line.tbinary | with_reducible apply Line.tunary | with_reducible apply Line.tnullary)

set_option maxHeartbeats 4000000 in
set_option maxRecDepth 16384 in
def threefryKey1 (arg0 arg1 : StableHlo.TRef sig ⟨S_, .i32⟩) (arg2 arg3 : StableHlo.TRef sig ⟨S1, .i32⟩)
    (φ : fn_threefry2x32.Bufs) :
    {d : Lined F // Runs (fn_threefry2x32.body_part1 arg0 arg1 arg2 arg3 φ) d} := by
  apply line_of
  unfold fn_threefry2x32.body_part1
  apply Line.last
  simp only [bind_assoc]
  repeat (first | exact .nil | with_reducible apply Line.tbinary | with_reducible apply Line.tunary | with_reducible apply Line.tnullary)

set_option maxHeartbeats 4000000 in
set_option maxRecDepth 16384 in
def threefryKey2 (arg0 arg1 : StableHlo.TRef sig ⟨S_, .i32⟩) (arg2 arg3 : StableHlo.TRef sig ⟨S1, .i32⟩)
    (φ : fn_threefry2x32.Bufs) :
    {d : Lined F // Runs (fn_threefry2x32.body_part2 arg0 arg1 arg2 arg3 φ) d} := by
  apply line_of
  unfold fn_threefry2x32.body_part2
  apply Line.last
  simp only [bind_assoc]
  repeat (first | exact .nil | with_reducible apply Line.tbinary | with_reducible apply Line.tunary | with_reducible apply Line.tnullary)

set_option maxHeartbeats 4000000 in
set_option maxRecDepth 16384 in
def threefryKey3 (arg0 arg1 : StableHlo.TRef sig ⟨S_, .i32⟩) (arg2 arg3 : StableHlo.TRef sig ⟨S1, .i32⟩)
    (φ : fn_threefry2x32.Bufs) :
    {d : Lined F // Runs (fn_threefry2x32.body_part3 arg0 arg1 arg2 arg3 φ) d} := by
  apply line_of
  unfold fn_threefry2x32.body_part3
  repeat (first | exact .nil | with_reducible apply Line.tbinary | with_reducible apply Line.tunary | with_reducible apply Line.tnullary)

def threefryKey (arg0 arg1 : StableHlo.TRef sig ⟨S_, .i32⟩) (arg2 arg3 : StableHlo.TRef sig ⟨S1, .i32⟩)
    (φ : fn_threefry2x32.Bufs) :
    {d : Lined F // Runs (fn_threefry2x32.body arg0 arg1 arg2 arg3 φ) d} :=
  line_of (.append (threefryKey0 arg0 arg1 arg2 arg3 φ).2 (.append (threefryKey1 arg0 arg1 arg2 arg3 φ).2
    (.append (threefryKey2 arg0 arg1 arg2 arg3 φ).2 (threefryKey3 arg0 arg1 arg2 arg3 φ).2)))

/-! ## The function that calls it -/

set_option maxHeartbeats 4000000 in
set_option maxRecDepth 16384 in
def foldIn (arg0 : StableHlo.TRef sig ⟨S2, .i32⟩) (arg1 : StableHlo.TRef sig ⟨S_, .i32⟩) (φ : fn_threefry_fold_in.Bufs) :
    {d : Lined F // Runs (fn_threefry_fold_in.body arg0 arg1 φ) d} := by
  apply line_of
  unfold fn_threefry_fold_in.body
  repeat (first | exact .nil | with_reducible apply Line.tbinary | with_reducible apply Line.tunary | with_reducible apply Line.tnullary | with_reducible apply Line.treshape | apply Line.call (threefryKey _ _ _ _ _).2)

end Cert.Proof.KernelValue
-- ==== Proof.KernelValue.Keys.lean ====
/- The keys the kernel's host operations prepare: the line in front of the kernel read as a system of equations, whose
   last vector holds the two branches' keys. -/
module

public import proofs.«01_k».proof.Proof.KernelValue.Lines
public import proofs.«01_k».proof.Proof.Gen.KernelIdeal.Frame
public import proofs.«01_k».proof.Proof.Threefry.Fold

@[expose] public section

noncomputable section

namespace Cert.Proof.KernelValue

open Cert.KernelIdeal Cert.KernelIdeal.Gen Cert.Proof.Host Cert.Proof.Threefry Idealize.ShloMosaic Idealize.ShloMosaic.TcCoe
open Idealize.ShloMosaic.StableHlo Idealize.SL.Sem

/-- A list of operations of this program, with the buffers each reads and writes and their equations. -/
abbrev Lists (ops : List (HloOp τ sig (Elt Ideal))) (D : List (List (Ref sig .tc) × Ref sig .tc))
    (E : Valuation τ sig (Elt Ideal) → List Prop) : Prop :=
  Line (seq ops : Prog (TpuEff nD τ sig (Elt Ideal) (Pipeline.Sig Λ₀ (Fin 1) fun p => (pcfgs (F := Ideal) p).Adm) .tc) PUnit) ops D E

section Cons

variable {ops : List (HloOp τ sig (Elt Ideal))} {D : List (List (Ref sig .tc) × Ref sig .tc)}
  {E : Valuation τ sig (Elt Ideal) → List Prop} {x a b y : Ref sig .tc}

theorem Lists.nil : Lists [] [] fun _ => [] := Line.nil

theorem Lists.nullary {v : y.ty.Contents (Elt Ideal)} {hy} (h : Lists ops D E) :
    Lists (StableHlo.nullary y v hy :: ops) (([], y) :: D) fun W => (W (Proc.devRef .tc y) = v) :: E W := Line.nullary h

theorem Lists.unary {f : x.ty.Contents (Elt Ideal) → y.ty.Contents (Elt Ideal)} {hx hy} (h : Lists ops D E) :
    Lists (StableHlo.unary x y f hx hy :: ops) (([x], y) :: D)
      fun W => (W (Proc.devRef .tc y) = f (W (Proc.devRef .tc x))) :: E W := Line.unary h

theorem Lists.binary {f : a.ty.Contents (Elt Ideal) → b.ty.Contents (Elt Ideal) → y.ty.Contents (Elt Ideal)} {ha hb hy}
    (h : Lists ops D E) :
    Lists (StableHlo.binary a b y f ha hb hy :: ops) (([a, b], y) :: D)
      fun W => (W (Proc.devRef .tc y) = f (W (Proc.devRef .tc a)) (W (Proc.devRef .tc b))) :: E W := Line.binary h

theorem Lists.append {ops' : List (HloOp τ sig (Elt Ideal))} {D' E'} (h : Lists ops D E) (h' : Lists ops' D' E') :
    Lists (ops ++ ops') (D ++ D') fun W => E W ++ E' W := by
  have := Line.append h h'
  rwa [← seq_append] at this

end Cons

/-- The buffers and equations of a list. -/
abbrev Data (ops : List (HloOp τ sig (Elt Ideal))) : Type :=
  {d : List (List (Ref sig .tc) × Ref sig .tc) × (Valuation τ sig (Elt Ideal) → List Prop) // Lists ops d.1 d.2}

def found {ops : List (HloOp τ sig (Elt Ideal))} {D E} (h : Lists ops D E) : Data ops := ⟨(D, E), h⟩

/-- A function's line, as the list of its operations. -/
def of_eq {ops : List (HloOp τ sig (Elt Ideal))} {p : Host Ideal} (d : {d : Lined Ideal // Runs p d}) (h : ops = d.1.1) :
    Data ops := ⟨(d.1.2.1, d.1.2.2), by subst h; exact ⟨rfl, d.2.reads, d.2.eqs⟩⟩

set_option maxRecDepth 16384 in
def seedLine : Data hostOps0 := by
  apply found
  repeat (first | with_reducible apply Lists.binary | with_reducible apply Lists.unary | with_reducible apply Lists.nullary | exact Lists.nil)

set_option maxRecDepth 16384 in
def firstLine : Data hostOps0_1 := of_eq (foldIn (.of main_v6) (.of main_c_2) main_call0) rfl

def oneLine : Data hostOps0_2 := by
  apply found
  repeat (first | exact Lists.nil | with_reducible apply Lists.nullary)

set_option maxRecDepth 16384 in
def secondLine : Data hostOps0_3 := of_eq (foldIn (.of main_v6) (.of main_c_3) main_call1) rfl

def lastLine : Data hostOps0_4 := by
  apply found
  repeat (first | with_reducible apply Lists.binary | with_reducible apply Lists.unary | with_reducible apply Lists.nullary | exact Lists.nil)

/-- The whole line. -/
def hostLine : Data (hostOps0 ++ (hostOps0_1 ++ (hostOps0_2 ++ (hostOps0_3 ++ hostOps0_4)))) :=
  found (.append seedLine.2 (.append firstLine.2 (.append oneLine.2 (.append secondLine.2 lastLine.2))))

set_option maxRecDepth 16384 in
theorem ordered_line : ordered 2 hostLine.1.1 = true := by decide +kernel

/-- What the host's buffers hold when the kernel starts. -/
theorem V0_eqs (m : (ℓ : Loc nD τ sig) → Buf (Elt Ideal) ℓ) (c : Dev nD) : all (hostLine.1.2 (V0 m c)) := by
  have h := hostLine.2.eqs _ (after_fixed hostLine.2.reads ordered_line fun b => m (c, b))
  have e : V0 m c = after (hostOps0 ++ (hostOps0_1 ++ (hostOps0_2 ++ (hostOps0_3 ++ hostOps0_4)))) fun b => m (c, b) := by
    unfold V0
    simp only [List.flatten_cons, List.flatten_nil, List.append_nil]
  rw [e]
  exact h

end Cert.Proof.KernelValue
-- ==== Proof.KernelValue.Key.lean ====
/- The keys the kernel's scalar memory holds when it starts: the words of the branch's key. -/
module

public import proofs.«01_k».proof.Proof.KernelValue.Keys

@[expose] public section

set_option maxRecDepth 16384

noncomputable section

namespace Cert.Proof.KernelValue

open Cert.KernelIdeal Cert.KernelIdeal.Gen Cert.Proof.Host Cert.Proof.Threefry Idealize.ShloMosaic Idealize.ShloMosaic.TcCoe
open Idealize.ShloMosaic.ValueIdx

/-- The only index of a scalar. -/
abbrev zero : S_.Idx := fun a => a.elim0

instance : Subsingleton S_.Idx := ⟨fun _ _ => funext fun a => a.elim0⟩

/-- Statements side by side hold each by themselves. -/
theorem all_split : ∀ {l l' : List Prop}, all (l ++ l') → all l ∧ all l'
  | [], _, h => ⟨trivial, h⟩
  | _ :: _, _, h => ⟨⟨h.1, (all_split h.2).1⟩, (all_split h.2).2⟩

set_option maxHeartbeats 1000000 in
/-- The pair of words that the function ends with is the hash of the pair it is given. -/
theorem threefryKey_eq (arg0 arg1 : StableHlo.TRef sig ⟨S_, .i32⟩) (arg2 arg3 : StableHlo.TRef sig ⟨S1, .i32⟩)
    (φ : fn_threefry2x32.Bufs) (W : Valuation τ sig (Elt Ideal)) (h : all ((threefryKey (F := Ideal) arg0 arg1 arg2 arg3 φ).1.2.2 W))
    (i : S1.Idx) :
    (get W φ.v171 i, get W φ.v175 i) = mix (get W arg0 zero) (get W arg1 zero) (get W arg2 i) (get W arg3 i) := by
  obtain ⟨s₀, h⟩ := start_of zero h
  obtain ⟨s₁, h⟩ := even_of h
  obtain ⟨s₂, h⟩ := inj_of zero h
  obtain ⟨s₃, h⟩ := odd_of h
  obtain ⟨s₄, h⟩ := inj_of zero h
  obtain ⟨s₅, h⟩ := even_of h
  obtain ⟨s₆, h⟩ := inj_of zero h
  obtain ⟨s₇, h⟩ := odd_of h
  obtain ⟨s₈, h⟩ := inj_of zero h
  obtain ⟨s₉, h⟩ := even_of h
  obtain ⟨s, -⟩ := inj_of zero h
  exact mix_of s₀ s₁ s₂ s₃ s₄ s₅ s₆ s₇ s₈ s₉ s i

/-- The key a number is folded into. -/
theorem foldIn_eq (arg0 : StableHlo.TRef sig ⟨S2, .i32⟩) (arg1 : StableHlo.TRef sig ⟨S_, .i32⟩) (φ : fn_threefry_fold_in.Bufs)
    (W : Valuation τ sig (Elt Ideal)) (h : all ((foldIn (F := Ideal) arg0 arg1 φ).1.2.2 W))
    (h₀ : get W arg0 (ix1 0) = hi 42#32) (h₁ : get W arg0 (ix1 1) = lo 42#32) :
    get W φ.v12 (ix1 0) = (key (get W arg1 zero)).1 ∧ get W φ.v12 (ix1 1) = (key (get W arg1 zero)).2 := by
  obtain ⟨⟨⟨k₀, k₁⟩, n₀, n₁⟩, ht, hc, -⟩ := fold_of h
  have e := threefryKey_eq _ _ _ _ _ W ht (ix1 0)
  rw [k₀, k₁, n₀, n₁, h₀, h₁] at e
  rw [hc]
  exact ⟨((joined _ _ _).1).trans (congrArg Prod.fst e), ((joined _ _ _).2).trans (congrArg Prod.snd e)⟩

/-- The equations that put two keys on top of each other. -/
theorem stack_of {k k' : IVec S2 32} {r r' : IVec S1x2 32} {K : IVec S2x2 32} {l : List Prop} {hb} {hc}
    (h : all ((r = broadcastInDim S1x2 ![1] hb k) :: (r' = broadcastInDim S1x2 ![1] hb k')
      :: (K = concatenate S2x2 0 [⟨S1x2, r⟩, ⟨S1x2, r'⟩] hc) :: l)) (j : Fin 2) :
    K (ix2 0 j) = k (ix1 j) ∧ K (ix2 1 j) = k' (ix1 j) := by
  have wide (x : IVec S2 32) : broadcastInDim S1x2 ![1] hb x (ix2 0 j) = x (ix1 j) :=
    broadcastInDim_apply _ _ _ _ (ix1 j) fun a => by match a with | ⟨0, _⟩ => rfl
  obtain ⟨rfl, rfl, rfl, -⟩ := h
  exact ⟨(concatenate_pair_apply_left (s₁ := S1x2) (s₂ := S1x2) (t := S2x2) 0 _ _ hc _ rfl (ix2 0 j)
      (fun b => by match b with | ⟨0, _⟩ => rfl | ⟨1, _⟩ => rfl)).trans (wide k),
    (concatenate_pair_apply_right (s₁ := S1x2) (s₂ := S1x2) (t := S2x2) 0 _ _ hc _ rfl rfl (ix2 0 j)
      (fun b hb => by match b with | ⟨0, _⟩ => exact absurd rfl hb | ⟨1, _⟩ => rfl) rfl).trans (wide k')⟩

set_option maxHeartbeats 4000000 in
/-- The keys in scalar memory. -/
theorem keys_value (m : (ℓ : Loc nD τ sig) → Buf (Elt Ideal) ℓ) (c : Dev nD) (b : Fin 2) :
    (V m c main_v11 : Vec Ideal S2x2 .i32) (ix2 b 0) = (key (BitVec.ofNat 32 b.val)).1
      ∧ (V m c main_v11 : Vec Ideal S2x2 .i32) (ix2 b 1) = (key (BitVec.ofNat 32 b.val)).2 := by
  obtain ⟨hs, h⟩ := all_split (V0_eqs m c)
  obtain ⟨hf, h⟩ := all_split h
  obtain ⟨ho, h⟩ := all_split h
  obtain ⟨hg, hl⟩ := all_split h
  obtain ⟨⟨h₀, h₁⟩, hn, -⟩ := seed_of hs
  have ho := ho.1
  obtain ⟨e₀, e₁⟩ := foldIn_eq (.of main_v6) (.of main_c_2) main_call0 (V0 m c) hf h₀ h₁
  obtain ⟨d₀, d₁⟩ := foldIn_eq (.of main_v6) (.of main_c_3) main_call1 (V0 m c) hg h₀ h₁
  rw [show get (V0 m c) (.of main_c_2 : StableHlo.TRef sig ⟨S_, .i32⟩) zero = 0#32 from congrFun hn zero] at e₀ e₁
  rw [show get (V0 m c) (.of main_c_3 : StableHlo.TRef sig ⟨S_, .i32⟩) zero = 1#32 from congrFun ho zero] at d₀ d₁
  match b with
  | 0 => exact ⟨(stack_of hl 0).1.trans e₀, (stack_of hl 1).1.trans e₁⟩
  | 1 => exact ⟨(stack_of hl 0).2.trans d₀, (stack_of hl 1).2.trans d₁⟩

end Cert.Proof.KernelValue
-- ==== Proof.KernelValue.Run.lean ====
/- The kernel's run: every execution ends with the two arrays of probabilities as the kernel leaves them, and with the
   sampled indices, which the host slices out of the third. -/
module

public import proofs.«01_k».proof.Proof.KernelValue.Array
public import proofs.«01_k».proof.Proof.KernelValue.Key

@[expose] public section

set_option maxRecDepth 16384

noncomputable section

namespace Cert.Proof.KernelValue

open Cert.KernelIdeal Cert.KernelIdeal.Gen Cert.Proof.Threefry Idealize.ShloMosaic Idealize.ShloMosaic.TcCoe
open Idealize.ShloMosaic.ValueIdx Idealize.SL.Sem Cert.Proof.Row

/-- The column the host slices out for branch `b`. -/
theorem sliced (x : S128x256.Idx → BitVec 32) (R : Fin 128) (b : Fin 2) :
    Host.slice S128x2 ![0, 0] ![1, 128] x slicesBy_S128x256_S128x2_0s1_0s128 (ix2 R b) = x (ix2 R (lane b 0)) := by
  refine congrArg x (funext fun a => ?_)
  match a with
  | ⟨0, _⟩ => exact Fin.ext (show 0 + 1 * R.val = R.val by omega)
  | ⟨1, _⟩ => exact Fin.ext (show 0 + 128 * b.val = b.val * 128 + 0 by omega)

variable (m : (ℓ : Loc nD τ sig) → Buf (Elt Ideal) ℓ) (ρ : Dev nD → PrngReg)

/-- The sampled indices of device `c`. -/
def samples (c : Dev nD) : Vec Ideal S128x2 .i32 :=
  Host.slice S128x2 ![0, 0] ![1, 128] ((dats m 0 c).arrAt 5 cfg0.N : Vec Ideal S128x256 .i32) slicesBy_S128x256_S128x2_0s1_0s128

theorem samples_apply (c : Dev nD) (R : Fin 128) (b : Fin 2) :
    samples m c (ix2 R b)
      = sample (logitsOf (m ((c : Thread nD τ).loc main_arg0)) b R) (masksOf (m ((c : Thread nD τ).loc main_arg1)) b R)
          (wordsOf (key (BitVec.ofNat 32 b.val)).1 (key (BitVec.ofNat 32 b.val)).2 R) := by
  unfold samples
  rw [sliced, sample_array, (keys_value m c b).1, (keys_value m c b).2]

/-- What the line after the kernel leaves in its result. -/
theorem tail_samples (c : Dev nD) : Pipeline.afterTail₀ cfgs (dats m) 0 (V0 m) [hostOps1] c main_v13 = samples m c := by
  unfold Pipeline.afterTail₀
  show StableHlo.after [StableHlo.unary main_v12_2 main_v13 _ _ _] _ _ = _
  rw [StableHlo.after_cons, StableHlo.after_nil, StableHlo.unary_result]
  exact congrArg (fun x => Host.slice S128x2 ![0, 0] ![1, 128] x slicesBy_S128x256_S128x2_0s1_0s128)
    (Pipeline.withArrays_arr (cfgs 0).spec winFacts0.arr_inj c (V0 m c) (fun w => (dats m 0 c).arrAt w cfg0.N) 5)

/-- Every execution ends with the results at these contents and the arguments unchanged. -/
theorem run : θ_run defs (onTc (τ := τ) (main (F := Ideal))) ⟨m, fun _ => 0, ρ⟩ fun r => ∀ c : Dev nD,
    r.2.mem ((c.tc : Thread nD τ).loc main_v13) = samples m c
    ∧ r.2.mem ((c.tc : Thread nD τ).loc main_v12_0) = (dats m 0 c).arrAt 3 cfg0.N
    ∧ r.2.mem ((c.tc : Thread nD τ).loc main_v12_1) = (dats m 0 c).arrAt 4 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c =>
    ⟨((h c).2 main_v13 (Pipeline.mem_restRefs_of main_v13 (by decide) (by decide))).trans (tail_samples m c), (h c).1 3, (h c).1 4,
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c)))⟩) (run_main m ρ)

end Cert.Proof.KernelValue
-- ==== Proof.Reference.Mix.lean ====
/- The reference's two threefry functions compute the hash elementwise. -/
module

public import proofs.«01_k».proof.Proof.Reference.Lines
public import proofs.«01_k».proof.Proof.Threefry.Mix

@[expose] public section

noncomputable section

namespace Cert.Proof.Reference

open Cert.ReferenceIdeal Cert.ReferenceIdeal.Gen Cert.Proof.Host Cert.Proof.Threefry Idealize.ShloMosaic Idealize.ShloMosaic.TcCoe

variable {F : FTy → Type} [FloatOps F]

/-- The only index of a scalar. -/
abbrev zero : S_.Idx := fun a => a.elim0

instance : Subsingleton S_.Idx := ⟨fun _ _ => funext fun a => a.elim0⟩

set_option maxRecDepth 16384 in
set_option maxHeartbeats 1000000 in
/-- The pair of vectors that the function ends with is, elementwise, the hash of the pair it is given. -/
theorem threefry_eq (arg0 arg1 : StableHlo.TRef sig ⟨S_, .i32⟩) (arg2 arg3 : StableHlo.TRef sig ⟨S128x100000, .i32⟩)
    (φ : fn_threefry2x32_0.Bufs) (W : Valuation τ sig (Elt F)) (h : all ((threefry (F := F) arg0 arg1 arg2 arg3 φ).1.2.2 W))
    (i : S128x100000.Idx) :
    (get W φ.v171 i, get W φ.v175 i) = mix (get W arg0 zero) (get W arg1 zero) (get W arg2 i) (get W arg3 i) := by
  obtain ⟨s₀, h⟩ := start_of zero h
  obtain ⟨s₁, h⟩ := even_of h
  obtain ⟨s₂, h⟩ := inj_of zero h
  obtain ⟨s₃, h⟩ := odd_of h
  obtain ⟨s₄, h⟩ := inj_of zero h
  obtain ⟨s₅, h⟩ := even_of h
  obtain ⟨s₆, h⟩ := inj_of zero h
  obtain ⟨s₇, h⟩ := odd_of h
  obtain ⟨s₈, h⟩ := inj_of zero h
  obtain ⟨s₉, h⟩ := even_of h
  obtain ⟨s, -⟩ := inj_of zero h
  exact mix_of s₀ s₁ s₂ s₃ s₄ s₅ s₆ s₇ s₈ s₉ s i

set_option maxRecDepth 16384 in
set_option maxHeartbeats 1000000 in
/-- The same of the function that the keys are folded with. -/
theorem threefryKey_eq (arg0 arg1 : StableHlo.TRef sig ⟨S_, .i32⟩) (arg2 arg3 : StableHlo.TRef sig ⟨S1, .i32⟩)
    (φ : fn_threefry2x32.Bufs) (W : Valuation τ sig (Elt F)) (h : all ((threefryKey (F := F) arg0 arg1 arg2 arg3 φ).1.2.2 W))
    (i : S1.Idx) :
    (get W φ.v171 i, get W φ.v175 i) = mix (get W arg0 zero) (get W arg1 zero) (get W arg2 i) (get W arg3 i) := by
  obtain ⟨s₀, h⟩ := start_of zero h
  obtain ⟨s₁, h⟩ := even_of h
  obtain ⟨s₂, h⟩ := inj_of zero h
  obtain ⟨s₃, h⟩ := odd_of h
  obtain ⟨s₄, h⟩ := inj_of zero h
  obtain ⟨s₅, h⟩ := even_of h
  obtain ⟨s₆, h⟩ := inj_of zero h
  obtain ⟨s₇, h⟩ := odd_of h
  obtain ⟨s₈, h⟩ := inj_of zero h
  obtain ⟨s₉, h⟩ := even_of h
  obtain ⟨s, -⟩ := inj_of zero h
  exact mix_of s₀ s₁ s₂ s₃ s₄ s₅ s₆ s₇ s₈ s₉ s i

end Cert.Proof.Reference
-- ==== Proof.Reference.Rows.lean ====
/- The reference's branch read row by row: the probabilities and their logarithms, from the equations of the vectors
   that lead to them. -/
module

public import proofs.«01_k».proof.Proof.Reference.Mix
public import proofs.«01_k».proof.Proof.Math.Row
public import Idealize.ShloMosaic.Lib.IdealHost
public import Idealize.ShloMosaic.Lib.Pipeline.Value
public import Idealize.ShloMosaic.Lib.ValueLayout
public import Idealize.ShloMosaic.Lib.ValueLayoutCasts
public import Idealize.ShloMosaic.PureOps.Ideal.Laws

@[expose] public section

set_option maxRecDepth 16384

noncomputable section

namespace Cert.Proof.Reference

open Cert.ReferenceIdeal Cert.ReferenceIdeal.Gen Cert.Proof.Host Cert.Proof.Row Idealize.ShloMosaic Idealize.ShloMosaic.ValueIdx

/-- A row of a branch. -/
abbrev row {α : Type} (x : S128x100000.Idx → α) (R : Fin 128) : Fin 100000 → α := fun k => x (ix2 R k)

theorem reduces_row : S128x100000.Reduces [1] S128 := by decide

theorem lift_row (R : Fin 128) (k : Fin 100000) : reduces_row.lift (ix1 R) k = (ix2 R k : S128x100000.Idx) := by
  funext a; match a with | ⟨0, _⟩ => rfl | ⟨1, _⟩ => rfl

/-- A column put beside itself. -/
theorem beside_apply {α : Type} (v : S128.Idx → α) {hb hc} (R : Fin 128) (k : Fin 100000) :
    broadcastInDim S128x100000 ![0, 1] hc (broadcastInDim S128x1 ![0] hb v) (ix2 R k) = v (ix1 R) := by
  rw [broadcastInDim_apply _ _ _ _ (ix2 R (0 : Fin 1)) (fun a => by match a with | ⟨0, _⟩ => rfl | ⟨1, _⟩ => rfl)]
  exact broadcastInDim_apply _ _ _ _ (ix1 R) (fun a => by match a with | ⟨0, _⟩ => rfl)

/-- The greatest of every row, put beside itself. -/
def tops (x : FVec Ideal S128x100000 .f32) : FVec Ideal S128x100000 .f32 :=
  broadcastInDim S128x100000 ![0, 1] bcast_S128x1_S128x100000_0_1 (broadcastInDim S128x1 ![0] bcast_S128_S128x1_0
    (maximumf (broadcastInDim S128 ![] bcast_S_S128 (constant S_ .f32 0xFF800000#32))
      (Host.reduce FloatOps.maximumf x (constant S_ .f32 0xFF800000#32) reducesTo_S128x100000_S128_d1 h_S_)))

theorem maximumf_at {s : Shape} (a b : FVec Ideal s .f32) (i : s.Idx) : maximumf a b i = max (a i) (b i) := rfl

theorem exp_at {s : Shape} (a : FVec Ideal s .f32) (i : s.Idx) : Host.exp a i = Ideal.exp (a i) := rfl
theorem log_at {s : Shape} (a : FVec Ideal s .f32) (i : s.Idx) : Host.log a i = Ideal.log (a i) := rfl
theorem subf_at {s : Shape} (a b : FVec Ideal s .f32) (i : s.Idx) : subf a b i = (a i - b i : EReal) := rfl
theorem addf_at {s : Shape} (a b : FVec Ideal s .f32) (i : s.Idx) : addf a b i = (a i + b i : EReal) := rfl
theorem mulf_at {s : Shape} (a b : FVec Ideal s .f32) (i : s.Idx) : mulf a b i = (a i * b i : EReal) := rfl

theorem constant_at {s : Shape} (w : BitVec 32) (i : s.Idx) :
    (constant s .f32 w : FVec Ideal s .f32) i = Ideal.ofBits .f32 w := rfl

/-- The greatest of a row, from −∞. -/
theorem reduce_max (x : FVec Ideal S128x100000 .f32) (v : FVec Ideal S_ .f32) (hv : ∀ i, v i = (⊥ : EReal)) (R : Fin 128) :
    Host.reduce FloatOps.maximumf x v reducesTo_S128x100000_S128_d1 h_S_ (ix1 R) = top (row x R) := by
  refine (Host.reduce_eq_fold_single (α := EReal) max x v reducesTo_S128x100000_S128_d1 reduces_row h_S_ (ix1 R)).trans ?_
  rw [hv]
  unfold top
  exact Finset.fold_congr fun k _ => congrArg x (lift_row R k)

theorem tops_apply (x : FVec Ideal S128x100000 .f32) (R : Fin 128) (k : Fin 100000) : tops x (ix2 R k) = top (row x R) := by
  unfold tops
  rw [beside_apply, maximumf_at, broadcastInDim_scalar_apply, constant_at, Uniform.ofBits_neg_inf,
    reduce_max x _ (fun i => (constant_at _ i).trans Uniform.ofBits_neg_inf)]
  exact max_eq_right bot_le

/-- The sum of every row, put beside itself. -/
def sums (x : FVec Ideal S128x100000 .f32) : FVec Ideal S128x100000 .f32 :=
  broadcastInDim S128x100000 ![0, 1] bcast_S128x1_S128x100000_0_1 (broadcastInDim S128x1 ![0] bcast_S128_S128x1_0
    (Host.reduceAdd x (constant S_ .f32 0x00000000#32) reducesTo_S128x100000_S128_d1 h_S_))

theorem sums_apply (x : FVec Ideal S128x100000 .f32) (R : Fin 128) (k : Fin 100000) : sums x (ix2 R k) = ∑ i, row x R i := by
  unfold sums
  rw [beside_apply, hostReduceAdd_apply, Ideal.hostReduceAdd_single _ reduces_row, constant_at, Uniform.ofBits_zero, zero_add]
  exact Finset.sum_congr rfl fun i _ => congrArg x (lift_row R i)

/-- The exponentials of a row less its greatest. -/
def exps (x : FVec Ideal S128x100000 .f32) : FVec Ideal S128x100000 .f32 := Host.exp (subf x (tops x))

theorem row_exps (x : FVec Ideal S128x100000 .f32) (R : Fin 128) : row (exps x) R = expo (row x R) := by
  funext k
  unfold exps row
  rw [exp_at, subf_at, tops_apply]; rfl

/-- The entries over their row's sum. -/
def shares (x : FVec Ideal S128x100000 .f32) : FVec Ideal S128x100000 .f32 := Host.divf x (sums x)

theorem row_shares (x : FVec Ideal S128x100000 .f32) (R : Fin 128) : row (shares x) R = share (row x R) := by
  funext k
  unfold shares row
  rw [hostDivf_apply, sums_apply]; rfl

/-- The entries raised. -/
def lift (x : FVec Ideal S128x100000 .f32) : FVec Ideal S128x100000 .f32 :=
  addf x (broadcastInDim S128x100000 ![] bcast_S_S128x100000 (constant S_ .f32 0x33D6BF95#32))

theorem lift_apply (x : FVec Ideal S128x100000 .f32) (i : S128x100000.Idx) : lift x i = x i + eps := by
  unfold lift
  rw [addf_at, broadcastInDim_scalar_apply, constant_at]; rfl

/-- The probabilities of a branch with logits `x` and mask `y`. -/
def probs (x y : FVec Ideal S128x100000 .f32) : FVec Ideal S128x100000 .f32 := shares (mulf (lift (shares (exps x))) y)

theorem row_probs (x y : FVec Ideal S128x100000 .f32) (R : Fin 128) : row (probs x y) R = prob (row x R) (row y R) := by
  unfold probs prob
  rw [row_shares]
  refine congrArg share (funext fun k => ?_)
  unfold raw
  rw [← row_exps, ← row_shares]
  unfold row
  rw [mulf_at, lift_apply]

/-- Their logarithms. -/
def logs (x y : FVec Ideal S128x100000 .f32) : FVec Ideal S128x100000 .f32 := Host.log (lift (probs x y))

theorem row_logs (x y : FVec Ideal S128x100000 .f32) (R : Fin 128) : row (logs x y) R = logp (row x R) (row y R) := by
  funext k
  unfold logp raised
  rw [← row_probs]
  unfold logs row
  rw [log_at, lift_apply]

/-- The equations of a branch up to its logarithms, read. -/
theorem rows_of {x y : FVec Ideal S128x100000 .f32} {t t' s s' : FVec Ideal S_ .f32} {e e' : FVec Ideal S_ .f32}
    {a₁ a₂ a₃ b₁ d₁ : FVec Ideal S128 .f32} {a₄ b₂ d₂ : FVec Ideal S128x1 .f32}
    {a₅ a₆ a₇ b₃ b₄ e₁ e₂ u d₃ p f₁ f₂ q : FVec Ideal S128x100000 .f32} {l : List Prop}
    (h : all ((t = constant S_ .f32 0xFF800000#32)
      :: (a₁ = Host.reduce FloatOps.maximumf x t reducesTo_S128x100000_S128_d1 h_S_)
      :: (t' = constant S_ .f32 0xFF800000#32) :: (a₂ = broadcastInDim S128 ![] bcast_S_S128 t') :: (a₃ = maximumf a₂ a₁)
      :: (a₄ = broadcastInDim S128x1 ![0] bcast_S128_S128x1_0 a₃)
      :: (a₅ = broadcastInDim S128x100000 ![0, 1] bcast_S128x1_S128x100000_0_1 a₄) :: (a₆ = subf x a₅) :: (a₇ = Host.exp a₆)
      :: (s = constant S_ .f32 0x00000000#32) :: (b₁ = Host.reduceAdd a₇ s reducesTo_S128x100000_S128_d1 h_S_)
      :: (b₂ = broadcastInDim S128x1 ![0] bcast_S128_S128x1_0 b₁)
      :: (b₃ = broadcastInDim S128x100000 ![0, 1] bcast_S128x1_S128x100000_0_1 b₂) :: (b₄ = Host.divf a₇ b₃)
      :: (e = constant S_ .f32 0x33D6BF95#32) :: (e₁ = broadcastInDim S128x100000 ![] bcast_S_S128x100000 e)
      :: (e₂ = addf b₄ e₁) :: (u = mulf e₂ y)
      :: (s' = constant S_ .f32 0x00000000#32) :: (d₁ = Host.reduceAdd u s' reducesTo_S128x100000_S128_d1 h_S_)
      :: (d₂ = broadcastInDim S128x1 ![0] bcast_S128_S128x1_0 d₁)
      :: (d₃ = broadcastInDim S128x100000 ![0, 1] bcast_S128x1_S128x100000_0_1 d₂) :: (p = Host.divf u d₃)
      :: (e' = constant S_ .f32 0x33D6BF95#32) :: (f₁ = broadcastInDim S128x100000 ![] bcast_S_S128x100000 e')
      :: (f₂ = addf p f₁) :: (q = Host.log f₂) :: l)) :
    ((∀ R, row p R = prob (row x R) (row y R)) ∧ ∀ R, row q R = logp (row x R) (row y R)) ∧ all l := by
  obtain ⟨rfl, rfl, rfl, rfl, rfl, rfl, rfl, rfl, rfl, rfl, rfl, rfl, rfl, rfl, rfl, rfl, rfl, rfl, rfl, rfl, rfl, rfl, rfl,
    rfl, rfl, rfl, rfl, h⟩ := h
  exact ⟨⟨row_probs x y, row_logs x y⟩, h⟩

end Cert.Proof.Reference
-- ==== Proof.Reference.Draw.lean ====
/- The reference's random numbers and its search: the counters of the elements, the numbers made of the hashed words, and
   the index of the greatest entry of a row. -/
module

public import proofs.«01_k».proof.Proof.Reference.Rows
public import proofs.«01_k».proof.Proof.Threefry.Fold
public import proofs.«01_k».proof.Proof.KernelValue.Bits

@[expose] public section

set_option maxRecDepth 16384

noncomputable section

namespace Cert.Proof.Reference

open Cert.ReferenceIdeal Cert.ReferenceIdeal.Gen Cert.Proof.Host Cert.Proof.Row Cert.Proof.Threefry Idealize.ShloMosaic
open Cert.Proof.Pick Idealize.ShloMosaic.ValueIdx

instance : Subsingleton S1x1.Idx := ⟨fun i j => by
  funext a; match a with | ⟨0, _⟩ => exact Subsingleton.elim (α := Fin 1) _ _ | ⟨1, _⟩ => exact Subsingleton.elim (α := Fin 1) _ _⟩

theorem muli_at {s : Shape} {w : ℕ} (a b : IVec s w) (i : s.Idx) : muli a b i = a i * b i := rfl
theorem addi_at {s : Shape} {w : ℕ} (a b : IVec s w) (i : s.Idx) : addi a b i = a i + b i := rfl
theorem ori_at {s : Shape} {w : ℕ} (a b : IVec s w) (i : s.Idx) : ori a b i = a i ||| b i := rfl
theorem xori_at {s : Shape} {w : ℕ} (a b : IVec s w) (i : s.Idx) : xori a b i = a i ^^^ b i := rfl
theorem trunci_at {s : Shape} {w v : ℕ} (a : IVec s w) (h : v < w) (i : s.Idx) : trunci v a h i = (a i).setWidth v := rfl
theorem hshrui_at {s : Shape} {w : ℕ} (a b : IVec s w) (i : s.Idx) : Host.shrui a b i = IntOp.shrui .host (a i) (b i) := rfl
theorem constantI_at {s : Shape} {w : ℕ} (v : BitVec w) (i : s.Idx) : constantI s w v i = v := rfl
theorem negf_at {s : Shape} (a : FVec Ideal s .f32) (i : s.Idx) : Host.negf a i = (-(a i) : EReal) := rfl
theorem bitcast_at {s : Shape} (a : IVec s 32) (i : s.Idx) :
    (bitcastToFloat .f32 a : FVec Ideal s .f32) i = Ideal.ofBits .f32 (a i) := rfl

/-- An element's number, a double word, cut into its words. -/
theorem number_words (R : Fin 128) (k : Fin 100000) :
    ((100000#64 * BitVec.ofNat 64 R.val + 1#64 * BitVec.ofNat 64 k.val) >>> 32#64).setWidth 32 = 0#32
      ∧ (100000#64 * BitVec.ofNat 64 R.val + 1#64 * BitVec.ofNat 64 k.val).setWidth 32 = BitVec.ofNat 32 (R.val * 100000 + k.val) := by
  have hR := R.isLt
  have hk := k.isLt
  have e : 100000#64 * BitVec.ofNat 64 R.val + 1#64 * BitVec.ofNat 64 k.val = BitVec.ofNat 64 (R.val * 100000 + k.val) := by
    rw [BitVec.one_mul, BitVec.ofNat_add, BitVec.ofNat_mul, BitVec.mul_comm]
  rw [e]
  constructor
  · apply BitVec.eq_of_toNat_eq
    rw [BitVec.toNat_setWidth, BitVec.ushiftRight_eq', BitVec.toNat_ushiftRight, BitVec.toNat_ofNat, Nat.shiftRight_eq_div_pow,
      show (32#64).toNat = 32 from rfl, Nat.mod_eq_of_lt (a := R.val * 100000 + k.val) (by omega), Nat.div_eq_of_lt (by omega)]
    rfl
  · apply BitVec.eq_of_toNat_eq
    rw [BitVec.toNat_setWidth, BitVec.toNat_ofNat, BitVec.toNat_ofNat]
    omega

/-- The equations that prepare a draw: the key's words, and the element's number in two words. -/
theorem counter_of {k : IVec S2 32} {a b f₀ f₁ : FVec Ideal S_ .f32} {f₂ f₃ : FVec Ideal S1x1 .f32} {v₄ v₆ : IVec S1 32}
    {v₅ v₇ : IVec S_ 32} {v₈ v₉ v₁₀ v₁₁ v₁₂ v₁₃ v₁₄ v₁₅ v₁₆ : IVec S128x100000 64} {c c₀ c₁ : IVec S_ 64}
    {v₁₇ v₁₈ : IVec S128x100000 32} {l : List Prop} {hs hs' hr hr'} {ht}
    (h : all ((f₀ = id a) :: (f₁ = id b) :: (f₂ = broadcastInDim S1x1 ![] bcast_S_S1x1 f₀)
      :: (f₃ = broadcastInDim S1x1 ![] bcast_S_S1x1 f₁) :: (v₄ = extractStridedSlice S1 ![0] k hs) :: (v₅ = shapeCast S_ v₄ hr)
      :: (v₆ = extractStridedSlice S1 ![1] k hs') :: (v₇ = shapeCast S_ v₆ hr') :: (v₈ = iotaInDim S128x100000 64 0)
      :: (v₉ = iotaInDim S128x100000 64 1) :: (c = constantI S_ 64 100000#64)
      :: (v₁₀ = broadcastInDim S128x100000 ![] bcast_S_S128x100000 c) :: (v₁₁ = muli v₁₀ v₈) :: (c₀ = constantI S_ 64 1#64)
      :: (v₁₂ = broadcastInDim S128x100000 ![] bcast_S_S128x100000 c₀) :: (v₁₃ = muli v₁₂ v₉) :: (v₁₄ = addi v₁₁ v₁₃)
      :: (c₁ = constantI S_ 64 32#64) :: (v₁₅ = broadcastInDim S128x100000 ![] bcast_S_S128x100000 c₁)
      :: (v₁₆ = Host.shrui v₁₄ v₁₅) :: (v₁₇ = trunci 32 v₁₄ ht) :: (v₁₈ = trunci 32 v₁₆ ht) :: l)) :
    ((v₅ zero = k (ix1 0) ∧ v₇ zero = k (ix1 1))
      ∧ (∀ R n, v₁₈ (ix2 R n) = 0#32 ∧ v₁₇ (ix2 R n) = BitVec.ofNat 32 (R.val * 100000 + n.val))
      ∧ f₂ (ix2 0 0) = a zero ∧ f₃ (ix2 0 0) = b zero) ∧ all l := by
  have first (hs) : extractStridedSlice S1 ![0] k hs (ix1 0) = k (ix1 0) :=
    extractStridedSlice_apply _ k hs _ _ fun a => by match a with | ⟨0, _⟩ => rfl
  have second (hs) : extractStridedSlice S1 ![1] k hs (ix1 0) = k (ix1 1) :=
    extractStridedSlice_apply _ k hs _ _ fun a => by match a with | ⟨0, _⟩ => rfl
  have word (x : S1.Idx → Word) (hr) : shapeCast S_ x hr zero = x (ix1 0) := shapeCast_apply x hr _ _ (by decide)
  obtain ⟨rfl, rfl, rfl, rfl, rfl, rfl, rfl, rfl, rfl, rfl, rfl, rfl, rfl, rfl, rfl, rfl, rfl, rfl, rfl, rfl, rfl, rfl, h⟩ := h
  refine ⟨⟨⟨?_, ?_⟩, fun R n => ?_, ?_, ?_⟩, h⟩
  · rw [word, first]
  · rw [word, second]
  · rw [trunci_at, trunci_at, hshrui_at, addi_at, muli_at, muli_at, bcast_apply _ zero, bcast_apply _ zero, bcast_apply _ zero,
      constantI_at, constantI_at, constantI_at, iotaInDim_apply, iotaInDim_apply, IntOp.shrui, if_pos (by decide)]
    exact number_words R n
  · rw [bcast_apply _ zero]
  · rw [bcast_apply _ zero]

/-- The equations that make numbers of the hashed words. -/
theorem floats_of {p q x v₂₁ v₂₂ v₂₃ v₂₄ : IVec S128x100000 32} {c₂ c₃ : IVec S_ 32} {f₂ f₃ v₂₈ : FVec Ideal S1x1 .f32}
    {v₂₅ v₂₆ v₂₇ v₂₉ v₃₀ v₃₁ v₃₂ v₃₃ v₃₄ : FVec Ideal S128x100000 .f32} {o : FVec Ideal S_ .f32} {l : List Prop}
    (h : all ((x = xori p q) :: (c₂ = constantI S_ 32 9#32) :: (v₂₁ = broadcastInDim S128x100000 ![] bcast_S_S128x100000 c₂)
      :: (v₂₂ = Host.shrui x v₂₁) :: (c₃ = constantI S_ 32 1065353216#32)
      :: (v₂₃ = broadcastInDim S128x100000 ![] bcast_S_S128x100000 c₃) :: (v₂₄ = ori v₂₂ v₂₃) :: (v₂₅ = bitcastToFloat .f32 v₂₄)
      :: (o = constant S_ .f32 0x3F800000#32) :: (v₂₆ = broadcastInDim S128x100000 ![] bcast_S_S128x100000 o)
      :: (v₂₇ = subf v₂₅ v₂₆) :: (v₂₈ = subf f₃ f₂)
      :: (v₂₉ = broadcastInDim S128x100000 ![0, 1] bcast_S1x1_S128x100000_0_1 v₂₈) :: (v₃₀ = mulf v₂₇ v₂₉)
      :: (v₃₁ = broadcastInDim S128x100000 ![0, 1] bcast_S1x1_S128x100000_0_1 f₂) :: (v₃₂ = addf v₃₀ v₃₁)
      :: (v₃₃ = broadcastInDim S128x100000 ![0, 1] bcast_S1x1_S128x100000_0_1 f₂) :: (v₃₄ = maximumf v₃₃ v₃₂) :: l)) (i : S128x100000.Idx) :
    v₃₄ i = max (f₂ (ix2 0 0)) (Uniform.unit (p i ^^^ q i) * ((f₃ (ix2 0 0) : EReal) - f₂ (ix2 0 0)) + f₂ (ix2 0 0)) := by
  obtain ⟨rfl, rfl, rfl, rfl, rfl, rfl, rfl, rfl, rfl, rfl, rfl, rfl, rfl, rfl, rfl, rfl, rfl, rfl, -⟩ := h
  rw [maximumf_at, addf_at, mulf_at, subf_at, bitcast_at, ori_at, hshrui_at, xori_at, bcast_apply _ zero, bcast_apply _ zero,
    bcast_apply _ zero, constantI_at, constantI_at, constant_at, shrui_of_lt _ _ _ (by decide), bcast_apply _ (ix2 0 0),
    bcast_apply _ (ix2 0 0), subf_at]
  rfl

/-- The draw of every element: a number made of its hashed word. -/
theorem uniform_eq (arg0 : StableHlo.TRef sig ⟨S2, .i32⟩) (arg1 arg2 : StableHlo.TRef sig ⟨S_, .f32⟩) (φ : fn_uniform.Bufs)
    (W : Valuation τ sig (Elt Ideal)) (h : all ((uniform (F := Ideal) arg0 arg1 arg2 φ).1.2.2 W)) (R : Fin 128) (n : Fin 100000) :
    get W φ.v34 (ix2 R n) = max (get W arg1 zero) (Uniform.unit (KernelValue.word (get W arg0 (ix1 0)) (get W arg0 (ix1 1))
      (BitVec.ofNat 32 (R.val * 100000 + n.val))) * ((get W arg2 zero : EReal) - get W arg1 zero) + get W arg1 zero) := by
  obtain ⟨⟨⟨k₀, k₁⟩, s, fa, fb⟩, ht, h⟩ := counter_of h
  have e := threefry_eq _ _ _ _ _ W ht (ix2 R n)
  rw [k₀, k₁, (s R n).1, (s R n).2] at e
  have u := floats_of h (ix2 R n)
  rw [fa, fb] at u
  rw [KernelValue.word, ← show _ = mix _ _ 0 _ from e]
  exact u

/-- The reference's reducer keeps the better pair. -/
theorem reducer_eq : reducer_argmax_f32_i32 (F := Ideal) = step := by
  funext a b
  have h₀ : FloatOps.cmpf (F := Ideal) (φ := .f32) .ogt a.1 b.1 = BitVec.ofBool (decide (b.1 < a.1)) := rfl
  have h₁ : FloatOps.cmpf (F := Ideal) (φ := .f32) .une a.1 a.1 = 0#1 :=
    (show _ = BitVec.ofBool (decide (a.1 ≠ a.1)) from rfl).trans (by rw [decide_eq_false (by simp)]; rfl)
  have h₂ : FloatOps.cmpf (F := Ideal) (φ := .f32) .oeq a.1 b.1 = BitVec.ofBool (decide (a.1 = b.1)) := rfl
  have h₃ : IntOp.cmpi .slt a.2 b.2 = BitVec.ofBool (decide (a.2.toInt < b.2.toInt)) := rfl
  unfold reducer_argmax_f32_i32 step
  dsimp only
  rw [h₀, h₁, h₂, h₃]
  by_cases h : b.1 < a.1
  · rw [if_pos (.inl h), decide_eq_true h, decide_eq_false h.ne']
    generalize decide (a.2.toInt < b.2.toInt) = d
    cases d <;> rfl
  · by_cases he : a.1 = b.1
    · by_cases hl : a.2.toInt < b.2.toInt
      · rw [if_pos (.inr ⟨he, hl⟩), decide_eq_false h, decide_eq_true he, decide_eq_true hl]
        exact Prod.ext he.symm rfl
      · rw [if_neg (by rintro (h' | h'); exacts [h h', hl h'.2]), decide_eq_false h, decide_eq_true he, decide_eq_false hl]; rfl
    · rw [if_neg (by rintro (h' | h'); exacts [h h', he h'.1]), decide_eq_false h, decide_eq_false he]
      by_cases hl : a.2.toInt < b.2.toInt
      · rw [decide_eq_true hl]; rfl
      · rw [decide_eq_false hl]; rfl

/-- The pairs a row is searched over. -/
theorem mem_fiber (x : FVec Ideal S128x100000 .f32) (R : Fin 128) (p : EReal × BitVec 32) :
    p ∈ Host.argReduceFiber (α := EReal) x (iotaInDim S128x100000 32 1) reducesTo_S128x100000_S128_d1 (ix1 R)
      ↔ ∃ n : Fin 100000, p = (x (ix2 R n), BitVec.ofNat 32 n.val) := by
  have drop (r : Fin 128) (n : Fin 100000) : (reducesTo_S128x100000_S128_d1).drop (ix2 r n) = ix1 r := by
    rw [Shape.ReducesTo.drop_eq_drop _ reduces_row, ← lift_row]
    exact Shape.Reduces.drop_lift reduces_row (ix1 r) n
  unfold Host.argReduceFiber
  rw [List.mem_map]
  constructor
  · rintro ⟨j, hj, rfl⟩
    have hd := (List.mem_filter.mp hj).2
    rw [decide_eq_true_eq] at hd
    generalize S128x100000.rowMajor.symm j = i at hd ⊢
    obtain ⟨r, n, rfl⟩ : ∃ (r : Fin 128) (n : Fin 100000), i = ix2 r n := ⟨i 0, i 1, eq_ix2 i⟩
    rw [drop] at hd
    have : r = R := congrFun hd 0
    subst this
    exact ⟨n, rfl⟩
  · rintro ⟨n, rfl⟩
    refine ⟨S128x100000.rowMajor (ix2 R n), List.mem_filter.mpr ⟨List.mem_finRange _, ?_⟩, ?_⟩
    · rw [Equiv.symm_apply_apply, drop]; exact decide_eq_true rfl
    · rw [Equiv.symm_apply_apply]; rfl

/-- The search's equations: its result is what a walk over the row's pairs keeps. -/
theorem search_of {x : FVec Ideal S128x100000 .f32} {io : IVec S128x100000 32} {b : FVec Ideal S_ .f32} {c : IVec S_ 32}
    {r₀ : FVec Ideal S128 .f32} {r₁ : IVec S128 32} {l : List Prop}
    (h : all ((io = iotaInDim S128x100000 32 1) :: (b = constant S_ .f32 0xFF800000#32) :: (c = constantI S_ 32 0#32)
      :: (r₀ = fun j => (Host.argReduce reducer_argmax_f32_i32 x io b c reducesTo_S128x100000_S128_d1 h_S_ j).1)
      :: (r₁ = fun j => (Host.argReduce reducer_argmax_f32_i32 x io b c reducesTo_S128x100000_S128_d1 h_S_ j).2) :: l)) (R : Fin 128) :
    r₁ (ix1 R) = ((Host.argReduceFiber (α := EReal) x (iotaInDim S128x100000 32 1) reducesTo_S128x100000_S128_d1 (ix1 R)).foldl
      step (⊥, 0#32)).2 := by
  obtain ⟨rfl, rfl, rfl, rfl, rfl, -⟩ := h
  rw [← Uniform.ofBits_neg_inf, ← reducer_eq]
  dsimp only
  rw [Ideal.argReduce_eq_reduce2]
  exact congrArg Prod.snd (Host.reduce2_eq_foldl_fiber (α := EReal) _ _ _ _ _ _ _ _)

end Cert.Proof.Reference
-- ==== Proof.Reference.Value.lean ====
/- What the reference's branches end with: probabilities, their logarithms and the sampled index of every row. -/
module

public import proofs.«01_k».proof.Proof.Reference.Draw
public import proofs.«01_k».proof.Proof.Reference.Run

@[expose] public section

set_option maxRecDepth 16384

noncomputable section

namespace Cert.Proof.Reference

open Cert.ReferenceIdeal Cert.ReferenceIdeal.Gen Cert.Proof.Host Cert.Proof.Row Cert.Proof.Threefry Idealize.ShloMosaic
open Cert.Proof.Pick Idealize.ShloMosaic.ValueIdx Idealize.ShloMosaic.TcCoe

/-- The words of branch `n`, row `R`. -/
def wordsOf (n : Word) (R : Fin 128) : Fin 100000 → Word :=
  fun k => KernelValue.word (key n).1 (key n).2 (BitVec.ofNat 32 (R.val * 100000 + k.val))

/-- The equations that cut a branch's mask and logits out. -/
theorem front_of {b : Fin 2} {o : ℕ} {X : FVec Ideal S2x128x100000 .f32} {Y : FVec Ideal S128x200000 .f32}
    {y x : FVec Ideal S128x100000 .f32} {x₀ : FVec Ideal S1x128x100000 .f32} {l : List Prop} {hs hs' hr}
    (h : all ((y = extractStridedSlice S128x100000 ![0, o] Y hs) :: (x₀ = extractStridedSlice S1x128x100000 ![b.val, 0, 0] X hs')
      :: (x = fun i => shapeCast S128x100000 x₀ hr i) :: l)) :
    ((∀ (R : Fin 128) (k : Fin 100000) (j : Fin 200000), j.val = o + k.val → y (ix2 R k) = Y (ix2 R j))
      ∧ ∀ R k, x (ix2 R k) = X (ix3 b R k)) ∧ all l := by
  obtain ⟨rfl, rfl, rfl, h⟩ := h
  refine ⟨⟨fun R k j hj => ?_, fun R k => ?_⟩, h⟩
  · exact extractStridedSlice_apply _ Y hs _ _ fun a => by
      match a with | ⟨0, _⟩ => exact (Nat.zero_add _).symm | ⟨1, _⟩ => exact hj
  · refine (shapeCast_1ab_ab_apply _ _ R k).trans (extractStridedSlice_apply _ X hs' _ _ fun a => ?_)
    match a with | ⟨0, _⟩ => rfl | ⟨1, _⟩ => exact (Nat.zero_add _).symm | ⟨2, _⟩ => exact (Nat.zero_add _).symm

/-- The equations of the sampling, the calls among them kept as they are. -/
theorem draw_of {n : IVec S_ 32} {N : Word} {a b t : FVec Ideal S_ .f32} {u q v₃₃ v₃₄ v₃₅ v₃₆ v₃₇ v₃₈ v₃₉ : FVec Ideal S128x100000 .f32}
    {r : IVec S128 32} {v₄₁ : IVec S128x1 32} {P P' P'' : Prop} {l : List Prop}
    (h : all ((n = constantI S_ 32 N) :: P :: (a = constant S_ .f32 0x00000000#32) :: (b = constant S_ .f32 0x3F800000#32) :: P'
      :: (t = constant S_ .f32 0x00800000#32) :: (v₃₃ = broadcastInDim S128x100000 ![] bcast_S_S128x100000 t)
      :: (v₃₄ = maximumf u v₃₃) :: (v₃₅ = Host.log v₃₄) :: (v₃₆ = Host.negf v₃₅) :: (v₃₇ = Host.log v₃₆) :: (v₃₈ = Host.negf v₃₇)
      :: (v₃₉ = addf v₃₈ q) :: P'' :: (v₄₁ = broadcastInDim S128x1 ![0] bcast_S128_S128x1_0 r) :: l)) :
    ((n zero = N ∧ a zero = Ideal.ofBits .f32 0x00000000#32 ∧ b zero = Ideal.ofBits .f32 0x3F800000#32
      ∧ (∀ i, v₃₉ i = -Ideal.log (-Ideal.log (max (u i) (Ideal.ofBits .f32 0x00800000#32))) + (q i : EReal))
      ∧ ∀ R, v₄₁ (ix2 R 0) = r (ix1 R)) ∧ P ∧ P' ∧ P'') ∧ all l := by
  obtain ⟨rfl, p, rfl, rfl, p', rfl, rfl, rfl, rfl, rfl, rfl, rfl, rfl, p'', rfl, h⟩ := h
  refine ⟨⟨⟨constantI_at _ _, constant_at _ _, constant_at _ _, fun i => ?_, fun R => ?_⟩, p, p', p''⟩, h⟩
  · rw [addf_at, negf_at, log_at, negf_at, log_at, maximumf_at, bcast_apply _ zero, constant_at]
  · exact broadcastInDim_apply _ _ _ _ (ix1 R) fun a => by match a with | ⟨0, _⟩ => rfl

/-- The key a number is folded into. -/
theorem foldIn_eq (arg0 : StableHlo.TRef sig ⟨S2, .i32⟩) (arg1 : StableHlo.TRef sig ⟨S_, .i32⟩) (φ : fn_threefry_fold_in.Bufs)
    (W : Valuation τ sig (Elt Ideal)) (h : all ((foldIn (F := Ideal) arg0 arg1 φ).1.2.2 W))
    (h₀ : get W arg0 (ix1 0) = hi 42#32) (h₁ : get W arg0 (ix1 1) = lo 42#32) :
    get W φ.v12 (ix1 0) = (key (get W arg1 zero)).1 ∧ get W φ.v12 (ix1 1) = (key (get W arg1 zero)).2 := by
  obtain ⟨⟨⟨k₀, k₁⟩, n₀, n₁⟩, ht, hc, -⟩ := fold_of h
  have e := threefryKey_eq _ _ _ _ _ W ht (ix1 0)
  rw [k₀, k₁, n₀, n₁, h₀, h₁] at e
  rw [hc]
  exact ⟨((joined _ _ _).1).trans (congrArg Prod.fst e), ((joined _ _ _).2).trans (congrArg Prod.snd e)⟩

/-- The sampled index of a row, from the calls that draw it. -/
theorem drawn {kr : StableHlo.TRef sig ⟨S2, .i32⟩} {nr : StableHlo.TRef sig ⟨S_, .i32⟩} {φ : fn_threefry_fold_in.Bufs}
    {ar br : StableHlo.TRef sig ⟨S_, .f32⟩} {φ' : fn_uniform.Bufs} {zr : StableHlo.TRef sig ⟨S128x100000, .f32⟩}
    {φ'' : fn_argmax.Bufs} {W : Valuation τ sig (Elt Ideal)} {x y q : FVec Ideal S128x100000 .f32} {N : Word}
    (h₀ : get W kr (ix1 0) = hi 42#32) (h₁ : get W kr (ix1 1) = lo 42#32) (hn : get W nr zero = N)
    (ha : get W ar zero = Ideal.ofBits .f32 0x00000000#32) (hb : get W br zero = Ideal.ofBits .f32 0x3F800000#32)
    (hf : all ((foldIn (F := Ideal) kr nr φ).1.2.2 W)) (hu : all ((uniform (F := Ideal) φ.v12 ar br φ').1.2.2 W))
    (hz : ∀ i, get W zr i = -Ideal.log (-Ideal.log (max (get W φ'.v34 i) (Ideal.ofBits .f32 0x00800000#32))) + (q i : EReal))
    (hq : ∀ R, row q R = logp (row x R) (row y R)) (hs : all ((argmax (F := Ideal) zr φ'').1.2.2 W)) (R : Fin 128) :
    get W φ''.v1_1 (ix1 R) = sample (row x R) (row y R) (wordsOf N R) := by
  obtain ⟨e₀, e₁⟩ := foldIn_eq kr nr φ W hf h₀ h₁
  rw [hn] at e₀ e₁
  refine (search_of hs R).trans (search _ _ _ (by omega) (by omega) fun p => (mem_fiber _ R p).trans (exists_congr fun k => ?_))
  have hw : get W zr (ix2 R k) = -Ideal.log (Uniform.wait (wordsOf N R k)) + logp (row x R) (row y R) k := by
    rw [hz, uniform_eq _ _ _ _ W hu, ha, hb, e₀, e₁, Uniform.open01_max, ← hq]
    rfl
  rw [hw]

/-- Column `k` of branch `b`. -/
def colOf (b : Fin 2) (k : Fin 100000) : Fin 200000 := ⟨b.val * 100000 + k.val, by omega⟩

theorem colOf_zero (k : Fin 100000) : (colOf 0 k).val = k.val := by
  show 0 * 100000 + k.val = k.val
  omega

theorem colOf_one (k : Fin 100000) : (colOf 1 k).val = 100000 + k.val := by
  show 1 * 100000 + k.val = 100000 + k.val
  omega

/-- Two branches beside each other. -/
theorem beside {α : Type} (A B : S128x100000.Idx → α) (h) (R : Fin 128) (k : Fin 100000) :
    concatenate S128x200000 1 [⟨S128x100000, A⟩, ⟨S128x100000, B⟩] h (ix2 R (colOf 0 k)) = A (ix2 R k)
      ∧ concatenate S128x200000 1 [⟨S128x100000, A⟩, ⟨S128x100000, B⟩] h (ix2 R (colOf 1 k)) = B (ix2 R k) :=
  ⟨concatenate_pair_apply_left (s₁ := S128x100000) (s₂ := S128x100000) (t := S128x200000) 1 A B h _ rfl (ix2 R k)
      (fun b => by match b with | ⟨0, _⟩ => rfl | ⟨1, _⟩ => exact (colOf_zero k).symm),
    concatenate_pair_apply_right (s₁ := S128x100000) (s₂ := S128x100000) (t := S128x200000) 1 A B h _ rfl rfl (ix2 R k)
      (fun b hb => by match b with | ⟨0, _⟩ => rfl | ⟨1, _⟩ => exact absurd rfl hb)
      ((Nat.add_comm _ _).trans (colOf_one k).symm)⟩

/-- Two columns beside each other. -/
theorem beside_columns {α : Type} (A B : S128x1.Idx → α) (h) (R : Fin 128) :
    concatenate S128x2 1 [⟨S128x1, A⟩, ⟨S128x1, B⟩] h (ix2 R 0) = A (ix2 R 0)
      ∧ concatenate S128x2 1 [⟨S128x1, A⟩, ⟨S128x1, B⟩] h (ix2 R 1) = B (ix2 R 0) :=
  ⟨concatenate_pair_apply_left (s₁ := S128x1) (s₂ := S128x1) (t := S128x2) 1 A B h _ rfl (ix2 R 0)
      (fun b => by match b with | ⟨0, _⟩ => rfl | ⟨1, _⟩ => rfl),
    concatenate_pair_apply_right (s₁ := S128x1) (s₂ := S128x1) (t := S128x2) 1 A B h _ rfl rfl (ix2 R 0)
      (fun b hb => by match b with | ⟨0, _⟩ => rfl | ⟨1, _⟩ => exact absurd rfl hb) rfl⟩

/-- Row `R` of branch `b` of the logits and of the masks. -/
def logitsOf (X : FVec Ideal S2x128x100000 .f32) (b : Fin 2) (R : Fin 128) : Fin 100000 → EReal := fun k => X (ix3 b R k)
def masksOf (Y : FVec Ideal S128x200000 .f32) (b : Fin 2) (R : Fin 128) : Fin 100000 → EReal := fun k => Y (ix2 R (colOf b k))

set_option maxHeartbeats 1000000 in
/-- The reference's three results, element by element, wherever its equations hold. -/
theorem values_of {W : Valuation τ sig (Elt Ideal)} (h : all (line.1.2.2 W)) (b : Fin 2) (R : Fin 128) :
    (W (Proc.devRef .tc main_v77) : Vec Ideal S128x2 .i32) (ix2 R b)
        = sample (logitsOf (W (Proc.devRef .tc main_arg0)) b R) (masksOf (W (Proc.devRef .tc main_arg1)) b R)
            (wordsOf (BitVec.ofNat 32 b.val) R)
      ∧ (∀ k, (W (Proc.devRef .tc main_v78) : Vec Ideal S128x200000 .f32) (ix2 R (colOf b k))
        = prob (logitsOf (W (Proc.devRef .tc main_arg0)) b R) (masksOf (W (Proc.devRef .tc main_arg1)) b R) k)
      ∧ ∀ k, (W (Proc.devRef .tc main_v79) : Vec Ideal S128x200000 .f32) (ix2 R (colOf b k))
        = logp (logitsOf (W (Proc.devRef .tc main_arg0)) b R) (masksOf (W (Proc.devRef .tc main_arg1)) b R) k := by
  obtain ⟨⟨h₀, h₁⟩, h⟩ := seed_of h
  obtain ⟨⟨y, x⟩, h⟩ := front_of (b := 0) (o := 0) h
  obtain ⟨⟨p, q⟩, h⟩ := rows_of h
  obtain ⟨⟨⟨n, z₀, z₁, z, s⟩, f, u, g⟩, h⟩ := draw_of h
  have d := drawn (kr := .of main_v6) (nr := .of main_c_7) (φ := main_call0) (ar := .of main_cst_8) (br := .of main_cst_9)
    (φ' := main_call1) (zr := .of main_v39) (φ'' := main_call2) h₀ h₁ n z₀ z₁ f u z q g R
  obtain ⟨⟨y', x'⟩, h⟩ := front_of (b := 1) (o := 100000) h
  obtain ⟨⟨p', q'⟩, h⟩ := rows_of h
  obtain ⟨⟨⟨n', z₀', z₁', z', s'⟩, f', u', g'⟩, h⟩ := draw_of h
  have d' := drawn (kr := .of main_v6) (nr := .of main_c_17) (φ := main_call3) (ar := .of main_cst_18) (br := .of main_cst_19)
    (φ' := main_call4) (zr := .of main_v74) (φ'' := main_call5) h₀ h₁ n' z₀' z₁' f' u' z' q' g' R
  obtain ⟨c₁, c₂, c₃, -⟩ := h
  have ey : row (W (Proc.devRef .tc main_v7)) R = masksOf (W (Proc.devRef .tc main_arg1)) 0 R :=
    funext fun k => y R k _ ((colOf_zero k).trans (Nat.zero_add _).symm)
  have ex : row (W (Proc.devRef .tc main_v9)) R = logitsOf (W (Proc.devRef .tc main_arg0)) 0 R := funext fun k => x R k
  have ey' : row (W (Proc.devRef .tc main_v42)) R = masksOf (W (Proc.devRef .tc main_arg1)) 1 R :=
    funext fun k => y' R k _ (colOf_one k)
  have ex' : row (W (Proc.devRef .tc main_v44)) R = logitsOf (W (Proc.devRef .tc main_arg0)) 1 R := funext fun k => x' R k
  rw [c₁, c₂, c₃]
  match b with
  | 0 =>
    refine ⟨(beside_columns _ _ _ R).1.trans ((s R).trans (d.trans ?_)), fun k => (beside _ _ _ R k).1.trans ?_,
      fun k => (beside _ _ _ R k).1.trans ?_⟩
    · exact congrArg₂ (fun u v => sample u v (wordsOf 0#32 R)) ex ey
    · rw [← ex, ← ey]; exact congrFun (p R) k
    · rw [← ex, ← ey]; exact congrFun (q R) k
  | 1 =>
    refine ⟨(beside_columns _ _ _ R).2.trans ((s' R).trans (d'.trans ?_)), fun k => (beside _ _ _ R k).2.trans ?_,
      fun k => (beside _ _ _ R k).2.trans ?_⟩
    · exact congrArg₂ (fun u v => sample u v (wordsOf 1#32 R)) ex' ey'
    · rw [← ex', ← ey']; exact congrFun (p' R) k
    · rw [← ex', ← ey']; exact congrFun (q' R) k

end Cert.Proof.Reference
-- ==== Proof.Algebraic.lean ====
/- The kernel and the reference, with exact operations, end with equal results: element by element both are the
   probability, its logarithm and the sampled index of the same row of logits, masks and random words. -/
module

public import proofs.«01_k».proof.Defs
public import proofs.«01_k».proof.Proof.KernelValue.Run
public import proofs.«01_k».proof.Proof.Reference.Value
public import proofs.«01_k».proof.Proof.Reference.Frame

@[expose] public section

set_option maxRecDepth 16384

noncomputable section

namespace Cert.Proof

open Idealize.ShloMosaic Idealize.ShloMosaic.TcCoe Idealize.ShloMosaic.ValueIdx Idealize.SL.Sem

/-- Two arrays of 128 rows by 200000 columns are equal when they agree on the columns of either branch. -/
theorem ext_columns {α : Type} {A B : (⟨2, ![128, 200000]⟩ : Shape).Idx → α}
    (h : ∀ (b : Fin 2) (R : Fin 128) (k : Fin 100000), A (ix2 R (KernelValue.col b k)) = B (ix2 R (KernelValue.col b k))) : A = B := by
  funext j
  have hj : (j 1).val < 200000 := (j 1).isLt
  have e : j = ix2 (j 0) (KernelValue.col ⟨(j 1).val / 100000, by omega⟩ ⟨(j 1).val % 100000, by omega⟩) :=
    (eq_ix2 j).trans (congrArg (ix2 (j 0)) (Fin.ext (Nat.div_add_mod' _ _).symm))
  rw [e]
  exact h _ _ _

/-- Two arrays of a pair for each row are equal when they agree on every pair. -/
theorem ext_pairs {α : Type} {A B : (⟨2, ![128, 2]⟩ : Shape).Idx → α} (h : ∀ (b : Fin 2) (R : Fin 128), A (ix2 R b) = B (ix2 R b)) :
    A = B := by
  funext j
  rw [eq_ix2 j]
  exact h _ _

section

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (h₀ : m' ((c.tc : Thread ReferenceIdeal.nD ReferenceIdeal.τ).loc ReferenceIdeal.main_arg0)
    = m ((c.tc : Thread KernelIdeal.nD KernelIdeal.τ).loc KernelIdeal.main_arg0))
  (h₁ : m' ((c.tc : Thread ReferenceIdeal.nD ReferenceIdeal.τ).loc ReferenceIdeal.main_arg1)
    = m ((c.tc : Thread KernelIdeal.nD KernelIdeal.τ).loc KernelIdeal.main_arg1))

include h₀ h₁

/-- What the reference's equations say of its final contents, in terms of the kernel's arguments. -/
theorem reference_values (b : Fin 2) (R : Fin 128) :
    (Reference.final m' c (Proc.devRef .tc ReferenceIdeal.main_v77) : Vec Ideal ReferenceIdeal.S128x2 .i32) (ix2 R b)
        = Row.sample (KernelValue.logitsOf (m ((c.tc : Thread KernelIdeal.nD KernelIdeal.τ).loc KernelIdeal.main_arg0)) b R)
            (KernelValue.masksOf (m ((c.tc : Thread KernelIdeal.nD KernelIdeal.τ).loc KernelIdeal.main_arg1)) b R)
            (Reference.wordsOf (BitVec.ofNat 32 b.val) R)
      ∧ (∀ k, (Reference.final m' c (Proc.devRef .tc ReferenceIdeal.main_v78) : Vec Ideal ReferenceIdeal.S128x200000 .f32)
          (ix2 R (Reference.colOf b k))
        = Row.prob (KernelValue.logitsOf (m ((c.tc : Thread KernelIdeal.nD KernelIdeal.τ).loc KernelIdeal.main_arg0)) b R)
            (KernelValue.masksOf (m ((c.tc : Thread KernelIdeal.nD KernelIdeal.τ).loc KernelIdeal.main_arg1)) b R) k)
      ∧ ∀ k, (Reference.final m' c (Proc.devRef .tc ReferenceIdeal.main_v79) : Vec Ideal ReferenceIdeal.S128x200000 .f32)
          (ix2 R (Reference.colOf b k))
        = Row.logp (KernelValue.logitsOf (m ((c.tc : Thread KernelIdeal.nD KernelIdeal.τ).loc KernelIdeal.main_arg0)) b R)
            (KernelValue.masksOf (m ((c.tc : Thread KernelIdeal.nD KernelIdeal.τ).loc KernelIdeal.main_arg1)) b R) k := by
  have v := Reference.values_of (Reference.final_eqs m' c) b R
  rw [(Reference.final_arg0 m' c).trans h₀, (Reference.final_arg1 m' c).trans h₁] at v
  exact v

/-- The sampled indices are equal. -/
theorem samples_eq : Reference.final m' c (Proc.devRef .tc ReferenceIdeal.main_v77) = KernelValue.samples m c :=
  ext_pairs fun b R => (reference_values m m' c h₀ h₁ b R).1.trans (KernelValue.samples_apply m c R b).symm

/-- The probabilities are equal. -/
theorem probs_eq : Reference.final m' c (Proc.devRef .tc ReferenceIdeal.main_v78)
    = (KernelIdeal.Gen.dats m 0 c).arrAt 3 KernelIdeal.cfg0.N :=
  ext_columns fun b R k => ((reference_values m m' c h₀ h₁ b R).2.1 k).trans (KernelValue.probs_array m c b R k).symm

/-- The logarithms of the probabilities are equal. -/
theorem logps_eq : Reference.final m' c (Proc.devRef .tc ReferenceIdeal.main_v79)
    = (KernelIdeal.Gen.dats m 0 c).arrAt 4 KernelIdeal.cfg0.N :=
  ext_columns fun b R k => ((reference_values m m' c h₀ h₁ b R).2.2 k).trans (KernelValue.logp_array m c b R k).symm

end

/-- Run from equal arguments, the kernel and the reference end with equal results. -/
theorem algebraic : Cert.algebraic_KernelIdeal_ReferenceIdeal (hKernelIdeal := Cert.KernelIdeal.Gen.facts)
    (hReferenceIdeal := Cert.ReferenceIdeal.Gen.facts) :=
  fun m g m' g' _ h => ⟨KernelValue.samples m, fun c => (KernelIdeal.Gen.dats m 0 c).arrAt 3 KernelIdeal.cfg0.N,
    fun c => (KernelIdeal.Gen.dats m 0 c).arrAt 4 KernelIdeal.cfg0.N, KernelValue.run m g,
    (θ_run ReferenceIdeal.defs _ _).mono (fun _ r c =>
      ⟨(r c ReferenceIdeal.main_v77).trans (samples_eq m m' c (h c).1 (h c).2),
        (r c ReferenceIdeal.main_v78).trans (probs_eq m m' c (h c).1 (h c).2),
        (r c ReferenceIdeal.main_v79).trans (logps_eq m m' c (h c).1 (h c).2),
        (r c ReferenceIdeal.main_arg0).trans (Reference.final_arg0 m' c),
        (r c ReferenceIdeal.main_arg1).trans (Reference.final_arg1 m' c)⟩) (Reference.run m' g')⟩

end Cert.Proof
-- ==== Proof.lean ====
/- The proof of the certificate: the frames of the kernel, of its idealization and of the reference; that no operation
   was rewritten between the two kernels; and that the idealized kernel and the reference end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Reference.Frame
public import proofs.«01_k».proof.Proof.Algebraic
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.Proof.Reference.frame m ρ, trivial, algebraic⟩

end Cert.Proof

end
